-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 32768, 8, 128]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 32768, 8, 128]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S1x1024x8x128 : S_.BroadcastsInDim S1x1024x8x128 (![] : Fin 0 → Fin S1x1024x8x128.rank)

variable [Facts]

def fn {F : FTy → Type} [FloatOps F] (main_arg0 : FVec F S1x1024x1024 .f32) (main_arg1 : FVec F S1024x1024 .f32) (main_arg2 : FVec F S1x1024x8x128 .f32) (main_arg3 : FVec F S1x1024x8x128 .f32) (main_arg4 : FVec F S1024x1024 .f32) : IVec S1x1024x1024 1 × IVec S1024x1024 1 × IVec S1x1024x8x128 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x1024x8x128 .f32 := Host.absf main_arg2
  let main_cst_1 : FVec F S_ .f32 := constant S_ .f32 0x7F800000#32
  let main_v7 : FVec F S1x1024x8x128 .f32 := broadcastInDim S1x1024x8x128 ![] bcast_S_S1x1024x8x128 main_cst_1
  let main_v8 : IVec S1x1024x8x128 1 := cmpf .olt main_v6 main_v7
  (main_v2, main_v5, main_v8)
-- ==== Pre_finite_scores_ReferenceIdeal.lean ====
abbrev S1x1024x1024 : Shape := ⟨3, ![1, 1024, 1024]⟩
abbrev S1024x1024 : Shape := ⟨2, ![1024, 1024]⟩
abbrev S1x32768x8x128 : Shape := ⟨4, ![1, 32768, 8, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S1x32768x8x128 : S_.BroadcastsInDim S1x32768x8x128 (![] : Fin 0 → Fin S1x32768x8x128.rank)

variable [Facts]

def fn {F : FTy → Type} [FloatOps F] (main_arg0 : FVec F S1x1024x1024 .f32) (main_arg1 : FVec F S1024x1024 .f32) (main_arg2 : FVec F S1x32768x8x128 .f32) (main_arg3 : FVec F S1x32768x8x128 .f32) (main_arg4 : FVec F S1024x1024 .f32) : IVec S1x1024x1024 1 × IVec S1024x1024 1 × IVec S1x32768x8x128 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x32768x8x128 .f32 := Host.absf main_arg2
  let main_cst_1 : FVec F S_ .f32 := constant S_ .f32 0x7F800000#32
  let main_v7 : FVec F S1x32768x8x128 .f32 := broadcastInDim S1x32768x8x128 ![] bcast_S_S1x32768x8x128 main_cst_1
  let main_v8 : IVec S1x32768x8x128 1 := cmpf .olt main_v6 main_v7
  (main_v2, main_v5, main_v8)
-- ==== Kernel.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S1024x16 : Shape := ⟨2, ![1024, 16]⟩
abbrev S32x32x1024 : Shape := ⟨3, ![32, 32, 1024]⟩
abbrev S32x32x16 : Shape := ⟨3, ![32, 32, 16]⟩
abbrev S32 : Shape := ⟨1, ![32]⟩
abbrev S_ : Shape := ⟨0, ![]⟩
abbrev S1024x8x128 : Shape := ⟨3, ![1024, 8, 128]⟩
abbrev S64x1024 : Shape := ⟨2, ![64, 1024]⟩
abbrev S256x1024 : Shape := ⟨2, ![256, 1024]⟩
abbrev S64x8x128 : Shape := ⟨3, ![64, 8, 128]⟩
abbrev S256x8x128 : Shape := ⟨3, ![256, 8, 128]⟩
abbrev S256x128 : Shape := ⟨2, ![256, 128]⟩
abbrev S256x1x128 : Shape := ⟨3, ![256, 1, 128]⟩
abbrev S256x256 : Shape := ⟨2, ![256, 256]⟩
abbrev S256 : Shape := ⟨1, ![256]⟩
abbrev S256x1 : Shape := ⟨2, ![256, 1]⟩
abbrev S64x128 : Shape := ⟨2, ![64, 128]⟩
abbrev S256x8 : Shape := ⟨2, ![256, 8]⟩
abbrev S64x8 : Shape := ⟨2, ![64, 8]⟩
abbrev S1 : Shape := ⟨1, ![1]⟩
abbrev S1x32x1024 : Shape := ⟨3, ![1, 32, 1024]⟩
abbrev S32x1024 : Shape := ⟨2, ![32, 1024]⟩
abbrev S1x32x16 : Shape := ⟨3, ![1, 32, 16]⟩
abbrev S32x16 : Shape := ⟨2, ![32, 16]⟩
abbrev S32x32x8 : Shape := ⟨3, ![32, 32, 8]⟩
abbrev S32x8 : Shape := ⟨2, ![32, 8]⟩
abbrev S1x32x8 : Shape := ⟨3, ![1, 32, 8]⟩
abbrev S32x32x8x1 : Shape := ⟨4, ![32, 32, 8, 1]⟩
abbrev S32x32x8x128 : Shape := ⟨4, ![32, 32, 8, 128]⟩
abbrev S32x8x1 : Shape := ⟨3, ![32, 8, 1]⟩
abbrev S32x8x128 : Shape := ⟨3, ![32, 8, 128]⟩

abbrev nBuf : Space → Nat
  | .hbm => 6
  | .vmem => 11
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x8x128, .f32⟩
  | .hbm, ⟨3, _⟩ => ⟨S1x1024x8x128, .f32⟩
  | .hbm, ⟨4, _⟩ => ⟨S1024x1024, .f32⟩
  | .hbm, ⟨5, _⟩ => ⟨S1x1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1x1024x8x128, .f32⟩
  | .local _ .vmem, ⟨3, _⟩ => ⟨S1x1024x8x128, .f32⟩
  | .local _ .vmem, ⟨4, _⟩ => ⟨S1024x1024, .f32⟩
  | .local _ .vmem, ⟨5, _⟩ => ⟨S1x1024x1024, .f32⟩
  | .local _ .vmem, ⟨6, _⟩ => ⟨S1024x1024, .bf16⟩
  | .local _ .vmem, ⟨7, _⟩ => ⟨S1024x16, .f32⟩
  | .local _ .vmem, ⟨8, _⟩ => ⟨S32x32x1024, .bf16⟩
  | .local _ .vmem, ⟨9, _⟩ => ⟨S32x32x16, .f32⟩
  | .local _ .vmem, ⟨10, _⟩ => ⟨S1024x1024, .bf16⟩
  | _, _ => ⟨S1x1024x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 198 → Bool
  | ⟨i, _⟩ => dmaSemScopedAt i

abbrev sig : RefSig :=
  (ofTc nBuf bufTy 1 198 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 : Nat :=
  let c0_i32_2 : BitVec 32 := 0#32
  let c0_i32 : BitVec 32 := 0#32
  let c1_i32_1 : BitVec 32 := 1#32
  let v4 : BitVec 32 := Scalar.muli c0_i32 c1_i32_1
  let v5 : BitVec 32 := Scalar.addi c0_i32_2 v4
  v5.toNat
def k0_dev2 : Nat :=
  let c0_i32_6 : BitVec 32 := 0#32
  let c1_i32_4 : BitVec 32 := 1#32
  let c1_i32_5 : BitVec 32 := 1#32
  let v6 : BitVec 32 := Scalar.muli c1_i32_4 c1_i32_5
  let v7 : BitVec 32 := Scalar.addi c0_i32_6 v6
  v7.toNat
def k0_dev3 : Nat :=
  let c0_i32_9 : BitVec 32 := 0#32
  let c2_i32 : BitVec 32 := 2#32
  let c1_i32_8 : BitVec 32 := 1#32
  let v8 : BitVec 32 := Scalar.muli c2_i32 c1_i32_8
  let v9 : BitVec 32 := Scalar.addi c0_i32_9 v8
  v9.toNat
def k0_dev4 : Nat :=
  let c0_i32_12 : BitVec 32 := 0#32
  let c3_i32 : BitVec 32 := 3#32
  let c1_i32_11 : BitVec 32 := 1#32
  let v10 : BitVec 32 := Scalar.muli c3_i32 c1_i32_11
  let v11 : BitVec 32 := Scalar.addi c0_i32_12 v10
  v11.toNat
def k0_dev5 : Nat :=
  let c0_i32_15 : BitVec 32 := 0#32
  let c4_i32 : BitVec 32 := 4#32
  let c1_i32_14 : BitVec 32 := 1#32
  let v12 : BitVec 32 := Scalar.muli c4_i32 c1_i32_14
  let v13 : BitVec 32 := Scalar.addi c0_i32_15 v12
  v13.toNat
def k0_dev6 : Nat :=
  let c0_i32_18 : BitVec 32 := 0#32
  let c5_i32 : BitVec 32 := 5#32
  let c1_i32_17 : BitVec 32 := 1#32
  let v14 : BitVec 32 := Scalar.muli c5_i32 c1_i32_17
  let v15 : BitVec 32 := Scalar.addi c0_i32_18 v14
  v15.toNat
def k0_dev7 : Nat :=
  let c0_i32_21 : BitVec 32 := 0#32
  let c6_i32 : BitVec 32 := 6#32
  let c1_i32_20 : BitVec 32 := 1#32
  let v16 : BitVec 32 := Scalar.muli c6_i32 c1_i32_20
  let v17 : BitVec 32 := Scalar.addi c0_i32_21 v16
  v17.toNat
def k0_dev8 : Nat :=
  let c0_i32_24 : BitVec 32 := 0#32
  let c7_i32 : BitVec 32 := 7#32
  let c1_i32_23 : BitVec 32 := 1#32
  let v18 : BitVec 32 := Scalar.muli c7_i32 c1_i32_23
  let v19 : BitVec 32 := Scalar.addi c0_i32_24 v18
  v19.toNat
def k0_dev9 : Nat :=
  let c0_i32_27 : BitVec 32 := 0#32
  let c8_i32 : BitVec 32 := 8#32
  let c1_i32_26 : BitVec 32 := 1#32
  let v20 : BitVec 32 := Scalar.muli c8_i32 c1_i32_26
  let v21 : BitVec 32 := Scalar.addi c0_i32_27 v20
  v21.toNat
def k0_dev10 : Nat :=
  let c0_i32_30 : BitVec 32 := 0#32
  let c9_i32 : BitVec 32 := 9#32
  let c1_i32_29 : BitVec 32 := 1#32
  let v22 : BitVec 32 := Scalar.muli c9_i32 c1_i32_29
  let v23 : BitVec 32 := Scalar.addi c0_i32_30 v22
  v23.toNat
def k0_dev11 : Nat :=
  let c0_i32_33 : BitVec 32 := 0#32
  let c10_i32 : BitVec 32 := 10#32
  let c1_i32_32 : BitVec 32 := 1#32
  let v24 : BitVec 32 := Scalar.muli c10_i32 c1_i32_32
  let v25 : BitVec 32 := Scalar.addi c0_i32_33 v24
  v25.toNat
def k0_dev12 : Nat :=
  let c0_i32_36 : BitVec 32 := 0#32
  let c11_i32 : BitVec 32 := 11#32
  let c1_i32_35 : BitVec 32 := 1#32
  let v26 : BitVec 32 := Scalar.muli c11_i32 c1_i32_35
  let v27 : BitVec 32 := Scalar.addi c0_i32_36 v26
  v27.toNat
def k0_dev13 : Nat :=
  let c0_i32_39 : BitVec 32 := 0#32
  let c12_i32 : BitVec 32 := 12#32
  let c1_i32_38 : BitVec 32 := 1#32
  let v28 : BitVec 32 := Scalar.muli c12_i32 c1_i32_38
  let v29 : BitVec 32 := Scalar.addi c0_i32_39 v28
  v29.toNat
def k0_dev14 : Nat :=
  let c0_i32_42 : BitVec 32 := 0#32
  let c13_i32 : BitVec 32 := 13#32
  let c1_i32_41 : BitVec 32 := 1#32
  let v30 : BitVec 32 := Scalar.muli c13_i32 c1_i32_41
  let v31 : BitVec 32 := Scalar.addi c0_i32_42 v30
  v31.toNat
def k0_dev15 : Nat :=
  let c0_i32_45 : BitVec 32 := 0#32
  let c14_i32 : BitVec 32 := 14#32
  let c1_i32_44 : BitVec 32 := 1#32
  let v32 : BitVec 32 := Scalar.muli c14_i32 c1_i32_44
  let v33 : BitVec 32 := Scalar.addi c0_i32_45 v32
  v33.toNat
def k0_dev16 : Nat :=
  let c0_i32_48 : BitVec 32 := 0#32
  let c15_i32 : BitVec 32 := 15#32
  let c1_i32_47 : BitVec 32 := 1#32
  let v34 : BitVec 32 := Scalar.muli c15_i32 c1_i32_47
  let v35 : BitVec 32 := Scalar.addi c0_i32_48 v34
  v35.toNat
def k0_dev17 : Nat :=
  let c0_i32_51 : BitVec 32 := 0#32
  let c16_i32 : BitVec 32 := 16#32
  let c1_i32_50 : BitVec 32 := 1#32
  let v36 : BitVec 32 := Scalar.muli c16_i32 c1_i32_50
  let v37 : BitVec 32 := Scalar.addi c0_i32_51 v36
  v37.toNat
def k0_dev18 : Nat :=
  let c0_i32_54 : BitVec 32 := 0#32
  let c17_i32 : BitVec 32 := 17#32
  let c1_i32_53 : BitVec 32 := 1#32
  let v38 : BitVec 32 := Scalar.muli c17_i32 c1_i32_53
  let v39 : BitVec 32 := Scalar.addi c0_i32_54 v38
  v39.toNat
def k0_dev19 : Nat :=
  let c0_i32_57 : BitVec 32 := 0#32
  let c18_i32 : BitVec 32 := 18#32
  let c1_i32_56 : BitVec 32 := 1#32
  let v40 : BitVec 32 := Scalar.muli c18_i32 c1_i32_56
  let v41 : BitVec 32 := Scalar.addi c0_i32_57 v40
  v41.toNat
def k0_dev20 : Nat :=
  let c0_i32_60 : BitVec 32 := 0#32
  let c19_i32 : BitVec 32 := 19#32
  let c1_i32_59 : BitVec 32 := 1#32
  let v42 : BitVec 32 := Scalar.muli c19_i32 c1_i32_59
  let v43 : BitVec 32 := Scalar.addi c0_i32_60 v42
  v43.toNat
def k0_dev21 : Nat :=
  let c0_i32_63 : BitVec 32 := 0#32
  let c20_i32 : BitVec 32 := 20#32
  let c1_i32_62 : BitVec 32 := 1#32
  let v44 : BitVec 32 := Scalar.muli c20_i32 c1_i32_62
  let v45 : BitVec 32 := Scalar.addi c0_i32_63 v44
  v45.toNat
def k0_dev22 : Nat :=
  let c0_i32_66 : BitVec 32 := 0#32
  let c21_i32 : BitVec 32 := 21#32
  let c1_i32_65 : BitVec 32 := 1#32
  let v46 : BitVec 32 := Scalar.muli c21_i32 c1_i32_65
  let v47 : BitVec 32 := Scalar.addi c0_i32_66 v46
  v47.toNat
def k0_dev23 : Nat :=
  let c0_i32_69 : BitVec 32 := 0#32
  let c22_i32 : BitVec 32 := 22#32
  let c1_i32_68 : BitVec 32 := 1#32
  let v48 : BitVec 32 := Scalar.muli c22_i32 c1_i32_68
  let v49 : BitVec 32 := Scalar.addi c0_i32_69 v48
  v49.toNat
def k0_dev24 : Nat :=
  let c0_i32_72 : BitVec 32 := 0#32
  let c23_i32 : BitVec 32 := 23#32
  let c1_i32_71 : BitVec 32 := 1#32
  let v50 : BitVec 32 := Scalar.muli c23_i32 c1_i32_71
  let v51 : BitVec 32 := Scalar.addi c0_i32_72 v50
  v51.toNat
def k0_dev25 : Nat :=
  let c0_i32_75 : BitVec 32 := 0#32
  let c24_i32 : BitVec 32 := 24#32
  let c1_i32_74 : BitVec 32 := 1#32
  let v52 : BitVec 32 := Scalar.muli c24_i32 c1_i32_74
  let v53 : BitVec 32 := Scalar.addi c0_i32_75 v52
  v53.toNat
def k0_dev26 : Nat :=
  let c0_i32_78 : BitVec 32 := 0#32
  let c25_i32 : BitVec 32 := 25#32
  let c1_i32_77 : BitVec 32 := 1#32
  let v54 : BitVec 32 := Scalar.muli c25_i32 c1_i32_77
  let v55 : BitVec 32 := Scalar.addi c0_i32_78 v54
  v55.toNat
def k0_dev27 : Nat :=
  let c0_i32_81 : BitVec 32 := 0#32
  let c26_i32 : BitVec 32 := 26#32
  let c1_i32_80 : BitVec 32 := 1#32
  let v56 : BitVec 32 := Scalar.muli c26_i32 c1_i32_80
  let v57 : BitVec 32 := Scalar.addi c0_i32_81 v56
  v57.toNat
def k0_dev28 : Nat :=
  let c0_i32_84 : BitVec 32 := 0#32
  let c27_i32 : BitVec 32 := 27#32
  let c1_i32_83 : BitVec 32 := 1#32
  let v58 : BitVec 32 := Scalar.muli c27_i32 c1_i32_83
  let v59 : BitVec 32 := Scalar.addi c0_i32_84 v58
  v59.toNat
def k0_dev29 : Nat :=
  let c0_i32_87 : BitVec 32 := 0#32
  let c28_i32 : BitVec 32 := 28#32
  let c1_i32_86 : BitVec 32 := 1#32
  let v60 : BitVec 32 := Scalar.muli c28_i32 c1_i32_86
  let v61 : BitVec 32 := Scalar.addi c0_i32_87 v60
  v61.toNat
def k0_dev30 : Nat :=
  let c0_i32_90 : BitVec 32 := 0#32
  let c29_i32 : BitVec 32 := 29#32
  let c1_i32_89 : BitVec 32 := 1#32
  let v62 : BitVec 32 := Scalar.muli c29_i32 c1_i32_89
  let v63 : BitVec 32 := Scalar.addi c0_i32_90 v62
  v63.toNat
def k0_dev31 : Nat :=
  let c0_i32_93 : BitVec 32 := 0#32
  let c30_i32 : BitVec 32 := 30#32
  let c1_i32_92 : BitVec 32 := 1#32
  let v64 : BitVec 32 := Scalar.muli c30_i32 c1_i32_92
  let v65 : BitVec 32 := Scalar.addi c0_i32_93 v64
  v65.toNat
def k0_dev32 : Nat :=
  let c0_i32_96 : BitVec 32 := 0#32
  let c31_i32 : BitVec 32 := 31#32
  let c1_i32_95 : BitVec 32 := 1#32
  let v66 : BitVec 32 := Scalar.muli c31_i32 c1_i32_95
  let v67 : BitVec 32 := Scalar.addi c0_i32_96 v66
  v67.toNat
def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_226 : BitVec 32 := 0#32
  let c0_i32_227 : BitVec 32 := 0#32
  ![v2.toNat, 0, 0]
def k0_dev33 : Nat :=
  let c0_i32_225 : BitVec 32 := 0#32
  let c0_i32_223 : BitVec 32 := 0#32
  let c1_i32_224 : BitVec 32 := 1#32
  let v422 : BitVec 32 := Scalar.muli c0_i32_223 c1_i32_224
  let v423 : BitVec 32 := Scalar.addi c0_i32_225 v422
  v423.toNat
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_234 : BitVec 32 := 0#32
  let c0_i32_235 : BitVec 32 := 0#32
  ![v2.toNat, 0, 0]
def k0_dev34 : Nat :=
  let c0_i32_233 : BitVec 32 := 0#32
  let c0_i32_231 : BitVec 32 := 0#32
  let c1_i32_232 : BitVec 32 := 1#32
  let v431 : BitVec 32 := Scalar.muli c0_i32_231 c1_i32_232
  let v432 : BitVec 32 := Scalar.addi c0_i32_233 v431
  v432.toNat
def k0_dev35 : Nat :=
  let c0_i32_241 : BitVec 32 := 0#32
  let c1_i32_239 : BitVec 32 := 1#32
  let c1_i32_240 : BitVec 32 := 1#32
  let v440 : BitVec 32 := Scalar.muli c1_i32_239 c1_i32_240
  let v441 : BitVec 32 := Scalar.addi c0_i32_241 v440
  v441.toNat
def k0_dev36 : Nat :=
  let c0_i32_249 : BitVec 32 := 0#32
  let c1_i32_247 : BitVec 32 := 1#32
  let c1_i32_248 : BitVec 32 := 1#32
  let v449 : BitVec 32 := Scalar.muli c1_i32_247 c1_i32_248
  let v450 : BitVec 32 := Scalar.addi c0_i32_249 v449
  v450.toNat
def k0_dev37 : Nat :=
  let c0_i32_257 : BitVec 32 := 0#32
  let c8_i32_255 : BitVec 32 := 8#32
  let c1_i32_256 : BitVec 32 := 1#32
  let v458 : BitVec 32 := Scalar.muli c8_i32_255 c1_i32_256
  let v459 : BitVec 32 := Scalar.addi c0_i32_257 v458
  v459.toNat
def k0_dev38 : Nat :=
  let c0_i32_264 : BitVec 32 := 0#32
  let c8_i32_262 : BitVec 32 := 8#32
  let c1_i32_263 : BitVec 32 := 1#32
  let v467 : BitVec 32 := Scalar.muli c8_i32_262 c1_i32_263
  let v468 : BitVec 32 := Scalar.addi c0_i32_264 v467
  v468.toNat
def k0_dev39 : Nat :=
  let c0_i32_272 : BitVec 32 := 0#32
  let c9_i32_270 : BitVec 32 := 9#32
  let c1_i32_271 : BitVec 32 := 1#32
  let v476 : BitVec 32 := Scalar.muli c9_i32_270 c1_i32_271
  let v477 : BitVec 32 := Scalar.addi c0_i32_272 v476
  v477.toNat
def k0_dev40 : Nat :=
  let c0_i32_279 : BitVec 32 := 0#32
  let c9_i32_277 : BitVec 32 := 9#32
  let c1_i32_278 : BitVec 32 := 1#32
  let v485 : BitVec 32 := Scalar.muli c9_i32_277 c1_i32_278
  let v486 : BitVec 32 := Scalar.addi c0_i32_279 v485
  v486.toNat
def k0_dev41 : Nat :=
  let c0_i32_287 : BitVec 32 := 0#32
  let c16_i32_285 : BitVec 32 := 16#32
  let c1_i32_286 : BitVec 32 := 1#32
  let v494 : BitVec 32 := Scalar.muli c16_i32_285 c1_i32_286
  let v495 : BitVec 32 := Scalar.addi c0_i32_287 v494
  v495.toNat
def k0_dev42 : Nat :=
  let c0_i32_294 : BitVec 32 := 0#32
  let c16_i32_292 : BitVec 32 := 16#32
  let c1_i32_293 : BitVec 32 := 1#32
  let v503 : BitVec 32 := Scalar.muli c16_i32_292 c1_i32_293
  let v504 : BitVec 32 := Scalar.addi c0_i32_294 v503
  v504.toNat
def k0_dev43 : Nat :=
  let c0_i32_302 : BitVec 32 := 0#32
  let c17_i32_300 : BitVec 32 := 17#32
  let c1_i32_301 : BitVec 32 := 1#32
  let v512 : BitVec 32 := Scalar.muli c17_i32_300 c1_i32_301
  let v513 : BitVec 32 := Scalar.addi c0_i32_302 v512
  v513.toNat
def k0_dev44 : Nat :=
  let c0_i32_309 : BitVec 32 := 0#32
  let c17_i32_307 : BitVec 32 := 17#32
  let c1_i32_308 : BitVec 32 := 1#32
  let v521 : BitVec 32 := Scalar.muli c17_i32_307 c1_i32_308
  let v522 : BitVec 32 := Scalar.addi c0_i32_309 v521
  v522.toNat
def k0_dev45 : Nat :=
  let c0_i32_317 : BitVec 32 := 0#32
  let c24_i32_315 : BitVec 32 := 24#32
  let c1_i32_316 : BitVec 32 := 1#32
  let v530 : BitVec 32 := Scalar.muli c24_i32_315 c1_i32_316
  let v531 : BitVec 32 := Scalar.addi c0_i32_317 v530
  v531.toNat
def k0_dev46 : Nat :=
  let c0_i32_324 : BitVec 32 := 0#32
  let c24_i32_322 : BitVec 32 := 24#32
  let c1_i32_323 : BitVec 32 := 1#32
  let v539 : BitVec 32 := Scalar.muli c24_i32_322 c1_i32_323
  let v540 : BitVec 32 := Scalar.addi c0_i32_324 v539
  v540.toNat
def k0_dev47 : Nat :=
  let c0_i32_332 : BitVec 32 := 0#32
  let c25_i32_330 : BitVec 32 := 25#32
  let c1_i32_331 : BitVec 32 := 1#32
  let v548 : BitVec 32 := Scalar.muli c25_i32_330 c1_i32_331
  let v549 : BitVec 32 := Scalar.addi c0_i32_332 v548
  v549.toNat
def k0_dev48 : Nat :=
  let c0_i32_339 : BitVec 32 := 0#32
  let c25_i32_337 : BitVec 32 := 25#32
  let c1_i32_338 : BitVec 32 := 1#32
  let v557 : BitVec 32 := Scalar.muli c25_i32_337 c1_i32_338
  let v558 : BitVec 32 := Scalar.addi c0_i32_339 v557
  v558.toNat
def k0_dev49 : Nat :=
  let c0_i32_463 : BitVec 32 := 0#32
  let c2_i32_461 : BitVec 32 := 2#32
  let c1_i32_462 : BitVec 32 := 1#32
  let v911 : BitVec 32 := Scalar.muli c2_i32_461 c1_i32_462
  let v912 : BitVec 32 := Scalar.addi c0_i32_463 v911
  v912.toNat
def k0_dev50 : Nat :=
  let c0_i32_470 : BitVec 32 := 0#32
  let c2_i32_468 : BitVec 32 := 2#32
  let c1_i32_469 : BitVec 32 := 1#32
  let v920 : BitVec 32 := Scalar.muli c2_i32_468 c1_i32_469
  let v921 : BitVec 32 := Scalar.addi c0_i32_470 v920
  v921.toNat
def k0_dev51 : Nat :=
  let c0_i32_478 : BitVec 32 := 0#32
  let c3_i32_476 : BitVec 32 := 3#32
  let c1_i32_477 : BitVec 32 := 1#32
  let v929 : BitVec 32 := Scalar.muli c3_i32_476 c1_i32_477
  let v930 : BitVec 32 := Scalar.addi c0_i32_478 v929
  v930.toNat
def k0_dev52 : Nat :=
  let c0_i32_485 : BitVec 32 := 0#32
  let c3_i32_483 : BitVec 32 := 3#32
  let c1_i32_484 : BitVec 32 := 1#32
  let v938 : BitVec 32 := Scalar.muli c3_i32_483 c1_i32_484
  let v939 : BitVec 32 := Scalar.addi c0_i32_485 v938
  v939.toNat
def k0_dev53 : Nat :=
  let c0_i32_493 : BitVec 32 := 0#32
  let c10_i32_491 : BitVec 32 := 10#32
  let c1_i32_492 : BitVec 32 := 1#32
  let v947 : BitVec 32 := Scalar.muli c10_i32_491 c1_i32_492
  let v948 : BitVec 32 := Scalar.addi c0_i32_493 v947
  v948.toNat
def k0_dev54 : Nat :=
  let c0_i32_500 : BitVec 32 := 0#32
  let c10_i32_498 : BitVec 32 := 10#32
  let c1_i32_499 : BitVec 32 := 1#32
  let v956 : BitVec 32 := Scalar.muli c10_i32_498 c1_i32_499
  let v957 : BitVec 32 := Scalar.addi c0_i32_500 v956
  v957.toNat
def k0_dev55 : Nat :=
  let c0_i32_508 : BitVec 32 := 0#32
  let c11_i32_506 : BitVec 32 := 11#32
  let c1_i32_507 : BitVec 32 := 1#32
  let v965 : BitVec 32 := Scalar.muli c11_i32_506 c1_i32_507
  let v966 : BitVec 32 := Scalar.addi c0_i32_508 v965
  v966.toNat
def k0_dev56 : Nat :=
  let c0_i32_515 : BitVec 32 := 0#32
  let c11_i32_513 : BitVec 32 := 11#32
  let c1_i32_514 : BitVec 32 := 1#32
  let v974 : BitVec 32 := Scalar.muli c11_i32_513 c1_i32_514
  let v975 : BitVec 32 := Scalar.addi c0_i32_515 v974
  v975.toNat
def k0_dev57 : Nat :=
  let c0_i32_523 : BitVec 32 := 0#32
  let c18_i32_521 : BitVec 32 := 18#32
  let c1_i32_522 : BitVec 32 := 1#32
  let v983 : BitVec 32 := Scalar.muli c18_i32_521 c1_i32_522
  let v984 : BitVec 32 := Scalar.addi c0_i32_523 v983
  v984.toNat
def k0_dev58 : Nat :=
  let c0_i32_530 : BitVec 32 := 0#32
  let c18_i32_528 : BitVec 32 := 18#32
  let c1_i32_529 : BitVec 32 := 1#32
  let v992 : BitVec 32 := Scalar.muli c18_i32_528 c1_i32_529
  let v993 : BitVec 32 := Scalar.addi c0_i32_530 v992
  v993.toNat
def k0_dev59 : Nat :=
  let c0_i32_538 : BitVec 32 := 0#32
  let c19_i32_536 : BitVec 32 := 19#32
  let c1_i32_537 : BitVec 32 := 1#32
  let v1001 : BitVec 32 := Scalar.muli c19_i32_536 c1_i32_537
  let v1002 : BitVec 32 := Scalar.addi c0_i32_538 v1001
  v1002.toNat
def k0_dev60 : Nat :=
  let c0_i32_545 : BitVec 32 := 0#32
  let c19_i32_543 : BitVec 32 := 19#32
  let c1_i32_544 : BitVec 32 := 1#32
  let v1010 : BitVec 32 := Scalar.muli c19_i32_543 c1_i32_544
  let v1011 : BitVec 32 := Scalar.addi c0_i32_545 v1010
  v1011.toNat
def k0_dev61 : Nat :=
  let c0_i32_553 : BitVec 32 := 0#32
  let c26_i32_551 : BitVec 32 := 26#32
  let c1_i32_552 : BitVec 32 := 1#32
  let v1019 : BitVec 32 := Scalar.muli c26_i32_551 c1_i32_552
  let v1020 : BitVec 32 := Scalar.addi c0_i32_553 v1019
  v1020.toNat
def k0_dev62 : Nat :=
  let c0_i32_560 : BitVec 32 := 0#32
  let c26_i32_558 : BitVec 32 := 26#32
  let c1_i32_559 : BitVec 32 := 1#32
  let v1028 : BitVec 32 := Scalar.muli c26_i32_558 c1_i32_559
  let v1029 : BitVec 32 := Scalar.addi c0_i32_560 v1028
  v1029.toNat
def k0_dev63 : Nat :=
  let c0_i32_568 : BitVec 32 := 0#32
  let c27_i32_566 : BitVec 32 := 27#32
  let c1_i32_567 : BitVec 32 := 1#32
  let v1037 : BitVec 32 := Scalar.muli c27_i32_566 c1_i32_567
  let v1038 : BitVec 32 := Scalar.addi c0_i32_568 v1037
  v1038.toNat
def k0_dev64 : Nat :=
  let c0_i32_575 : BitVec 32 := 0#32
  let c27_i32_573 : BitVec 32 := 27#32
  let c1_i32_574 : BitVec 32 := 1#32
  let v1046 : BitVec 32 := Scalar.muli c27_i32_573 c1_i32_574
  let v1047 : BitVec 32 := Scalar.addi c0_i32_575 v1046
  v1047.toNat
def k0_dev65 : Nat :=
  let c0_i32_703 : BitVec 32 := 0#32
  let c4_i32_701 : BitVec 32 := 4#32
  let c1_i32_702 : BitVec 32 := 1#32
  let v1400 : BitVec 32 := Scalar.muli c4_i32_701 c1_i32_702
  let v1401 : BitVec 32 := Scalar.addi c0_i32_703 v1400
  v1401.toNat
def k0_dev66 : Nat :=
  let c0_i32_710 : BitVec 32 := 0#32
  let c4_i32_708 : BitVec 32 := 4#32
  let c1_i32_709 : BitVec 32 := 1#32
  let v1409 : BitVec 32 := Scalar.muli c4_i32_708 c1_i32_709
  let v1410 : BitVec 32 := Scalar.addi c0_i32_710 v1409
  v1410.toNat
def k0_dev67 : Nat :=
  let c0_i32_718 : BitVec 32 := 0#32
  let c5_i32_716 : BitVec 32 := 5#32
  let c1_i32_717 : BitVec 32 := 1#32
  let v1418 : BitVec 32 := Scalar.muli c5_i32_716 c1_i32_717
  let v1419 : BitVec 32 := Scalar.addi c0_i32_718 v1418
  v1419.toNat
def k0_dev68 : Nat :=
  let c0_i32_725 : BitVec 32 := 0#32
  let c5_i32_723 : BitVec 32 := 5#32
  let c1_i32_724 : BitVec 32 := 1#32
  let v1427 : BitVec 32 := Scalar.muli c5_i32_723 c1_i32_724
  let v1428 : BitVec 32 := Scalar.addi c0_i32_725 v1427
  v1428.toNat
def k0_dev69 : Nat :=
  let c0_i32_733 : BitVec 32 := 0#32
  let c12_i32_731 : BitVec 32 := 12#32
  let c1_i32_732 : BitVec 32 := 1#32
  let v1436 : BitVec 32 := Scalar.muli c12_i32_731 c1_i32_732
  let v1437 : BitVec 32 := Scalar.addi c0_i32_733 v1436
  v1437.toNat
def k0_dev70 : Nat :=
  let c0_i32_740 : BitVec 32 := 0#32
  let c12_i32_738 : BitVec 32 := 12#32
  let c1_i32_739 : BitVec 32 := 1#32
  let v1445 : BitVec 32 := Scalar.muli c12_i32_738 c1_i32_739
  let v1446 : BitVec 32 := Scalar.addi c0_i32_740 v1445
  v1446.toNat
def k0_dev71 : Nat :=
  let c0_i32_748 : BitVec 32 := 0#32
  let c13_i32_746 : BitVec 32 := 13#32
  let c1_i32_747 : BitVec 32 := 1#32
  let v1454 : BitVec 32 := Scalar.muli c13_i32_746 c1_i32_747
  let v1455 : BitVec 32 := Scalar.addi c0_i32_748 v1454
  v1455.toNat
def k0_dev72 : Nat :=
  let c0_i32_755 : BitVec 32 := 0#32
  let c13_i32_753 : BitVec 32 := 13#32
  let c1_i32_754 : BitVec 32 := 1#32
  let v1463 : BitVec 32 := Scalar.muli c13_i32_753 c1_i32_754
  let v1464 : BitVec 32 := Scalar.addi c0_i32_755 v1463
  v1464.toNat
def k0_dev73 : Nat :=
  let c0_i32_763 : BitVec 32 := 0#32
  let c20_i32_761 : BitVec 32 := 20#32
  let c1_i32_762 : BitVec 32 := 1#32
  let v1472 : BitVec 32 := Scalar.muli c20_i32_761 c1_i32_762
  let v1473 : BitVec 32 := Scalar.addi c0_i32_763 v1472
  v1473.toNat
def k0_dev74 : Nat :=
  let c0_i32_770 : BitVec 32 := 0#32
  let c20_i32_768 : BitVec 32 := 20#32
  let c1_i32_769 : BitVec 32 := 1#32
  let v1481 : BitVec 32 := Scalar.muli c20_i32_768 c1_i32_769
  let v1482 : BitVec 32 := Scalar.addi c0_i32_770 v1481
  v1482.toNat
def k0_dev75 : Nat :=
  let c0_i32_778 : BitVec 32 := 0#32
  let c21_i32_776 : BitVec 32 := 21#32
  let c1_i32_777 : BitVec 32 := 1#32
  let v1490 : BitVec 32 := Scalar.muli c21_i32_776 c1_i32_777
  let v1491 : BitVec 32 := Scalar.addi c0_i32_778 v1490
  v1491.toNat
def k0_dev76 : Nat :=
  let c0_i32_785 : BitVec 32 := 0#32
  let c21_i32_783 : BitVec 32 := 21#32
  let c1_i32_784 : BitVec 32 := 1#32
  let v1499 : BitVec 32 := Scalar.muli c21_i32_783 c1_i32_784
  let v1500 : BitVec 32 := Scalar.addi c0_i32_785 v1499
  v1500.toNat
def k0_dev77 : Nat :=
  let c0_i32_793 : BitVec 32 := 0#32
  let c28_i32_791 : BitVec 32 := 28#32
  let c1_i32_792 : BitVec 32 := 1#32
  let v1508 : BitVec 32 := Scalar.muli c28_i32_791 c1_i32_792
  let v1509 : BitVec 32 := Scalar.addi c0_i32_793 v1508
  v1509.toNat
def k0_dev78 : Nat :=
  let c0_i32_800 : BitVec 32 := 0#32
  let c28_i32_798 : BitVec 32 := 28#32
  let c1_i32_799 : BitVec 32 := 1#32
  let v1517 : BitVec 32 := Scalar.muli c28_i32_798 c1_i32_799
  let v1518 : BitVec 32 := Scalar.addi c0_i32_800 v1517
  v1518.toNat
def k0_dev79 : Nat :=
  let c0_i32_808 : BitVec 32 := 0#32
  let c29_i32_806 : BitVec 32 := 29#32
  let c1_i32_807 : BitVec 32 := 1#32
  let v1526 : BitVec 32 := Scalar.muli c29_i32_806 c1_i32_807
  let v1527 : BitVec 32 := Scalar.addi c0_i32_808 v1526
  v1527.toNat
def k0_dev80 : Nat :=
  let c0_i32_815 : BitVec 32 := 0#32
  let c29_i32_813 : BitVec 32 := 29#32
  let c1_i32_814 : BitVec 32 := 1#32
  let v1535 : BitVec 32 := Scalar.muli c29_i32_813 c1_i32_814
  let v1536 : BitVec 32 := Scalar.addi c0_i32_815 v1535
  v1536.toNat
def k0_dev81 : Nat :=
  let c0_i32_939 : BitVec 32 := 0#32
  let c6_i32_937 : BitVec 32 := 6#32
  let c1_i32_938 : BitVec 32 := 1#32
  let v1889 : BitVec 32 := Scalar.muli c6_i32_937 c1_i32_938
  let v1890 : BitVec 32 := Scalar.addi c0_i32_939 v1889
  v1890.toNat
def k0_dev82 : Nat :=
  let c0_i32_946 : BitVec 32 := 0#32
  let c6_i32_944 : BitVec 32 := 6#32
  let c1_i32_945 : BitVec 32 := 1#32
  let v1898 : BitVec 32 := Scalar.muli c6_i32_944 c1_i32_945
  let v1899 : BitVec 32 := Scalar.addi c0_i32_946 v1898
  v1899.toNat
def k0_dev83 : Nat :=
  let c0_i32_954 : BitVec 32 := 0#32
  let c7_i32_952 : BitVec 32 := 7#32
  let c1_i32_953 : BitVec 32 := 1#32
  let v1907 : BitVec 32 := Scalar.muli c7_i32_952 c1_i32_953
  let v1908 : BitVec 32 := Scalar.addi c0_i32_954 v1907
  v1908.toNat
def k0_dev84 : Nat :=
  let c0_i32_961 : BitVec 32 := 0#32
  let c7_i32_959 : BitVec 32 := 7#32
  let c1_i32_960 : BitVec 32 := 1#32
  let v1916 : BitVec 32 := Scalar.muli c7_i32_959 c1_i32_960
  let v1917 : BitVec 32 := Scalar.addi c0_i32_961 v1916
  v1917.toNat
def k0_dev85 : Nat :=
  let c0_i32_969 : BitVec 32 := 0#32
  let c14_i32_967 : BitVec 32 := 14#32
  let c1_i32_968 : BitVec 32 := 1#32
  let v1925 : BitVec 32 := Scalar.muli c14_i32_967 c1_i32_968
  let v1926 : BitVec 32 := Scalar.addi c0_i32_969 v1925
  v1926.toNat
def k0_dev86 : Nat :=
  let c0_i32_976 : BitVec 32 := 0#32
  let c14_i32_974 : BitVec 32 := 14#32
  let c1_i32_975 : BitVec 32 := 1#32
  let v1934 : BitVec 32 := Scalar.muli c14_i32_974 c1_i32_975
  let v1935 : BitVec 32 := Scalar.addi c0_i32_976 v1934
  v1935.toNat
def k0_dev87 : Nat :=
  let c0_i32_984 : BitVec 32 := 0#32
  let c15_i32_982 : BitVec 32 := 15#32
  let c1_i32_983 : BitVec 32 := 1#32
  let v1943 : BitVec 32 := Scalar.muli c15_i32_982 c1_i32_983
  let v1944 : BitVec 32 := Scalar.addi c0_i32_984 v1943
  v1944.toNat
def k0_dev88 : Nat :=
  let c0_i32_991 : BitVec 32 := 0#32
  let c15_i32_989 : BitVec 32 := 15#32
  let c1_i32_990 : BitVec 32 := 1#32
  let v1952 : BitVec 32 := Scalar.muli c15_i32_989 c1_i32_990
  let v1953 : BitVec 32 := Scalar.addi c0_i32_991 v1952
  v1953.toNat
def k0_dev89 : Nat :=
  let c0_i32_999 : BitVec 32 := 0#32
  let c22_i32_997 : BitVec 32 := 22#32
  let c1_i32_998 : BitVec 32 := 1#32
  let v1961 : BitVec 32 := Scalar.muli c22_i32_997 c1_i32_998
  let v1962 : BitVec 32 := Scalar.addi c0_i32_999 v1961
  v1962.toNat
def k0_dev90 : Nat :=
  let c0_i32_1006 : BitVec 32 := 0#32
  let c22_i32_1004 : BitVec 32 := 22#32
  let c1_i32_1005 : BitVec 32 := 1#32
  let v1970 : BitVec 32 := Scalar.muli c22_i32_1004 c1_i32_1005
  let v1971 : BitVec 32 := Scalar.addi c0_i32_1006 v1970
  v1971.toNat
def k0_dev91 : Nat :=
  let c0_i32_1014 : BitVec 32 := 0#32
  let c23_i32_1012 : BitVec 32 := 23#32
  let c1_i32_1013 : BitVec 32 := 1#32
  let v1979 : BitVec 32 := Scalar.muli c23_i32_1012 c1_i32_1013
  let v1980 : BitVec 32 := Scalar.addi c0_i32_1014 v1979
  v1980.toNat
def k0_dev92 : Nat :=
  let c0_i32_1021 : BitVec 32 := 0#32
  let c23_i32_1019 : BitVec 32 := 23#32
  let c1_i32_1020 : BitVec 32 := 1#32
  let v1988 : BitVec 32 := Scalar.muli c23_i32_1019 c1_i32_1020
  let v1989 : BitVec 32 := Scalar.addi c0_i32_1021 v1988
  v1989.toNat
def k0_dev93 : Nat :=
  let c0_i32_1029 : BitVec 32 := 0#32
  let c30_i32_1027 : BitVec 32 := 30#32
  let c1_i32_1028 : BitVec 32 := 1#32
  let v1997 : BitVec 32 := Scalar.muli c30_i32_1027 c1_i32_1028
  let v1998 : BitVec 32 := Scalar.addi c0_i32_1029 v1997
  v1998.toNat
def k0_dev94 : Nat :=
  let c0_i32_1036 : BitVec 32 := 0#32
  let c30_i32_1034 : BitVec 32 := 30#32
  let c1_i32_1035 : BitVec 32 := 1#32
  let v2006 : BitVec 32 := Scalar.muli c30_i32_1034 c1_i32_1035
  let v2007 : BitVec 32 := Scalar.addi c0_i32_1036 v2006
  v2007.toNat
def k0_dev95 : Nat :=
  let c0_i32_1044 : BitVec 32 := 0#32
  let c31_i32_1042 : BitVec 32 := 31#32
  let c1_i32_1043 : BitVec 32 := 1#32
  let v2015 : BitVec 32 := Scalar.muli c31_i32_1042 c1_i32_1043
  let v2016 : BitVec 32 := Scalar.addi c0_i32_1044 v2015
  v2016.toNat
def k0_dev96 : Nat :=
  let c0_i32_1051 : BitVec 32 := 0#32
  let c31_i32_1049 : BitVec 32 := 31#32
  let c1_i32_1050 : BitVec 32 := 1#32
  let v2024 : BitVec 32 := Scalar.muli c31_i32_1049 c1_i32_1050
  let v2025 : BitVec 32 := Scalar.addi c0_i32_1051 v2024
  v2025.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_1743 : BitVec 32 := 32#32
  let v2539 : BitVec 32 := Scalar.muli v2 c32_i32_1743
  let v2540 : Index := Scalar.indexCast v2539
  let c0_1744 : Index := 0#32
  ![v2540.toNat, 0]
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1745 : BitVec 32 := 0#32
  let v2544 : BitVec 1 := Scalar.cmpi .ne v2 c0_i32_1745
  let v2545 : BitVec 32 := Scalar.extui v2544
  let c0_i32_1746 : BitVec 32 := 0#32
  let v2546 : BitVec 1 := Scalar.cmpi .ne v2545 c0_i32_1746
  v2546

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2391 : BitVec 32 := 32#32
  let v3158 : BitVec 32 := Scalar.muli v2 c32_i32_2391
  let c0_i32_2396 : BitVec 32 := 0#32
  ![v3158.toNat, 0]
def k0_dev97 : Nat :=
  let c0_i32_2395 : BitVec 32 := 0#32
  let c0_i32_2393 : BitVec 32 := 0#32
  let c1_i32_2394 : BitVec 32 := 1#32
  let v3159 : BitVec 32 := Scalar.muli c0_i32_2393 c1_i32_2394
  let v3160 : BitVec 32 := Scalar.addi c0_i32_2395 v3159
  v3160.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1747 : BitVec 32 := 1#32
  let v2547 : BitVec 1 := Scalar.cmpi .ne v2 c1_i32_1747
  let v2548 : BitVec 32 := Scalar.extui v2547
  let c0_i32_1748 : BitVec 32 := 0#32
  let v2549 : BitVec 1 := Scalar.cmpi .ne v2548 c0_i32_1748
  v2549

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2391 : BitVec 32 := 32#32
  let v3158 : BitVec 32 := Scalar.muli v2 c32_i32_2391
  let c0_i32_2396 : BitVec 32 := 0#32
  ![v3158.toNat, 0]
def k0_dev98 : Nat :=
  let c0_i32_2395 : BitVec 32 := 0#32
  let c1_i32_2393 : BitVec 32 := 1#32
  let c1_i32_2394 : BitVec 32 := 1#32
  let v3159 : BitVec 32 := Scalar.muli c1_i32_2393 c1_i32_2394
  let v3160 : BitVec 32 := Scalar.addi c0_i32_2395 v3159
  v3160.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1749 : BitVec 32 := 2#32
  let v2550 : BitVec 1 := Scalar.cmpi .ne v2 c2_i32_1749
  let v2551 : BitVec 32 := Scalar.extui v2550
  let c0_i32_1750 : BitVec 32 := 0#32
  let v2552 : BitVec 1 := Scalar.cmpi .ne v2551 c0_i32_1750
  v2552

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2391 : BitVec 32 := 32#32
  let v3158 : BitVec 32 := Scalar.muli v2 c32_i32_2391
  let c0_i32_2396 : BitVec 32 := 0#32
  ![v3158.toNat, 0]
def k0_dev99 : Nat :=
  let c0_i32_2395 : BitVec 32 := 0#32
  let c2_i32_2393 : BitVec 32 := 2#32
  let c1_i32_2394 : BitVec 32 := 1#32
  let v3159 : BitVec 32 := Scalar.muli c2_i32_2393 c1_i32_2394
  let v3160 : BitVec 32 := Scalar.addi c0_i32_2395 v3159
  v3160.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1751 : BitVec 32 := 3#32
  let v2553 : BitVec 1 := Scalar.cmpi .ne v2 c3_i32_1751
  let v2554 : BitVec 32 := Scalar.extui v2553
  let c0_i32_1752 : BitVec 32 := 0#32
  let v2555 : BitVec 1 := Scalar.cmpi .ne v2554 c0_i32_1752
  v2555

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2391 : BitVec 32 := 32#32
  let v3158 : BitVec 32 := Scalar.muli v2 c32_i32_2391
  let c0_i32_2396 : BitVec 32 := 0#32
  ![v3158.toNat, 0]
def k0_dev100 : Nat :=
  let c0_i32_2395 : BitVec 32 := 0#32
  let c3_i32_2393 : BitVec 32 := 3#32
  let c1_i32_2394 : BitVec 32 := 1#32
  let v3159 : BitVec 32 := Scalar.muli c3_i32_2393 c1_i32_2394
  let v3160 : BitVec 32 := Scalar.addi c0_i32_2395 v3159
  v3160.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1753 : BitVec 32 := 4#32
  let v2556 : BitVec 1 := Scalar.cmpi .ne v2 c4_i32_1753
  let v2557 : BitVec 32 := Scalar.extui v2556
  let c0_i32_1754 : BitVec 32 := 0#32
  let v2558 : BitVec 1 := Scalar.cmpi .ne v2557 c0_i32_1754
  v2558

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2391 : BitVec 32 := 32#32
  let v3158 : BitVec 32 := Scalar.muli v2 c32_i32_2391
  let c0_i32_2396 : BitVec 32 := 0#32
  ![v3158.toNat, 0]
def k0_dev101 : Nat :=
  let c0_i32_2395 : BitVec 32 := 0#32
  let c4_i32_2393 : BitVec 32 := 4#32
  let c1_i32_2394 : BitVec 32 := 1#32
  let v3159 : BitVec 32 := Scalar.muli c4_i32_2393 c1_i32_2394
  let v3160 : BitVec 32 := Scalar.addi c0_i32_2395 v3159
  v3160.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1755 : BitVec 32 := 5#32
  let v2559 : BitVec 1 := Scalar.cmpi .ne v2 c5_i32_1755
  let v2560 : BitVec 32 := Scalar.extui v2559
  let c0_i32_1756 : BitVec 32 := 0#32
  let v2561 : BitVec 1 := Scalar.cmpi .ne v2560 c0_i32_1756
  v2561

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off16 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2391 : BitVec 32 := 32#32
  let v3158 : BitVec 32 := Scalar.muli v2 c32_i32_2391
  let c0_i32_2396 : BitVec 32 := 0#32
  ![v3158.toNat, 0]
def k0_dev102 : Nat :=
  let c0_i32_2395 : BitVec 32 := 0#32
  let c5_i32_2393 : BitVec 32 := 5#32
  let c1_i32_2394 : BitVec 32 := 1#32
  let v3159 : BitVec 32 := Scalar.muli c5_i32_2393 c1_i32_2394
  let v3160 : BitVec 32 := Scalar.addi c0_i32_2395 v3159
  v3160.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1757 : BitVec 32 := 6#32
  let v2562 : BitVec 1 := Scalar.cmpi .ne v2 c6_i32_1757
  let v2563 : BitVec 32 := Scalar.extui v2562
  let c0_i32_1758 : BitVec 32 := 0#32
  let v2564 : BitVec 1 := Scalar.cmpi .ne v2563 c0_i32_1758
  v2564

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2391 : BitVec 32 := 32#32
  let v3158 : BitVec 32 := Scalar.muli v2 c32_i32_2391
  let c0_i32_2396 : BitVec 32 := 0#32
  ![v3158.toNat, 0]
def k0_dev103 : Nat :=
  let c0_i32_2395 : BitVec 32 := 0#32
  let c6_i32_2393 : BitVec 32 := 6#32
  let c1_i32_2394 : BitVec 32 := 1#32
  let v3159 : BitVec 32 := Scalar.muli c6_i32_2393 c1_i32_2394
  let v3160 : BitVec 32 := Scalar.addi c0_i32_2395 v3159
  v3160.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1759 : BitVec 32 := 7#32
  let v2565 : BitVec 1 := Scalar.cmpi .ne v2 c7_i32_1759
  let v2566 : BitVec 32 := Scalar.extui v2565
  let c0_i32_1760 : BitVec 32 := 0#32
  let v2567 : BitVec 1 := Scalar.cmpi .ne v2566 c0_i32_1760
  v2567

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2391 : BitVec 32 := 32#32
  let v3158 : BitVec 32 := Scalar.muli v2 c32_i32_2391
  let c0_i32_2396 : BitVec 32 := 0#32
  ![v3158.toNat, 0]
def k0_dev104 : Nat :=
  let c0_i32_2395 : BitVec 32 := 0#32
  let c7_i32_2393 : BitVec 32 := 7#32
  let c1_i32_2394 : BitVec 32 := 1#32
  let v3159 : BitVec 32 := Scalar.muli c7_i32_2393 c1_i32_2394
  let v3160 : BitVec 32 := Scalar.addi c0_i32_2395 v3159
  v3160.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1761 : BitVec 32 := 8#32
  let v2568 : BitVec 1 := Scalar.cmpi .ne v2 c8_i32_1761
  let v2569 : BitVec 32 := Scalar.extui v2568
  let c0_i32_1762 : BitVec 32 := 0#32
  let v2570 : BitVec 1 := Scalar.cmpi .ne v2569 c0_i32_1762
  v2570

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2391 : BitVec 32 := 32#32
  let v3158 : BitVec 32 := Scalar.muli v2 c32_i32_2391
  let c0_i32_2396 : BitVec 32 := 0#32
  ![v3158.toNat, 0]
def k0_dev105 : Nat :=
  let c0_i32_2395 : BitVec 32 := 0#32
  let c8_i32_2393 : BitVec 32 := 8#32
  let c1_i32_2394 : BitVec 32 := 1#32
  let v3159 : BitVec 32 := Scalar.muli c8_i32_2393 c1_i32_2394
  let v3160 : BitVec 32 := Scalar.addi c0_i32_2395 v3159
  v3160.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1763 : BitVec 32 := 9#32
  let v2571 : BitVec 1 := Scalar.cmpi .ne v2 c9_i32_1763
  let v2572 : BitVec 32 := Scalar.extui v2571
  let c0_i32_1764 : BitVec 32 := 0#32
  let v2573 : BitVec 1 := Scalar.cmpi .ne v2572 c0_i32_1764
  v2573

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off24 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2391 : BitVec 32 := 32#32
  let v3158 : BitVec 32 := Scalar.muli v2 c32_i32_2391
  let c0_i32_2396 : BitVec 32 := 0#32
  ![v3158.toNat, 0]
def k0_dev106 : Nat :=
  let c0_i32_2395 : BitVec 32 := 0#32
  let c9_i32_2393 : BitVec 32 := 9#32
  let c1_i32_2394 : BitVec 32 := 1#32
  let v3159 : BitVec 32 := Scalar.muli c9_i32_2393 c1_i32_2394
  let v3160 : BitVec 32 := Scalar.addi c0_i32_2395 v3159
  v3160.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1765 : BitVec 32 := 10#32
  let v2574 : BitVec 1 := Scalar.cmpi .ne v2 c10_i32_1765
  let v2575 : BitVec 32 := Scalar.extui v2574
  let c0_i32_1766 : BitVec 32 := 0#32
  let v2576 : BitVec 1 := Scalar.cmpi .ne v2575 c0_i32_1766
  v2576

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2391 : BitVec 32 := 32#32
  let v3158 : BitVec 32 := Scalar.muli v2 c32_i32_2391
  let c0_i32_2396 : BitVec 32 := 0#32
  ![v3158.toNat, 0]
def k0_dev107 : Nat :=
  let c0_i32_2395 : BitVec 32 := 0#32
  let c10_i32_2393 : BitVec 32 := 10#32
  let c1_i32_2394 : BitVec 32 := 1#32
  let v3159 : BitVec 32 := Scalar.muli c10_i32_2393 c1_i32_2394
  let v3160 : BitVec 32 := Scalar.addi c0_i32_2395 v3159
  v3160.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1767 : BitVec 32 := 11#32
  let v2577 : BitVec 1 := Scalar.cmpi .ne v2 c11_i32_1767
  let v2578 : BitVec 32 := Scalar.extui v2577
  let c0_i32_1768 : BitVec 32 := 0#32
  let v2579 : BitVec 1 := Scalar.cmpi .ne v2578 c0_i32_1768
  v2579

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off28 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2391 : BitVec 32 := 32#32
  let v3158 : BitVec 32 := Scalar.muli v2 c32_i32_2391
  let c0_i32_2396 : BitVec 32 := 0#32
  ![v3158.toNat, 0]
def k0_dev108 : Nat :=
  let c0_i32_2395 : BitVec 32 := 0#32
  let c11_i32_2393 : BitVec 32 := 11#32
  let c1_i32_2394 : BitVec 32 := 1#32
  let v3159 : BitVec 32 := Scalar.muli c11_i32_2393 c1_i32_2394
  let v3160 : BitVec 32 := Scalar.addi c0_i32_2395 v3159
  v3160.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1769 : BitVec 32 := 12#32
  let v2580 : BitVec 1 := Scalar.cmpi .ne v2 c12_i32_1769
  let v2581 : BitVec 32 := Scalar.extui v2580
  let c0_i32_1770 : BitVec 32 := 0#32
  let v2582 : BitVec 1 := Scalar.cmpi .ne v2581 c0_i32_1770
  v2582

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2391 : BitVec 32 := 32#32
  let v3158 : BitVec 32 := Scalar.muli v2 c32_i32_2391
  let c0_i32_2396 : BitVec 32 := 0#32
  ![v3158.toNat, 0]
def k0_dev109 : Nat :=
  let c0_i32_2395 : BitVec 32 := 0#32
  let c12_i32_2393 : BitVec 32 := 12#32
  let c1_i32_2394 : BitVec 32 := 1#32
  let v3159 : BitVec 32 := Scalar.muli c12_i32_2393 c1_i32_2394
  let v3160 : BitVec 32 := Scalar.addi c0_i32_2395 v3159
  v3160.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1771 : BitVec 32 := 13#32
  let v2583 : BitVec 1 := Scalar.cmpi .ne v2 c13_i32_1771
  let v2584 : BitVec 32 := Scalar.extui v2583
  let c0_i32_1772 : BitVec 32 := 0#32
  let v2585 : BitVec 1 := Scalar.cmpi .ne v2584 c0_i32_1772
  v2585

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2391 : BitVec 32 := 32#32
  let v3158 : BitVec 32 := Scalar.muli v2 c32_i32_2391
  let c0_i32_2396 : BitVec 32 := 0#32
  ![v3158.toNat, 0]
def k0_dev110 : Nat :=
  let c0_i32_2395 : BitVec 32 := 0#32
  let c13_i32_2393 : BitVec 32 := 13#32
  let c1_i32_2394 : BitVec 32 := 1#32
  let v3159 : BitVec 32 := Scalar.muli c13_i32_2393 c1_i32_2394
  let v3160 : BitVec 32 := Scalar.addi c0_i32_2395 v3159
  v3160.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1773 : BitVec 32 := 14#32
  let v2586 : BitVec 1 := Scalar.cmpi .ne v2 c14_i32_1773
  let v2587 : BitVec 32 := Scalar.extui v2586
  let c0_i32_1774 : BitVec 32 := 0#32
  let v2588 : BitVec 1 := Scalar.cmpi .ne v2587 c0_i32_1774
  v2588

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2391 : BitVec 32 := 32#32
  let v3158 : BitVec 32 := Scalar.muli v2 c32_i32_2391
  let c0_i32_2396 : BitVec 32 := 0#32
  ![v3158.toNat, 0]
def k0_dev111 : Nat :=
  let c0_i32_2395 : BitVec 32 := 0#32
  let c14_i32_2393 : BitVec 32 := 14#32
  let c1_i32_2394 : BitVec 32 := 1#32
  let v3159 : BitVec 32 := Scalar.muli c14_i32_2393 c1_i32_2394
  let v3160 : BitVec 32 := Scalar.addi c0_i32_2395 v3159
  v3160.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1775 : BitVec 32 := 15#32
  let v2589 : BitVec 1 := Scalar.cmpi .ne v2 c15_i32_1775
  let v2590 : BitVec 32 := Scalar.extui v2589
  let c0_i32_1776 : BitVec 32 := 0#32
  let v2591 : BitVec 1 := Scalar.cmpi .ne v2590 c0_i32_1776
  v2591

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2391 : BitVec 32 := 32#32
  let v3158 : BitVec 32 := Scalar.muli v2 c32_i32_2391
  let c0_i32_2396 : BitVec 32 := 0#32
  ![v3158.toNat, 0]
def k0_dev112 : Nat :=
  let c0_i32_2395 : BitVec 32 := 0#32
  let c15_i32_2393 : BitVec 32 := 15#32
  let c1_i32_2394 : BitVec 32 := 1#32
  let v3159 : BitVec 32 := Scalar.muli c15_i32_2393 c1_i32_2394
  let v3160 : BitVec 32 := Scalar.addi c0_i32_2395 v3159
  v3160.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1777 : BitVec 32 := 16#32
  let v2592 : BitVec 1 := Scalar.cmpi .ne v2 c16_i32_1777
  let v2593 : BitVec 32 := Scalar.extui v2592
  let c0_i32_1778 : BitVec 32 := 0#32
  let v2594 : BitVec 1 := Scalar.cmpi .ne v2593 c0_i32_1778
  v2594

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2391 : BitVec 32 := 32#32
  let v3158 : BitVec 32 := Scalar.muli v2 c32_i32_2391
  let c0_i32_2396 : BitVec 32 := 0#32
  ![v3158.toNat, 0]
def k0_dev113 : Nat :=
  let c0_i32_2395 : BitVec 32 := 0#32
  let c16_i32_2393 : BitVec 32 := 16#32
  let c1_i32_2394 : BitVec 32 := 1#32
  let v3159 : BitVec 32 := Scalar.muli c16_i32_2393 c1_i32_2394
  let v3160 : BitVec 32 := Scalar.addi c0_i32_2395 v3159
  v3160.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1779 : BitVec 32 := 17#32
  let v2595 : BitVec 1 := Scalar.cmpi .ne v2 c17_i32_1779
  let v2596 : BitVec 32 := Scalar.extui v2595
  let c0_i32_1780 : BitVec 32 := 0#32
  let v2597 : BitVec 1 := Scalar.cmpi .ne v2596 c0_i32_1780
  v2597

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off40 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2391 : BitVec 32 := 32#32
  let v3158 : BitVec 32 := Scalar.muli v2 c32_i32_2391
  let c0_i32_2396 : BitVec 32 := 0#32
  ![v3158.toNat, 0]
def k0_dev114 : Nat :=
  let c0_i32_2395 : BitVec 32 := 0#32
  let c17_i32_2393 : BitVec 32 := 17#32
  let c1_i32_2394 : BitVec 32 := 1#32
  let v3159 : BitVec 32 := Scalar.muli c17_i32_2393 c1_i32_2394
  let v3160 : BitVec 32 := Scalar.addi c0_i32_2395 v3159
  v3160.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1781 : BitVec 32 := 18#32
  let v2598 : BitVec 1 := Scalar.cmpi .ne v2 c18_i32_1781
  let v2599 : BitVec 32 := Scalar.extui v2598
  let c0_i32_1782 : BitVec 32 := 0#32
  let v2600 : BitVec 1 := Scalar.cmpi .ne v2599 c0_i32_1782
  v2600

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2391 : BitVec 32 := 32#32
  let v3158 : BitVec 32 := Scalar.muli v2 c32_i32_2391
  let c0_i32_2396 : BitVec 32 := 0#32
  ![v3158.toNat, 0]
def k0_dev115 : Nat :=
  let c0_i32_2395 : BitVec 32 := 0#32
  let c18_i32_2393 : BitVec 32 := 18#32
  let c1_i32_2394 : BitVec 32 := 1#32
  let v3159 : BitVec 32 := Scalar.muli c18_i32_2393 c1_i32_2394
  let v3160 : BitVec 32 := Scalar.addi c0_i32_2395 v3159
  v3160.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1783 : BitVec 32 := 19#32
  let v2601 : BitVec 1 := Scalar.cmpi .ne v2 c19_i32_1783
  let v2602 : BitVec 32 := Scalar.extui v2601
  let c0_i32_1784 : BitVec 32 := 0#32
  let v2603 : BitVec 1 := Scalar.cmpi .ne v2602 c0_i32_1784
  v2603

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2391 : BitVec 32 := 32#32
  let v3158 : BitVec 32 := Scalar.muli v2 c32_i32_2391
  let c0_i32_2396 : BitVec 32 := 0#32
  ![v3158.toNat, 0]
def k0_dev116 : Nat :=
  let c0_i32_2395 : BitVec 32 := 0#32
  let c19_i32_2393 : BitVec 32 := 19#32
  let c1_i32_2394 : BitVec 32 := 1#32
  let v3159 : BitVec 32 := Scalar.muli c19_i32_2393 c1_i32_2394
  let v3160 : BitVec 32 := Scalar.addi c0_i32_2395 v3159
  v3160.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1785 : BitVec 32 := 20#32
  let v2604 : BitVec 1 := Scalar.cmpi .ne v2 c20_i32_1785
  let v2605 : BitVec 32 := Scalar.extui v2604
  let c0_i32_1786 : BitVec 32 := 0#32
  let v2606 : BitVec 1 := Scalar.cmpi .ne v2605 c0_i32_1786
  v2606

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2391 : BitVec 32 := 32#32
  let v3158 : BitVec 32 := Scalar.muli v2 c32_i32_2391
  let c0_i32_2396 : BitVec 32 := 0#32
  ![v3158.toNat, 0]
def k0_dev117 : Nat :=
  let c0_i32_2395 : BitVec 32 := 0#32
  let c20_i32_2393 : BitVec 32 := 20#32
  let c1_i32_2394 : BitVec 32 := 1#32
  let v3159 : BitVec 32 := Scalar.muli c20_i32_2393 c1_i32_2394
  let v3160 : BitVec 32 := Scalar.addi c0_i32_2395 v3159
  v3160.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1787 : BitVec 32 := 21#32
  let v2607 : BitVec 1 := Scalar.cmpi .ne v2 c21_i32_1787
  let v2608 : BitVec 32 := Scalar.extui v2607
  let c0_i32_1788 : BitVec 32 := 0#32
  let v2609 : BitVec 1 := Scalar.cmpi .ne v2608 c0_i32_1788
  v2609

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2391 : BitVec 32 := 32#32
  let v3158 : BitVec 32 := Scalar.muli v2 c32_i32_2391
  let c0_i32_2396 : BitVec 32 := 0#32
  ![v3158.toNat, 0]
def k0_dev118 : Nat :=
  let c0_i32_2395 : BitVec 32 := 0#32
  let c21_i32_2393 : BitVec 32 := 21#32
  let c1_i32_2394 : BitVec 32 := 1#32
  let v3159 : BitVec 32 := Scalar.muli c21_i32_2393 c1_i32_2394
  let v3160 : BitVec 32 := Scalar.addi c0_i32_2395 v3159
  v3160.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1789 : BitVec 32 := 22#32
  let v2610 : BitVec 1 := Scalar.cmpi .ne v2 c22_i32_1789
  let v2611 : BitVec 32 := Scalar.extui v2610
  let c0_i32_1790 : BitVec 32 := 0#32
  let v2612 : BitVec 1 := Scalar.cmpi .ne v2611 c0_i32_1790
  v2612

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2391 : BitVec 32 := 32#32
  let v3158 : BitVec 32 := Scalar.muli v2 c32_i32_2391
  let c0_i32_2396 : BitVec 32 := 0#32
  ![v3158.toNat, 0]
def k0_dev119 : Nat :=
  let c0_i32_2395 : BitVec 32 := 0#32
  let c22_i32_2393 : BitVec 32 := 22#32
  let c1_i32_2394 : BitVec 32 := 1#32
  let v3159 : BitVec 32 := Scalar.muli c22_i32_2393 c1_i32_2394
  let v3160 : BitVec 32 := Scalar.addi c0_i32_2395 v3159
  v3160.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1791 : BitVec 32 := 23#32
  let v2613 : BitVec 1 := Scalar.cmpi .ne v2 c23_i32_1791
  let v2614 : BitVec 32 := Scalar.extui v2613
  let c0_i32_1792 : BitVec 32 := 0#32
  let v2615 : BitVec 1 := Scalar.cmpi .ne v2614 c0_i32_1792
  v2615

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off52 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2391 : BitVec 32 := 32#32
  let v3158 : BitVec 32 := Scalar.muli v2 c32_i32_2391
  let c0_i32_2396 : BitVec 32 := 0#32
  ![v3158.toNat, 0]
def k0_dev120 : Nat :=
  let c0_i32_2395 : BitVec 32 := 0#32
  let c23_i32_2393 : BitVec 32 := 23#32
  let c1_i32_2394 : BitVec 32 := 1#32
  let v3159 : BitVec 32 := Scalar.muli c23_i32_2393 c1_i32_2394
  let v3160 : BitVec 32 := Scalar.addi c0_i32_2395 v3159
  v3160.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1793 : BitVec 32 := 24#32
  let v2616 : BitVec 1 := Scalar.cmpi .ne v2 c24_i32_1793
  let v2617 : BitVec 32 := Scalar.extui v2616
  let c0_i32_1794 : BitVec 32 := 0#32
  let v2618 : BitVec 1 := Scalar.cmpi .ne v2617 c0_i32_1794
  v2618

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2391 : BitVec 32 := 32#32
  let v3158 : BitVec 32 := Scalar.muli v2 c32_i32_2391
  let c0_i32_2396 : BitVec 32 := 0#32
  ![v3158.toNat, 0]
def k0_dev121 : Nat :=
  let c0_i32_2395 : BitVec 32 := 0#32
  let c24_i32_2393 : BitVec 32 := 24#32
  let c1_i32_2394 : BitVec 32 := 1#32
  let v3159 : BitVec 32 := Scalar.muli c24_i32_2393 c1_i32_2394
  let v3160 : BitVec 32 := Scalar.addi c0_i32_2395 v3159
  v3160.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1795 : BitVec 32 := 25#32
  let v2619 : BitVec 1 := Scalar.cmpi .ne v2 c25_i32_1795
  let v2620 : BitVec 32 := Scalar.extui v2619
  let c0_i32_1796 : BitVec 32 := 0#32
  let v2621 : BitVec 1 := Scalar.cmpi .ne v2620 c0_i32_1796
  v2621

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2391 : BitVec 32 := 32#32
  let v3158 : BitVec 32 := Scalar.muli v2 c32_i32_2391
  let c0_i32_2396 : BitVec 32 := 0#32
  ![v3158.toNat, 0]
def k0_dev122 : Nat :=
  let c0_i32_2395 : BitVec 32 := 0#32
  let c25_i32_2393 : BitVec 32 := 25#32
  let c1_i32_2394 : BitVec 32 := 1#32
  let v3159 : BitVec 32 := Scalar.muli c25_i32_2393 c1_i32_2394
  let v3160 : BitVec 32 := Scalar.addi c0_i32_2395 v3159
  v3160.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1797 : BitVec 32 := 26#32
  let v2622 : BitVec 1 := Scalar.cmpi .ne v2 c26_i32_1797
  let v2623 : BitVec 32 := Scalar.extui v2622
  let c0_i32_1798 : BitVec 32 := 0#32
  let v2624 : BitVec 1 := Scalar.cmpi .ne v2623 c0_i32_1798
  v2624

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2391 : BitVec 32 := 32#32
  let v3158 : BitVec 32 := Scalar.muli v2 c32_i32_2391
  let c0_i32_2396 : BitVec 32 := 0#32
  ![v3158.toNat, 0]
def k0_dev123 : Nat :=
  let c0_i32_2395 : BitVec 32 := 0#32
  let c26_i32_2393 : BitVec 32 := 26#32
  let c1_i32_2394 : BitVec 32 := 1#32
  let v3159 : BitVec 32 := Scalar.muli c26_i32_2393 c1_i32_2394
  let v3160 : BitVec 32 := Scalar.addi c0_i32_2395 v3159
  v3160.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1799 : BitVec 32 := 27#32
  let v2625 : BitVec 1 := Scalar.cmpi .ne v2 c27_i32_1799
  let v2626 : BitVec 32 := Scalar.extui v2625
  let c0_i32_1800 : BitVec 32 := 0#32
  let v2627 : BitVec 1 := Scalar.cmpi .ne v2626 c0_i32_1800
  v2627

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2391 : BitVec 32 := 32#32
  let v3158 : BitVec 32 := Scalar.muli v2 c32_i32_2391
  let c0_i32_2396 : BitVec 32 := 0#32
  ![v3158.toNat, 0]
def k0_dev124 : Nat :=
  let c0_i32_2395 : BitVec 32 := 0#32
  let c27_i32_2393 : BitVec 32 := 27#32
  let c1_i32_2394 : BitVec 32 := 1#32
  let v3159 : BitVec 32 := Scalar.muli c27_i32_2393 c1_i32_2394
  let v3160 : BitVec 32 := Scalar.addi c0_i32_2395 v3159
  v3160.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1801 : BitVec 32 := 28#32
  let v2628 : BitVec 1 := Scalar.cmpi .ne v2 c28_i32_1801
  let v2629 : BitVec 32 := Scalar.extui v2628
  let c0_i32_1802 : BitVec 32 := 0#32
  let v2630 : BitVec 1 := Scalar.cmpi .ne v2629 c0_i32_1802
  v2630

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2391 : BitVec 32 := 32#32
  let v3158 : BitVec 32 := Scalar.muli v2 c32_i32_2391
  let c0_i32_2396 : BitVec 32 := 0#32
  ![v3158.toNat, 0]
def k0_dev125 : Nat :=
  let c0_i32_2395 : BitVec 32 := 0#32
  let c28_i32_2393 : BitVec 32 := 28#32
  let c1_i32_2394 : BitVec 32 := 1#32
  let v3159 : BitVec 32 := Scalar.muli c28_i32_2393 c1_i32_2394
  let v3160 : BitVec 32 := Scalar.addi c0_i32_2395 v3159
  v3160.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1803 : BitVec 32 := 29#32
  let v2631 : BitVec 1 := Scalar.cmpi .ne v2 c29_i32_1803
  let v2632 : BitVec 32 := Scalar.extui v2631
  let c0_i32_1804 : BitVec 32 := 0#32
  let v2633 : BitVec 1 := Scalar.cmpi .ne v2632 c0_i32_1804
  v2633

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off64 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2391 : BitVec 32 := 32#32
  let v3158 : BitVec 32 := Scalar.muli v2 c32_i32_2391
  let c0_i32_2396 : BitVec 32 := 0#32
  ![v3158.toNat, 0]
def k0_dev126 : Nat :=
  let c0_i32_2395 : BitVec 32 := 0#32
  let c29_i32_2393 : BitVec 32 := 29#32
  let c1_i32_2394 : BitVec 32 := 1#32
  let v3159 : BitVec 32 := Scalar.muli c29_i32_2393 c1_i32_2394
  let v3160 : BitVec 32 := Scalar.addi c0_i32_2395 v3159
  v3160.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1805 : BitVec 32 := 30#32
  let v2634 : BitVec 1 := Scalar.cmpi .ne v2 c30_i32_1805
  let v2635 : BitVec 32 := Scalar.extui v2634
  let c0_i32_1806 : BitVec 32 := 0#32
  let v2636 : BitVec 1 := Scalar.cmpi .ne v2635 c0_i32_1806
  v2636

def k0_off65 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off66 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2391 : BitVec 32 := 32#32
  let v3158 : BitVec 32 := Scalar.muli v2 c32_i32_2391
  let c0_i32_2396 : BitVec 32 := 0#32
  ![v3158.toNat, 0]
def k0_dev127 : Nat :=
  let c0_i32_2395 : BitVec 32 := 0#32
  let c30_i32_2393 : BitVec 32 := 30#32
  let c1_i32_2394 : BitVec 32 := 1#32
  let v3159 : BitVec 32 := Scalar.muli c30_i32_2393 c1_i32_2394
  let v3160 : BitVec 32 := Scalar.addi c0_i32_2395 v3159
  v3160.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1807 : BitVec 32 := 31#32
  let v2637 : BitVec 1 := Scalar.cmpi .ne v2 c31_i32_1807
  let v2638 : BitVec 32 := Scalar.extui v2637
  let c0_i32_1808 : BitVec 32 := 0#32
  let v2639 : BitVec 1 := Scalar.cmpi .ne v2638 c0_i32_1808
  v2639

def k0_off67 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off68 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2391 : BitVec 32 := 32#32
  let v3158 : BitVec 32 := Scalar.muli v2 c32_i32_2391
  let c0_i32_2396 : BitVec 32 := 0#32
  ![v3158.toNat, 0]
def k0_dev128 : Nat :=
  let c0_i32_2395 : BitVec 32 := 0#32
  let c31_i32_2393 : BitVec 32 := 31#32
  let c1_i32_2394 : BitVec 32 := 1#32
  let v3159 : BitVec 32 := Scalar.muli c31_i32_2393 c1_i32_2394
  let v3160 : BitVec 32 := Scalar.addi c0_i32_2395 v3159
  v3160.toNat
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1892 : BitVec 32 := 0#32
  let v2751 : BitVec 1 := Scalar.cmpi .ne v2 c0_i32_1892
  let v2752 : BitVec 32 := Scalar.extui v2751
  let c0_i32_1893 : BitVec 32 := 0#32
  let v2753 : BitVec 1 := Scalar.cmpi .ne v2752 c0_i32_1893
  v2753

def k0_off69 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2390 : BitVec 32 := 32#32
  let v3157 : BitVec 32 := Scalar.muli v2 c32_i32_2390
  let c0_i32_2395 : BitVec 32 := 0#32
  ![v3157.toNat, 0]
def k0_cond66 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1908 : BitVec 32 := 1#32
  let v2764 : BitVec 1 := Scalar.cmpi .ne v2 c1_i32_1908
  let v2765 : BitVec 32 := Scalar.extui v2764
  let c0_i32_1909 : BitVec 32 := 0#32
  let v2766 : BitVec 1 := Scalar.cmpi .ne v2765 c0_i32_1909
  v2766

def k0_off70 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2390 : BitVec 32 := 32#32
  let v3157 : BitVec 32 := Scalar.muli v2 c32_i32_2390
  let c0_i32_2395 : BitVec 32 := 0#32
  ![v3157.toNat, 0]
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1924 : BitVec 32 := 2#32
  let v2777 : BitVec 1 := Scalar.cmpi .ne v2 c2_i32_1924
  let v2778 : BitVec 32 := Scalar.extui v2777
  let c0_i32_1925 : BitVec 32 := 0#32
  let v2779 : BitVec 1 := Scalar.cmpi .ne v2778 c0_i32_1925
  v2779

def k0_off71 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2390 : BitVec 32 := 32#32
  let v3157 : BitVec 32 := Scalar.muli v2 c32_i32_2390
  let c0_i32_2395 : BitVec 32 := 0#32
  ![v3157.toNat, 0]
def k0_cond68 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1940 : BitVec 32 := 3#32
  let v2790 : BitVec 1 := Scalar.cmpi .ne v2 c3_i32_1940
  let v2791 : BitVec 32 := Scalar.extui v2790
  let c0_i32_1941 : BitVec 32 := 0#32
  let v2792 : BitVec 1 := Scalar.cmpi .ne v2791 c0_i32_1941
  v2792

def k0_off72 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2390 : BitVec 32 := 32#32
  let v3157 : BitVec 32 := Scalar.muli v2 c32_i32_2390
  let c0_i32_2395 : BitVec 32 := 0#32
  ![v3157.toNat, 0]
def k0_cond69 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1956 : BitVec 32 := 4#32
  let v2803 : BitVec 1 := Scalar.cmpi .ne v2 c4_i32_1956
  let v2804 : BitVec 32 := Scalar.extui v2803
  let c0_i32_1957 : BitVec 32 := 0#32
  let v2805 : BitVec 1 := Scalar.cmpi .ne v2804 c0_i32_1957
  v2805

def k0_off73 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2390 : BitVec 32 := 32#32
  let v3157 : BitVec 32 := Scalar.muli v2 c32_i32_2390
  let c0_i32_2395 : BitVec 32 := 0#32
  ![v3157.toNat, 0]
def k0_cond70 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1972 : BitVec 32 := 5#32
  let v2816 : BitVec 1 := Scalar.cmpi .ne v2 c5_i32_1972
  let v2817 : BitVec 32 := Scalar.extui v2816
  let c0_i32_1973 : BitVec 32 := 0#32
  let v2818 : BitVec 1 := Scalar.cmpi .ne v2817 c0_i32_1973
  v2818

def k0_off74 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2390 : BitVec 32 := 32#32
  let v3157 : BitVec 32 := Scalar.muli v2 c32_i32_2390
  let c0_i32_2395 : BitVec 32 := 0#32
  ![v3157.toNat, 0]
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1988 : BitVec 32 := 6#32
  let v2829 : BitVec 1 := Scalar.cmpi .ne v2 c6_i32_1988
  let v2830 : BitVec 32 := Scalar.extui v2829
  let c0_i32_1989 : BitVec 32 := 0#32
  let v2831 : BitVec 1 := Scalar.cmpi .ne v2830 c0_i32_1989
  v2831

def k0_off75 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2390 : BitVec 32 := 32#32
  let v3157 : BitVec 32 := Scalar.muli v2 c32_i32_2390
  let c0_i32_2395 : BitVec 32 := 0#32
  ![v3157.toNat, 0]
def k0_cond72 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_2004 : BitVec 32 := 7#32
  let v2842 : BitVec 1 := Scalar.cmpi .ne v2 c7_i32_2004
  let v2843 : BitVec 32 := Scalar.extui v2842
  let c0_i32_2005 : BitVec 32 := 0#32
  let v2844 : BitVec 1 := Scalar.cmpi .ne v2843 c0_i32_2005
  v2844

def k0_off76 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2390 : BitVec 32 := 32#32
  let v3157 : BitVec 32 := Scalar.muli v2 c32_i32_2390
  let c0_i32_2395 : BitVec 32 := 0#32
  ![v3157.toNat, 0]
def k0_cond73 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2020 : BitVec 32 := 8#32
  let v2855 : BitVec 1 := Scalar.cmpi .ne v2 c8_i32_2020
  let v2856 : BitVec 32 := Scalar.extui v2855
  let c0_i32_2021 : BitVec 32 := 0#32
  let v2857 : BitVec 1 := Scalar.cmpi .ne v2856 c0_i32_2021
  v2857

def k0_off77 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2390 : BitVec 32 := 32#32
  let v3157 : BitVec 32 := Scalar.muli v2 c32_i32_2390
  let c0_i32_2395 : BitVec 32 := 0#32
  ![v3157.toNat, 0]
def k0_cond74 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_2036 : BitVec 32 := 9#32
  let v2868 : BitVec 1 := Scalar.cmpi .ne v2 c9_i32_2036
  let v2869 : BitVec 32 := Scalar.extui v2868
  let c0_i32_2037 : BitVec 32 := 0#32
  let v2870 : BitVec 1 := Scalar.cmpi .ne v2869 c0_i32_2037
  v2870

def k0_off78 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2390 : BitVec 32 := 32#32
  let v3157 : BitVec 32 := Scalar.muli v2 c32_i32_2390
  let c0_i32_2395 : BitVec 32 := 0#32
  ![v3157.toNat, 0]
def k0_cond75 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_2052 : BitVec 32 := 10#32
  let v2881 : BitVec 1 := Scalar.cmpi .ne v2 c10_i32_2052
  let v2882 : BitVec 32 := Scalar.extui v2881
  let c0_i32_2053 : BitVec 32 := 0#32
  let v2883 : BitVec 1 := Scalar.cmpi .ne v2882 c0_i32_2053
  v2883

def k0_off79 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2390 : BitVec 32 := 32#32
  let v3157 : BitVec 32 := Scalar.muli v2 c32_i32_2390
  let c0_i32_2395 : BitVec 32 := 0#32
  ![v3157.toNat, 0]
def k0_cond76 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2068 : BitVec 32 := 11#32
  let v2894 : BitVec 1 := Scalar.cmpi .ne v2 c11_i32_2068
  let v2895 : BitVec 32 := Scalar.extui v2894
  let c0_i32_2069 : BitVec 32 := 0#32
  let v2896 : BitVec 1 := Scalar.cmpi .ne v2895 c0_i32_2069
  v2896

def k0_off80 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2390 : BitVec 32 := 32#32
  let v3157 : BitVec 32 := Scalar.muli v2 c32_i32_2390
  let c0_i32_2395 : BitVec 32 := 0#32
  ![v3157.toNat, 0]
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2084 : BitVec 32 := 12#32
  let v2907 : BitVec 1 := Scalar.cmpi .ne v2 c12_i32_2084
  let v2908 : BitVec 32 := Scalar.extui v2907
  let c0_i32_2085 : BitVec 32 := 0#32
  let v2909 : BitVec 1 := Scalar.cmpi .ne v2908 c0_i32_2085
  v2909

def k0_off81 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2390 : BitVec 32 := 32#32
  let v3157 : BitVec 32 := Scalar.muli v2 c32_i32_2390
  let c0_i32_2395 : BitVec 32 := 0#32
  ![v3157.toNat, 0]
def k0_cond78 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2100 : BitVec 32 := 13#32
  let v2920 : BitVec 1 := Scalar.cmpi .ne v2 c13_i32_2100
  let v2921 : BitVec 32 := Scalar.extui v2920
  let c0_i32_2101 : BitVec 32 := 0#32
  let v2922 : BitVec 1 := Scalar.cmpi .ne v2921 c0_i32_2101
  v2922

def k0_off82 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2390 : BitVec 32 := 32#32
  let v3157 : BitVec 32 := Scalar.muli v2 c32_i32_2390
  let c0_i32_2395 : BitVec 32 := 0#32
  ![v3157.toNat, 0]
def k0_cond79 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2116 : BitVec 32 := 14#32
  let v2933 : BitVec 1 := Scalar.cmpi .ne v2 c14_i32_2116
  let v2934 : BitVec 32 := Scalar.extui v2933
  let c0_i32_2117 : BitVec 32 := 0#32
  let v2935 : BitVec 1 := Scalar.cmpi .ne v2934 c0_i32_2117
  v2935

def k0_off83 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2390 : BitVec 32 := 32#32
  let v3157 : BitVec 32 := Scalar.muli v2 c32_i32_2390
  let c0_i32_2395 : BitVec 32 := 0#32
  ![v3157.toNat, 0]
def k0_cond80 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2132 : BitVec 32 := 15#32
  let v2946 : BitVec 1 := Scalar.cmpi .ne v2 c15_i32_2132
  let v2947 : BitVec 32 := Scalar.extui v2946
  let c0_i32_2133 : BitVec 32 := 0#32
  let v2948 : BitVec 1 := Scalar.cmpi .ne v2947 c0_i32_2133
  v2948

def k0_off84 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2390 : BitVec 32 := 32#32
  let v3157 : BitVec 32 := Scalar.muli v2 c32_i32_2390
  let c0_i32_2395 : BitVec 32 := 0#32
  ![v3157.toNat, 0]
def k0_cond81 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2148 : BitVec 32 := 16#32
  let v2959 : BitVec 1 := Scalar.cmpi .ne v2 c16_i32_2148
  let v2960 : BitVec 32 := Scalar.extui v2959
  let c0_i32_2149 : BitVec 32 := 0#32
  let v2961 : BitVec 1 := Scalar.cmpi .ne v2960 c0_i32_2149
  v2961

def k0_off85 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2390 : BitVec 32 := 32#32
  let v3157 : BitVec 32 := Scalar.muli v2 c32_i32_2390
  let c0_i32_2395 : BitVec 32 := 0#32
  ![v3157.toNat, 0]
def k0_cond82 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2164 : BitVec 32 := 17#32
  let v2972 : BitVec 1 := Scalar.cmpi .ne v2 c17_i32_2164
  let v2973 : BitVec 32 := Scalar.extui v2972
  let c0_i32_2165 : BitVec 32 := 0#32
  let v2974 : BitVec 1 := Scalar.cmpi .ne v2973 c0_i32_2165
  v2974

def k0_off86 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2390 : BitVec 32 := 32#32
  let v3157 : BitVec 32 := Scalar.muli v2 c32_i32_2390
  let c0_i32_2395 : BitVec 32 := 0#32
  ![v3157.toNat, 0]
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2180 : BitVec 32 := 18#32
  let v2985 : BitVec 1 := Scalar.cmpi .ne v2 c18_i32_2180
  let v2986 : BitVec 32 := Scalar.extui v2985
  let c0_i32_2181 : BitVec 32 := 0#32
  let v2987 : BitVec 1 := Scalar.cmpi .ne v2986 c0_i32_2181
  v2987

def k0_off87 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2390 : BitVec 32 := 32#32
  let v3157 : BitVec 32 := Scalar.muli v2 c32_i32_2390
  let c0_i32_2395 : BitVec 32 := 0#32
  ![v3157.toNat, 0]
def k0_cond84 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2196 : BitVec 32 := 19#32
  let v2998 : BitVec 1 := Scalar.cmpi .ne v2 c19_i32_2196
  let v2999 : BitVec 32 := Scalar.extui v2998
  let c0_i32_2197 : BitVec 32 := 0#32
  let v3000 : BitVec 1 := Scalar.cmpi .ne v2999 c0_i32_2197
  v3000

def k0_off88 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2390 : BitVec 32 := 32#32
  let v3157 : BitVec 32 := Scalar.muli v2 c32_i32_2390
  let c0_i32_2395 : BitVec 32 := 0#32
  ![v3157.toNat, 0]
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2212 : BitVec 32 := 20#32
  let v3011 : BitVec 1 := Scalar.cmpi .ne v2 c20_i32_2212
  let v3012 : BitVec 32 := Scalar.extui v3011
  let c0_i32_2213 : BitVec 32 := 0#32
  let v3013 : BitVec 1 := Scalar.cmpi .ne v3012 c0_i32_2213
  v3013

def k0_off89 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2390 : BitVec 32 := 32#32
  let v3157 : BitVec 32 := Scalar.muli v2 c32_i32_2390
  let c0_i32_2395 : BitVec 32 := 0#32
  ![v3157.toNat, 0]
def k0_cond86 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2228 : BitVec 32 := 21#32
  let v3024 : BitVec 1 := Scalar.cmpi .ne v2 c21_i32_2228
  let v3025 : BitVec 32 := Scalar.extui v3024
  let c0_i32_2229 : BitVec 32 := 0#32
  let v3026 : BitVec 1 := Scalar.cmpi .ne v3025 c0_i32_2229
  v3026

def k0_off90 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2390 : BitVec 32 := 32#32
  let v3157 : BitVec 32 := Scalar.muli v2 c32_i32_2390
  let c0_i32_2395 : BitVec 32 := 0#32
  ![v3157.toNat, 0]
def k0_cond87 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2244 : BitVec 32 := 22#32
  let v3037 : BitVec 1 := Scalar.cmpi .ne v2 c22_i32_2244
  let v3038 : BitVec 32 := Scalar.extui v3037
  let c0_i32_2245 : BitVec 32 := 0#32
  let v3039 : BitVec 1 := Scalar.cmpi .ne v3038 c0_i32_2245
  v3039

def k0_off91 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2390 : BitVec 32 := 32#32
  let v3157 : BitVec 32 := Scalar.muli v2 c32_i32_2390
  let c0_i32_2395 : BitVec 32 := 0#32
  ![v3157.toNat, 0]
def k0_cond88 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2260 : BitVec 32 := 23#32
  let v3050 : BitVec 1 := Scalar.cmpi .ne v2 c23_i32_2260
  let v3051 : BitVec 32 := Scalar.extui v3050
  let c0_i32_2261 : BitVec 32 := 0#32
  let v3052 : BitVec 1 := Scalar.cmpi .ne v3051 c0_i32_2261
  v3052

def k0_off92 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2390 : BitVec 32 := 32#32
  let v3157 : BitVec 32 := Scalar.muli v2 c32_i32_2390
  let c0_i32_2395 : BitVec 32 := 0#32
  ![v3157.toNat, 0]
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2276 : BitVec 32 := 24#32
  let v3063 : BitVec 1 := Scalar.cmpi .ne v2 c24_i32_2276
  let v3064 : BitVec 32 := Scalar.extui v3063
  let c0_i32_2277 : BitVec 32 := 0#32
  let v3065 : BitVec 1 := Scalar.cmpi .ne v3064 c0_i32_2277
  v3065

def k0_off93 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2390 : BitVec 32 := 32#32
  let v3157 : BitVec 32 := Scalar.muli v2 c32_i32_2390
  let c0_i32_2395 : BitVec 32 := 0#32
  ![v3157.toNat, 0]
def k0_cond90 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2292 : BitVec 32 := 25#32
  let v3076 : BitVec 1 := Scalar.cmpi .ne v2 c25_i32_2292
  let v3077 : BitVec 32 := Scalar.extui v3076
  let c0_i32_2293 : BitVec 32 := 0#32
  let v3078 : BitVec 1 := Scalar.cmpi .ne v3077 c0_i32_2293
  v3078

def k0_off94 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2390 : BitVec 32 := 32#32
  let v3157 : BitVec 32 := Scalar.muli v2 c32_i32_2390
  let c0_i32_2395 : BitVec 32 := 0#32
  ![v3157.toNat, 0]
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2308 : BitVec 32 := 26#32
  let v3089 : BitVec 1 := Scalar.cmpi .ne v2 c26_i32_2308
  let v3090 : BitVec 32 := Scalar.extui v3089
  let c0_i32_2309 : BitVec 32 := 0#32
  let v3091 : BitVec 1 := Scalar.cmpi .ne v3090 c0_i32_2309
  v3091

def k0_off95 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2390 : BitVec 32 := 32#32
  let v3157 : BitVec 32 := Scalar.muli v2 c32_i32_2390
  let c0_i32_2395 : BitVec 32 := 0#32
  ![v3157.toNat, 0]
def k0_cond92 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2324 : BitVec 32 := 27#32
  let v3102 : BitVec 1 := Scalar.cmpi .ne v2 c27_i32_2324
  let v3103 : BitVec 32 := Scalar.extui v3102
  let c0_i32_2325 : BitVec 32 := 0#32
  let v3104 : BitVec 1 := Scalar.cmpi .ne v3103 c0_i32_2325
  v3104

def k0_off96 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2390 : BitVec 32 := 32#32
  let v3157 : BitVec 32 := Scalar.muli v2 c32_i32_2390
  let c0_i32_2395 : BitVec 32 := 0#32
  ![v3157.toNat, 0]
def k0_cond93 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2340 : BitVec 32 := 28#32
  let v3115 : BitVec 1 := Scalar.cmpi .ne v2 c28_i32_2340
  let v3116 : BitVec 32 := Scalar.extui v3115
  let c0_i32_2341 : BitVec 32 := 0#32
  let v3117 : BitVec 1 := Scalar.cmpi .ne v3116 c0_i32_2341
  v3117

def k0_off97 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2390 : BitVec 32 := 32#32
  let v3157 : BitVec 32 := Scalar.muli v2 c32_i32_2390
  let c0_i32_2395 : BitVec 32 := 0#32
  ![v3157.toNat, 0]
def k0_cond94 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2356 : BitVec 32 := 29#32
  let v3128 : BitVec 1 := Scalar.cmpi .ne v2 c29_i32_2356
  let v3129 : BitVec 32 := Scalar.extui v3128
  let c0_i32_2357 : BitVec 32 := 0#32
  let v3130 : BitVec 1 := Scalar.cmpi .ne v3129 c0_i32_2357
  v3130

def k0_off98 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2390 : BitVec 32 := 32#32
  let v3157 : BitVec 32 := Scalar.muli v2 c32_i32_2390
  let c0_i32_2395 : BitVec 32 := 0#32
  ![v3157.toNat, 0]
def k0_cond95 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2372 : BitVec 32 := 30#32
  let v3141 : BitVec 1 := Scalar.cmpi .ne v2 c30_i32_2372
  let v3142 : BitVec 32 := Scalar.extui v3141
  let c0_i32_2373 : BitVec 32 := 0#32
  let v3143 : BitVec 1 := Scalar.cmpi .ne v3142 c0_i32_2373
  v3143

def k0_off99 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2390 : BitVec 32 := 32#32
  let v3157 : BitVec 32 := Scalar.muli v2 c32_i32_2390
  let c0_i32_2395 : BitVec 32 := 0#32
  ![v3157.toNat, 0]
def k0_cond96 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2388 : BitVec 32 := 31#32
  let v3154 : BitVec 1 := Scalar.cmpi .ne v2 c31_i32_2388
  let v3155 : BitVec 32 := Scalar.extui v3154
  let c0_i32_2389 : BitVec 32 := 0#32
  let v3156 : BitVec 1 := Scalar.cmpi .ne v3155 c0_i32_2389
  v3156

def k0_off100 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2390 : BitVec 32 := 32#32
  let v3157 : BitVec 32 := Scalar.muli v2 c32_i32_2390
  let c0_i32_2395 : BitVec 32 := 0#32
  ![v3157.toNat, 0]
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x1024x1024 : Shape := ⟨3, ![1, 1024, 1024]⟩
abbrev S1024x1024 : Shape := ⟨2, ![1024, 1024]⟩
abbrev S1x32768x8x128 : Shape := ⟨4, ![1, 32768, 8, 128]⟩
abbrev S1x1024x8x128 : Shape := ⟨4, ![1, 1024, 8, 128]⟩
abbrev S1024 : Shape := ⟨1, ![1024]⟩
abbrev S_ : Shape := ⟨0, ![]⟩
abbrev S1024x1 : Shape := ⟨2, ![1024, 1]⟩
abbrev S32768 : Shape := ⟨1, ![32768]⟩
abbrev S1x32768 : Shape := ⟨2, ![1, 32768]⟩
abbrev S1024x32768 : Shape := ⟨2, ![1024, 32768]⟩
abbrev S1x8x1024x32768 : Shape := ⟨4, ![1, 8, 1024, 32768]⟩
abbrev S1x1x1024x32768 : Shape := ⟨4, ![1, 1, 1024, 32768]⟩
abbrev S1x8x1024 : Shape := ⟨3, ![1, 8, 1024]⟩
abbrev S1x8x1024x1 : Shape := ⟨4, ![1, 8, 1024, 1]⟩
abbrev S1x1x1024x1 : Shape := ⟨4, ![1, 1, 1024, 1]⟩
abbrev S1x8x128x1024 : Shape := ⟨4, ![1, 8, 128, 1024]⟩

abbrev nBuf : Space → Nat
  | .hbm => 137
  | .vmem => 0
  | .smem => 0
  | _ => 0

abbrev hbmTy0_0 (i : Nat) : BufTy := match i % 128 with
  | 0 => ⟨S1x1024x1024, .f32⟩
  | 1 => ⟨S1024x1024, .f32⟩
  | 2 => ⟨S1x32768x8x128, .f32⟩
  | 3 => ⟨S1x32768x8x128, .f32⟩
  | 4 => ⟨S1024x1024, .f32⟩
  | 5 => ⟨S1x1024x1024, .f32⟩
  | 6 => ⟨S1x1024x8x128, .f32⟩
  | 7 => ⟨S1024, .i32⟩
  | 8 => ⟨S_, .i32⟩
  | 9 => ⟨S_, .i32⟩
  | 10 => ⟨S1024, .i32⟩
  | 11 => ⟨S1024, .i32⟩
  | 12 => ⟨S1024, .i32⟩
  | 13 => ⟨S_, .i32⟩
  | 14 => ⟨S1024, .i32⟩
  | 15 => ⟨S1024, .i1⟩
  | 16 => ⟨S1024, .i32⟩
  | 17 => ⟨S1024, .i32⟩
  | 18 => ⟨S_, .i32⟩
  | 19 => ⟨S1024, .i32⟩
  | 20 => ⟨S1024, .i1⟩
  | 21 => ⟨S1024, .i1⟩
  | 22 => ⟨S_, .i32⟩
  | 23 => ⟨S1024, .i32⟩
  | 24 => ⟨S1024, .i32⟩
  | 25 => ⟨S1024, .i32⟩
  | 26 => ⟨S1024x1, .i32⟩
  | 27 => ⟨S32768, .i32⟩
  | 28 => ⟨S_, .i32⟩
  | 29 => ⟨S_, .i32⟩
  | 30 => ⟨S32768, .i32⟩
  | 31 => ⟨S32768, .i32⟩
  | 32 => ⟨S32768, .i32⟩
  | 33 => ⟨S_, .i32⟩
  | 34 => ⟨S32768, .i32⟩
  | 35 => ⟨S32768, .i1⟩
  | 36 => ⟨S32768, .i32⟩
  | 37 => ⟨S32768, .i32⟩
  | 38 => ⟨S_, .i32⟩
  | 39 => ⟨S32768, .i32⟩
  | 40 => ⟨S32768, .i1⟩
  | 41 => ⟨S32768, .i1⟩
  | 42 => ⟨S_, .i32⟩
  | 43 => ⟨S32768, .i32⟩
  | 44 => ⟨S32768, .i32⟩
  | 45 => ⟨S32768, .i32⟩
  | 46 => ⟨S1x32768, .i32⟩
  | 47 => ⟨S1024x32768, .i32⟩
  | 48 => ⟨S1024x32768, .i32⟩
  | 49 => ⟨S1024x32768, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x32768, .i32⟩
  | 57 => ⟨S1x32768, .i32⟩
  | 58 => ⟨S_, .i32⟩
  | 59 => ⟨S1x32768, .i32⟩
  | 60 => ⟨S1x32768, .i1⟩
  | 61 => ⟨S_, .i32⟩
  | 62 => ⟨S1x32768, .i32⟩
  | 63 => ⟨S1x32768, .i1⟩
  | 64 => ⟨S_, .i32⟩
  | 65 => ⟨S_, .i1⟩
  | 66 => ⟨S1x32768, .i1⟩
  | 67 => ⟨S1x32768, .i1⟩
  | 68 => ⟨S1x32768, .i1⟩
  | 69 => ⟨S1x32768, .i32⟩
  | 70 => ⟨S1x32768, .i32⟩
  | 71 => ⟨S1x32768, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S1024x1, .i32⟩
  | 79 => ⟨S1024x1, .i32⟩
  | 80 => ⟨S_, .i32⟩
  | 81 => ⟨S1024x1, .i32⟩
  | 82 => ⟨S1024x1, .i1⟩
  | 83 => ⟨S_, .i32⟩
  | 84 => ⟨S1024x1, .i32⟩
  | 85 => ⟨S1024x1, .i1⟩
  | 86 => ⟨S_, .i32⟩
  | 87 => ⟨S_, .i1⟩
  | 88 => ⟨S1024x1, .i1⟩
  | 89 => ⟨S1024x1, .i1⟩
  | 90 => ⟨S1024x1, .i1⟩
  | 91 => ⟨S1024x1, .i32⟩
  | 92 => ⟨S1024x1, .i32⟩
  | 93 => ⟨S1024x1, .i32⟩
  | 94 => ⟨S1024x32768, .i32⟩
  | 95 => ⟨S1024x32768, .i32⟩
  | 96 => ⟨S1024x32768, .i1⟩
  | 97 => ⟨S1024x32768, .i1⟩
  | 98 => ⟨S1x8x1024x32768, .f32⟩
  | 99 => ⟨S_, .f32⟩
  | 100 => ⟨S1x8x1024x32768, .f32⟩
  | 101 => ⟨S1x8x1024x32768, .f32⟩
  | 102 => ⟨S1x1x1024x32768, .i1⟩
  | 103 => ⟨S_, .f32⟩
  | 104 => ⟨S_, .f32⟩
  | 105 => ⟨S1x8x1024x32768, .i1⟩
  | 106 => ⟨S1x8x1024x32768, .f32⟩
  | 107 => ⟨S1x8x1024x32768, .f32⟩
  | 108 => ⟨S_, .f32⟩
  | 109 => ⟨S1x8x1024, .f32⟩
  | 110 => ⟨S1x8x1024x1, .f32⟩
  | 111 => ⟨S1x8x1024x32768, .f32⟩
  | 112 => ⟨S1x8x1024x32768, .f32⟩
  | 113 => ⟨S1x8x1024x32768, .f32⟩
  | 114 => ⟨S_, .i1⟩
  | 115 => ⟨S1024, .i1⟩
  | 116 => ⟨S1x1x1024x1, .i1⟩
  | 117 => ⟨S_, .f32⟩
  | 118 => ⟨S1x8x1024, .f32⟩
  | 119 => ⟨S1x8x1024x1, .f32⟩
  | 120 => ⟨S_, .f32⟩
  | 121 => ⟨S_, .f32⟩
  | 122 => ⟨S1x8x1024x1, .i1⟩
  | 123 => ⟨S1x8x1024x1, .f32⟩
  | 124 => ⟨S1x8x1024x1, .f32⟩
  | 125 => ⟨S1x8x1024x32768, .f32⟩
  | 126 => ⟨S1x8x1024x32768, .f32⟩
  | 127 => ⟨S1x1x1024x1, .i1⟩
  | _ => ⟨S1x1024x1024, .f32⟩

abbrev hbmTy0_1 (i : Nat) : BufTy := match i % 128 with
  | 0 => ⟨S_, .f32⟩
  | 1 => ⟨S_, .f32⟩
  | 2 => ⟨S1x8x1024x32768, .i1⟩
  | 3 => ⟨S1x8x1024x32768, .f32⟩
  | 4 => ⟨S1x8x1024x32768, .f32⟩
  | 5 => ⟨S1x8x128x1024, .f32⟩
  | 6 => ⟨S1x1024x8x128, .f32⟩
  | 7 => ⟨S1x1024x1024, .f32⟩
  | 8 => ⟨S1x1024x1024, .f32⟩
  | _ => ⟨S1x1024x1024, .f32⟩

abbrev hbmTy (i : Nat) : BufTy := match i / 128 with
  | 0 => hbmTy0_0 i
  | 1 => hbmTy0_1 i
  | _ => ⟨S1x1024x1024, .f32⟩

abbrev bufTy : (tb : Table) → Fin (tcTables nBuf tb) → BufTy
  | .hbm, ⟨i, _⟩ => hbmTy i
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Steps.lean ====
/- The body of the kernel told as loops: the same memory operations, signals, copies and waits in the same order, each
   written once as a function of the device, the class, the head or the block that it serves. -/
module

public import proofs.«01_k».proof.Proof.Gen.KernelIdeal.Skeleton
public import proofs.«01_k».proof.Proof.Gen.KernelIdeal.Frame

@[expose] public section

set_option maxRecDepth 16384

noncomputable section

namespace Cert.KernelIdeal.Att

open Idealize.ShloMosaic Idealize.ShloMosaic.TcCoe Idealize.SL.Sem
open Cert.KernelIdeal Cert.KernelIdeal.Gen

variable {F : FTy → Type} [FloatOps F]

/-! ## The values -/

theorem cls_slices2 : ∀ c g : Fin 4, S1024x1024.Slices ![64 * c.val + 256 * g.val, 0] S64x1024 := by decide
theorem cls_slices3 : ∀ c g : Fin 4, S1024x8x128.Slices ![64 * c.val + 256 * g.val, 0, 0] S64x8x128 := by decide
theorem head_slices2 : ∀ h : Fin 8, S256x1024.Slices ![0, 128 * h.val] S256x128 := by decide
theorem head_slices3 : ∀ h : Fin 8, S256x8x128.Slices ![0, h.val, 0] S256x1x128 := by decide
theorem blk_slices128 : ∀ g : Fin 4, S256x128.Slices ![64 * g.val, 0] S64x128 := by decide
theorem blk_slices8 : ∀ g : Fin 4, S256x8.Slices ![64 * g.val, 0] S64x8 := by decide

/-- The query rows of class `c`: its four blocks of 64 rows, one under the other. -/
def clsRows (q : FVec F S1024x1024 .f32) (c : Fin 4) : FVec F S256x1024 .f32 :=
  concatenate S256x1024 0
    [⟨S64x1024, extractStridedSlice S64x1024 ![64 * c.val + 256 * (0 : Fin 4).val, 0] q (cls_slices2 c 0)⟩,
     ⟨S64x1024, extractStridedSlice S64x1024 ![64 * c.val + 256 * (1 : Fin 4).val, 0] q (cls_slices2 c 1)⟩,
     ⟨S64x1024, extractStridedSlice S64x1024 ![64 * c.val + 256 * (2 : Fin 4).val, 0] q (cls_slices2 c 2)⟩,
     ⟨S64x1024, extractStridedSlice S64x1024 ![64 * c.val + 256 * (3 : Fin 4).val, 0] q (cls_slices2 c 3)⟩]
    concatenates_S64x1024_S64x1024_S64x1024_S64x1024_S256x1024_d0

/-- The key or value rows of class `c`, head by head. -/
def clsKeys (k : FVec F S1024x8x128 .f32) (c : Fin 4) : FVec F S256x8x128 .f32 :=
  concatenate S256x8x128 0
    [⟨S64x8x128, extractStridedSlice S64x8x128 ![64 * c.val + 256 * (0 : Fin 4).val, 0, 0] k (cls_slices3 c 0)⟩,
     ⟨S64x8x128, extractStridedSlice S64x8x128 ![64 * c.val + 256 * (1 : Fin 4).val, 0, 0] k (cls_slices3 c 1)⟩,
     ⟨S64x8x128, extractStridedSlice S64x8x128 ![64 * c.val + 256 * (2 : Fin 4).val, 0, 0] k (cls_slices3 c 2)⟩,
     ⟨S64x8x128, extractStridedSlice S64x8x128 ![64 * c.val + 256 * (3 : Fin 4).val, 0, 0] k (cls_slices3 c 3)⟩]
    concatenates_S64x8x128_S64x8x128_S64x8x128_S64x8x128_S256x8x128_d0

/-- One head's columns of the key or value rows. -/
def headKeys (k : FVec F S256x8x128 .f32) (h : Fin 8) : FVec F S256x128 .f32 :=
  shapeCast S256x128 (extractStridedSlice S256x1x128 ![0, h.val, 0] k (head_slices3 h)) shapeCasts_S256x1x128_S256x128

/-- The scaled scores of one head. -/
def scores (q : FVec F S256x1024 .f32) (k : FVec F S256x8x128 .f32) (h : Fin 8) : FVec F S256x256 .f32 :=
  mulf (matmul dot_S256x128_S256x128_S256x256_1_1_0_0_n_n none
      (extractStridedSlice S256x128 ![0, 128 * h.val] q (head_slices2 h)) (headKeys k h)
      (constant S256x256 .f32 0x00000000#32))
    (broadcast S256x256 (Scalar.ofBits .f32 0x3DB504F3#32))

/-- The largest score of each row. -/
def rowMax (s : FVec F S256x256 .f32) : FVec F S256 .f32 :=
  multiReduction .maximumf [1] S256 s 0xFF800000#32 reduces_S256x256_S256 (.inl rfl) rfl

/-- The exponentials of the scores less their row's largest. -/
def rowExp (s : FVec F S256x256 .f32) : FVec F S256x256 .f32 :=
  exp (subf s (broadcastTo S256x256 (shapeCast S256x1 (rowMax s) shapeCasts_S256_S256x1) broadcasts_S256x1_S256x256))

/-- Their sum over each row. -/
def rowSum (s : FVec F S256x256 .f32) : FVec F S256 .f32 :=
  multiReduction .add [1] S256 (rowExp s) 0x00000000#32 reduces_S256x256_S256 (.inl rfl) rfl

/-- The values weighed by the exponentials. -/
def rowVal (s : FVec F S256x256 .f32) (v : FVec F S256x128 .f32) : FVec F S256x128 .f32 :=
  matmul dot_S256x256_S256x128_S256x128_1_0_0_1_n_n none (rowExp s) v (constant S256x128 .f32 0x00000000#32)

/-- Eight columns side by side. -/
def cols8 (f : Fin 8 → FVec F S256 .f32) : FVec F S256x8 .f32 :=
  concatenate S256x8 1
    [⟨S256x1, shapeCast S256x1 (f 0) shapeCasts_S256_S256x1⟩, ⟨S256x1, shapeCast S256x1 (f 1) shapeCasts_S256_S256x1⟩,
     ⟨S256x1, shapeCast S256x1 (f 2) shapeCasts_S256_S256x1⟩, ⟨S256x1, shapeCast S256x1 (f 3) shapeCasts_S256_S256x1⟩,
     ⟨S256x1, shapeCast S256x1 (f 4) shapeCasts_S256_S256x1⟩, ⟨S256x1, shapeCast S256x1 (f 5) shapeCasts_S256_S256x1⟩,
     ⟨S256x1, shapeCast S256x1 (f 6) shapeCasts_S256_S256x1⟩, ⟨S256x1, shapeCast S256x1 (f 7) shapeCasts_S256_S256x1⟩]
    concatenates_S256x1_S256x1_S256x1_S256x1_S256x1_S256x1_S256x1_S256x1_S256x8_d1

/-- The scores of class `c` and head `h`. -/
def clsScores (q : FVec F S1024x1024 .f32) (k : FVec F S1024x8x128 .f32) (c : Fin 4) (h : Fin 8) : FVec F S256x256 .f32 :=
  scores (clsRows q c) (clsKeys k c) h

/-- The weighed values of class `c`, head `h` and its block `g`, as stored. -/
def nPiece (q : FVec F S1024x1024 .f32) (k v : FVec F S1024x8x128 .f32) (c : Fin 4) (h : Fin 8) (g : Fin 4) : FVec F S64x128 .bf16 :=
  shapeCast S64x128 (truncf .bf16
    (extractStridedSlice S64x128 ![64 * g.val, 0] (rowVal (clsScores q k c h) (headKeys (clsKeys v c) h)) (blk_slices128 g))
    bitsLt_bf16_f32) shapeCasts_S64x128_S64x128

/-- The row maxima (`b` false) or the row sums (`b` true) of class `c` and its block `g`, as stored. -/
def mlPiece (q : FVec F S1024x1024 .f32) (k : FVec F S1024x8x128 .f32) (c : Fin 4) (g : Fin 4) (b : Bool) : FVec F S64x8 .f32 :=
  shapeCast S64x8 (extractStridedSlice S64x8 ![64 * g.val, 0]
    (cols8 fun h => bif b then rowSum (clsScores q k c h) else rowMax (clsScores q k c h)) (blk_slices8 g)) shapeCasts_S64x8_S64x8

/-! ## The buffers, their parts and the semaphores -/

theorem row_inb : ∀ j : Fin 32, ∀ a, (![32 * j.val, 0] : Fin 2 → Nat) a + S32x1024.size a ≤ S1024x1024.size a := by decide
theorem rowml_inb : ∀ j : Fin 32, ∀ a, (![32 * j.val, 0] : Fin 2 → Nat) a + S32x16.size a ≤ S1024x16.size a := by decide
theorem slotn_inb : ∀ j : Fin 32, ∀ a, (![j.val, 0, 0] : Fin 3 → Nat) a + S1x32x1024.size a ≤ S32x32x1024.size a := by decide
theorem slotml_inb : ∀ j : Fin 32, ∀ a, (![j.val, 0, 0] : Fin 3 → Nat) a + S1x32x16.size a ≤ S32x32x16.size a := by decide
theorem sem_inb : ∀ j : Fin 32, ∀ a, (![j.val] : Fin 1 → Nat) a + S1.size a ≤ S32.size a := by decide
theorem row_words : ∀ j : Fin 32, (Rect.unit (s := S1024x1024) ![32 * j.val, 0] S32x1024.size (row_inb j)).WholeWords (EltTy.packing .bf16) := by
  decide +kernel
theorem slotn_words : ∀ j : Fin 32, (Rect.unit (s := S32x32x1024) ![j.val, 0, 0] S1x32x1024.size (slotn_inb j)).WholeWords (EltTy.packing .bf16) := by
  decide +kernel
theorem own_words : ∀ d : Dev nD, (Rect.unit (s := S1024x1024) (k0_off4 d) S32x1024.size (k0_off4_inb d)).WholeWords (EltTy.packing .bf16) := by
  decide +kernel
theorem nst_inb : ∀ (c : Fin 4) (h : Fin 8) (g : Fin 4), ∀ a, (![64 * c.val + 256 * g.val, 128 * h.val] : Fin 2 → Nat) a + S64x128.size a ≤ S1024x1024.size a := by
  decide
theorem nst_packed : ∀ (c : Fin 4) (h : Fin 8) (g : Fin 4), (Rect.unit (s := S1024x1024) ![64 * c.val + 256 * g.val, 128 * h.val] S64x128.size (nst_inb c h g)).PackedRows (EltTy.packing .bf16) := by
  decide +kernel
theorem mlst_inb : ∀ (c : Fin 4) (g : Fin 4) (b : Bool), ∀ a, (![64 * c.val + 256 * g.val, bif b then 8 else 0] : Fin 2 → Nat) a + S64x8.size a ≤ S1024x16.size a := by
  decide

abbrev Bd : Type → Type 1 := Prog (TpuEff nD τ sig (Elt F) Λ₀ .tc)

/-- The weighed values' rows for device `j`. -/
abbrev nRows (j : Fin 32) : Memref sig .tc .vmem S32x1024 .bf16 :=
  (Memref.whole cc0_scratch0).slice (Rect.unit (s := S1024x1024) ![32 * j.val, 0] S32x1024.size (row_inb j)) (fun _ => rfl)
/-- The maxima's and sums' rows for device `j`. -/
abbrev mlRows (j : Fin 32) : Memref sig .tc .vmem S32x16 .f32 :=
  (Memref.whole cc0_scratch1).slice (Rect.unit (s := S1024x16) ![32 * j.val, 0] S32x16.size (rowml_inb j)) (fun _ => rfl)
/-- Where the weighed values from device `j` land. -/
abbrev nSlot (j : Fin 32) : Memref sig .tc .vmem S32x1024 .bf16 :=
  ((Memref.whole cc0_scratch2).slice (Rect.unit (s := S32x32x1024) ![j.val, 0, 0] S1x32x1024.size (slotn_inb j)) (fun _ => rfl)).squeeze S32x1024 squeezes_S1x32x1024_S32x1024
/-- Where the maxima and sums from device `j` land. -/
abbrev mlSlot (j : Fin 32) : Memref sig .tc .vmem S32x16 .f32 :=
  ((Memref.whole cc0_scratch3).slice (Rect.unit (s := S32x32x16) ![j.val, 0, 0] S1x32x16.size (slotml_inb j)) (fun _ => rfl)).squeeze S32x16 squeezes_S1x32x16_S32x16
/-- The same two slots, at the number that device `d` computes for itself. -/
abbrev nSlotMy (d : Dev nD) : Memref sig .tc .vmem S32x1024 .bf16 :=
  ((Memref.whole cc0_scratch2).slice (Rect.unit (s := S32x32x1024) (k0_off2 d) S1x32x1024.size (k0_off2_inb d)) (fun _ => rfl)).squeeze S32x1024 squeezes_S1x32x1024_S32x1024
abbrev mlSlotMy (d : Dev nD) : Memref sig .tc .vmem S32x16 .f32 :=
  ((Memref.whole cc0_scratch3).slice (Rect.unit (s := S32x32x16) (k0_off3 d) S1x32x16.size (k0_off3_inb d)) (fun _ => rfl)).squeeze S32x16 squeezes_S1x32x16_S32x16
/-- The gathered rows of device `j`, and device `d`'s own. -/
abbrev agRows (j : Fin 32) : Memref sig .tc .vmem S32x1024 .bf16 :=
  (Memref.whole cc0_scratch4).slice (Rect.unit (s := S1024x1024) ![32 * j.val, 0] S32x1024.size (row_inb j)) (fun _ => rfl)
abbrev agMy (d : Dev nD) : Memref sig .tc .vmem S32x1024 .bf16 :=
  (Memref.whole cc0_scratch4).slice (Rect.unit (s := S1024x1024) (k0_off4 d) S32x1024.size (k0_off4_inb d)) (fun _ => rfl)

/-- The barrier semaphore. -/
abbrev barSem : Sem sig := (SemArray.scalar (sig.barrier 0 rfl) : Sems sig S_).sem
/-- The `j`-th semaphore of an array of 32. -/
abbrev semAt (A : DmaSems sig S32) (j : Fin 32) : DmaSem sig :=
  ((A.slice (Rect.unit (s := S32) ![j.val] S1.size (sem_inb j))).squeeze S_ squeezes_S1_S_).sem
/-- The semaphore at the number that device `d` computes for itself. -/
abbrev semMy (A : DmaSems sig S32) (d : Dev nD) : DmaSem sig :=
  ((A.slice (Rect.unit (s := S32) (k0_off1 d) S1.size (k0_off1_inb d))).squeeze S_ squeezes_S1_S_).sem

/-! ## The steps -/

/-- Do `f` for each member of a list, in order. -/
def each {A : Type} (f : A → Bd (F := F) PUnit) : List A → Bd (F := F) PUnit
  | [] => pure ⟨⟩
  | a :: l => do f a; each f l

/-- The number that device `d` computes for itself. -/
def myWord (d : Dev nD) : BitVec 32 := Scalar.remsi (Scalar.divsi (Dev.word d) 1#32) 32#32
/-- The kernel's test that a device is not device `j`. -/
def isOther (d : Dev nD) (j : Fin 32) : BitVec 1 :=
  Scalar.cmpi .ne (Scalar.extui (Scalar.cmpi .ne (myWord d) (BitVec.ofNat 32 j.val))) 0#32

/-- Signal device `j`'s barrier. -/
def signalStep (j : Fin 32) : Bd (F := F) PUnit :=
  semSignalWord (j : Dev nD) barSem 1#32

/-- Read, then overwrite, the weighed values of class `c`, head `h`, block `g`. -/
def nStore (q : FVec F S1024x1024 .f32) (k v : FVec F S1024x8x128 .f32) (c : Fin 4) (x : Fin 8 × Fin 4) : Bd (F := F) PUnit := do
  let _ : Vec F S64x128 .bf16 ← Prog.lift (.load (Memref.whole cc0_scratch0) (Rect.unit (s := S1024x1024) ![64 * c.val + 256 * x.2.val, 128 * x.1.val] S64x128.size (nst_inb c x.1 x.2)).toLoadRect (View.loadsAt_vmem h_S64x128))
  Prog.lift (.store (Memref.whole cc0_scratch0) (Rect.unit (s := S1024x1024) ![64 * c.val + 256 * x.2.val, 128 * x.1.val] S64x128.size (nst_inb c x.1 x.2)) (nPiece q k v c x.1 x.2) Finset.univ (View.stores_vmem h_S64x128 ((Memref.isWhole_whole cc0_scratch0).storeExact_slice rfl _ (nst_packed c x.1 x.2)) (fun _ => rfl)) (.inl rfl))

/-- Read, then overwrite, the maxima or the sums of class `c`, block `g`. -/
def mlStore (q : FVec F S1024x1024 .f32) (k : FVec F S1024x8x128 .f32) (c : Fin 4) (x : Fin 4 × Bool) : Bd (F := F) PUnit := do
  let _ : Vec F S64x8 .f32 ← Prog.lift (.load (Memref.whole cc0_scratch1) (Rect.unit (s := S1024x16) ![64 * c.val + 256 * x.1.val, bif x.2 then 8 else 0] S64x8.size (mlst_inb c x.1 x.2)).toLoadRect (View.loadsAt_vmem h_S64x8))
  Prog.lift (.store (Memref.whole cc0_scratch1) (Rect.unit (s := S1024x16) ![64 * c.val + 256 * x.1.val, bif x.2 then 8 else 0] S64x8.size (mlst_inb c x.1 x.2)) (mlPiece q k c x.1 x.2) Finset.univ (View.stores_vmem_bits_univ h_S64x8 rfl) (.inl rfl))

/-- Send device `j` its rows of the weighed values and of the maxima and sums. -/
def sendStep (d : Dev nD) (j : Fin 32) : Bd (F := F) PUnit := do
  Prog.lift (.enqueueDma (nRows j) (.remote (Dev.tc (j : Dev nD)) (nSlotMy d) (.dma (semAt cc0_scratch5 j))) (.dma (semMy cc0_scratch6 d)) ((Memref.isWhole_whole cc0_scratch0).wordExact_slice rfl _ (row_words j)) (((Memref.isWhole_whole cc0_scratch2).wordExact_slice rfl _ (k0_off2_wordsbf16 d)).reshape _ _) ⟨⟨rfl, Or.inl rfl⟩, trivial⟩)
  Prog.lift (.enqueueDma (mlRows j) (.remote (Dev.tc (j : Dev nD)) (mlSlotMy d) (.dma (semAt cc0_scratch7 j))) (.dma (semMy cc0_scratch8 d)) (View.wordExact_bits rfl) ((View.wordExact_bits rfl).reshape _ _) ⟨⟨rfl, Or.inl rfl⟩, trivial⟩)

/-- The devices served by class `c`, in the order of the sends. -/
def clsDevs (c : Fin 4) : List (Fin 32) :=
  [0, 1, 2, 3].flatMap fun g : Fin 4 => [0, 1].map fun i : Fin 2 => ⟨2 * c.val + 8 * g.val + i.val, by omega⟩

/-- Class `c`: its weighed values, its maxima and sums, its sends. -/
def clsStep (q : FVec F S1024x1024 .f32) (k v : FVec F S1024x8x128 .f32) (d : Dev nD) (c : Fin 4) : Bd (F := F) PUnit := do
  each (nStore q k v c) ((List.finRange 8).flatMap fun h => (List.finRange 4).map fun g => (h, g))
  each (mlStore q k c) ((List.finRange 4).flatMap fun g => [(g, false), (g, true)])
  each (sendStep d) (clsDevs c)

/-- Wait for what device `j` sends. -/
def recvStep (j : Fin 32) : Bd (F := F) PUnit := do
  Prog.lift (.waitDma2 (semAt cc0_scratch6 j) (nSlot j) (nSlot j) (((Memref.isWhole_whole cc0_scratch2).wordExact_slice rfl _ (slotn_words j)).reshape _ _) (((Memref.isWhole_whole cc0_scratch2).wordExact_slice rfl _ (slotn_words j)).reshape _ _))
  Prog.lift (.waitDma2 (semAt cc0_scratch8 j) (mlRows j) (mlSlot j) (View.wordExact_bits rfl) ((View.wordExact_bits rfl).reshape _ _))

/-- Send device `j` this device's result rows, unless it is this device. -/
def agSendStep (d : Dev nD) (j : Fin 32) : Bd (F := F) PUnit :=
  if isOther d j = 1#1 then do
    Prog.lift (.enqueueDma (agMy d) (.remote (Dev.tc (j : Dev nD)) (agMy d) (.dma (semAt cc0_scratch9 j))) (.dma (semMy cc0_scratch10 d)) ((Memref.isWhole_whole cc0_scratch4).wordExact_slice rfl _ (own_words d)) ((Memref.isWhole_whole cc0_scratch4).wordExact_slice rfl _ (own_words d)) ⟨⟨rfl, Or.inl rfl⟩, trivial⟩)
    pure ⟨⟩
  else pure ⟨⟩

/-- Wait for device `j`'s result rows, unless it is this device. -/
def agRecvStep (d : Dev nD) (j : Fin 32) : Bd (F := F) PUnit :=
  if isOther d j = 1#1 then do
    Prog.lift (.waitDma2 (semAt cc0_scratch10 j) (agRows j) (agRows j) ((Memref.isWhole_whole cc0_scratch4).wordExact_slice rfl _ (row_words j)) ((Memref.isWhole_whole cc0_scratch4).wordExact_slice rfl _ (row_words j)))
    pure ⟨⟩
  else pure ⟨⟩

/-- Wait until this device's copies to device `j` have left. -/
def doneStep (d : Dev nD) (j : Fin 32) : Bd (F := F) PUnit := do
  Prog.lift (.waitDma2 (semAt cc0_scratch5 j) (nSlotMy d) (nRows j) (((Memref.isWhole_whole cc0_scratch2).wordExact_slice rfl _ (k0_off2_wordsbf16 d)).reshape _ _) ((Memref.isWhole_whole cc0_scratch0).wordExact_slice rfl _ (row_words j)))
  Prog.lift (.waitDma2 (semAt cc0_scratch7 j) (mlSlotMy d) (mlRows j) ((View.wordExact_bits rfl).reshape _ _) (View.wordExact_bits rfl))
  if isOther d j = 1#1 then do
    Prog.lift (.waitDma2 (semAt cc0_scratch9 j) (agMy d) (agMy d) ((Memref.isWhole_whole cc0_scratch4).wordExact_slice rfl _ (own_words d)) ((Memref.isWhole_whole cc0_scratch4).wordExact_slice rfl _ (own_words d)))
    pure ⟨⟩
  else pure ⟨⟩

/-- The merge of what all devices sent, its product with the output weights stored among the gathered rows. -/
def mergeStep (d : Dev nD) : Bd (F := F) PUnit := do
  let n : Vec F S32x32x1024 .bf16 ← Prog.lift (.load (Memref.whole cc0_scratch2) (Rect.unit (s := S32x32x1024) ![0, 0, 0] S32x32x1024.size inb_S32x32x1024_S32x32x1024_0_0_0).toLoadRect (View.loadsAt_vmem h_S32x32x1024))
  let mx : Vec F S32x32x8 .f32 ← Prog.lift (.load (Memref.whole cc0_scratch3) (Rect.unit (s := S32x32x16) ![0, 0, 0] S32x32x8.size inb_S32x32x16_S32x32x8_0_0_0).toLoadRect (View.loadsAt_vmem h_S32x32x8))
  let l : Vec F S32x32x8 .f32 ← Prog.lift (.load (Memref.whole cc0_scratch3) (Rect.unit (s := S32x32x16) ![0, 0, 8] S32x32x8.size inb_S32x32x16_S32x32x8_0_0_8).toLoadRect (View.loadsAt_vmem h_S32x32x8))
  let wo : Vec F S1024x1024 .f32 ← Prog.lift (.load (win0_4.stage 0) (Rect.unit (s := S1024x1024) ![0, 0] S1024x1024.size inb_S1024x1024_S1024x1024_0_0).toLoadRect (View.loadsAt_vmem h_S1024x1024))
  let _ : Vec F S32x1024 .bf16 ← Prog.lift (.load (Memref.whole cc0_scratch4) (Rect.unit (s := S1024x1024) (k0_off4 d) S32x1024.size (k0_off4_inb d)).toLoadRect (View.loadsAt_vmem h_S32x1024))
  Prog.lift (.store (Memref.whole cc0_scratch4) (Rect.unit (s := S1024x1024) (k0_off4 d) S32x1024.size (k0_off4_inb d)) (k0_pay378 (k0_pay377 n mx l) wo) Finset.univ (View.stores_vmem h_S32x1024 ((Memref.isWhole_whole cc0_scratch4).storeExact_slice rfl _ (k0_off4_packedbf16 d)) (fun _ => rfl)) (.inl rfl))

/-- The gathered rows written out. -/
def outStep : Bd (F := F) PUnit := do
  let a : Vec F S1024x1024 .bf16 ← Prog.lift (.load (Memref.whole cc0_scratch4) (Rect.unit (s := S1024x1024) ![0, 0] S1024x1024.size inb_S1024x1024_S1024x1024_0_0).toLoadRect (View.loadsAt_vmem h_S1024x1024))
  let _ : Vec F S1x1024x1024 .f32 ← Prog.lift (.load (win0_5.stage 0) (Rect.unit (s := S1x1024x1024) ![0, 0, 0] S1x1024x1024.size inb_S1x1024x1024_S1x1024x1024_0_0_0).toLoadRect (View.loadsAt_vmem h_S1x1024x1024))
  Prog.lift (.store (win0_5.stage 0) (Rect.unit (s := S1x1024x1024) ![0, 0, 0] S1x1024x1024.size inb_S1x1024x1024_S1x1024x1024_0_0_0) (k0_pay379 a) Finset.univ (View.stores_vmem_bits_univ h_S1x1024x1024 rfl) (.inl rfl))

/-- The body on device `d`, once it has asked for its own number. -/
def bodyOf (d : Dev nD) : Bd (F := F) PUnit := do
  each signalStep (List.finRange 32)
  semWaitWord barSem 32#32
  let x : Vec F S1x1024x1024 .f32 ← Prog.lift (.load (win0_0.stage 0) (Rect.unit (s := S1x1024x1024) ![0, 0, 0] S1x1024x1024.size inb_S1x1024x1024_S1x1024x1024_0_0_0).toLoadRect (View.loadsAt_vmem h_S1x1024x1024))
  let wq : Vec F S1024x1024 .f32 ← Prog.lift (.load (win0_1.stage 0) (Rect.unit (s := S1024x1024) ![0, 0] S1024x1024.size inb_S1024x1024_S1024x1024_0_0).toLoadRect (View.loadsAt_vmem h_S1024x1024))
  let k : Vec F S1x1024x8x128 .f32 ← Prog.lift (.load (win0_2.stage 0) (Rect.unit (s := S1x1024x8x128) ![0, 0, 0, 0] S1x1024x8x128.size inb_S1x1024x8x128_S1x1024x8x128_0_0_0_0).toLoadRect (View.loadsAt_vmem h_S1x1024x8x128))
  let v : Vec F S1x1024x8x128 .f32 ← Prog.lift (.load (win0_3.stage 0) (Rect.unit (s := S1x1024x8x128) ![0, 0, 0, 0] S1x1024x8x128.size inb_S1x1024x8x128_S1x1024x8x128_0_0_0_0).toLoadRect (View.loadsAt_vmem h_S1x1024x8x128))
  each (clsStep (k0_pay2 (k0_pay1 x) wq) (k0_pay3 k) (k0_pay4 v) d) (List.finRange 4)
  each recvStep (List.finRange 32)
  mergeStep d
  each (agSendStep d) (List.finRange 32)
  each (agRecvStep d) (List.finRange 32)
  outStep
  each (doneStep d) (List.finRange 32)

end Cert.KernelIdeal.Att

end
-- ==== Proof.Data.lean ====
/- What each buffer of the kernel holds once it is filled, and the elements of each part of a buffer. -/
module

public import proofs.«01_k».proof.Proof.Steps
public import Idealize.ShloMosaic.Lib.ValueIdxCore

@[expose] public section

set_option maxRecDepth 16384

noncomputable section

namespace Cert.KernelIdeal.Att

open Idealize.ShloMosaic Idealize.ShloMosaic.TcCoe Idealize.SL.Sem
open Idealize.ShloMosaic.ValueIdx
open Cert.KernelIdeal Cert.KernelIdeal.Gen

variable {F : FTy → Type} [FloatOps F]

variable (m : (ℓ : Loc nD τ sig) → Buf (Elt F) ℓ)

/-! ## The contents -/

/-- The class, the block within the class and the place within the block of row `r`. -/
def rowCls (r : ℕ) : Fin 4 := ⟨r / 64 % 4, by omega⟩
def rowBlk (r : ℕ) : Fin 4 := ⟨r / 256 % 4, by omega⟩
def rowIn (r : ℕ) : Fin 64 := ⟨r % 64, by omega⟩

/-- Device `d`'s queries, keys and values. -/
def qOf (d : Dev nD) : FVec F S1024x1024 .f32 := k0_pay2 (k0_pay1 (iblk m d 0 t0_0)) (iblk m d 1 t0_0)
def kOf (d : Dev nD) : FVec F S1024x8x128 .f32 := k0_pay3 (iblk m d 2 t0_0)
def vOf (d : Dev nD) : FVec F S1024x8x128 .f32 := k0_pay4 (iblk m d 3 t0_0)

/-- Device `d`'s weighed values, every query row and head. -/
def nFull (d : Dev nD) : (cc0_scratch0 : Ref sig .tc).ty.Contents (Elt F) := fun i =>
  nPiece (qOf m d) (kOf m d) (vOf m d) (rowCls (i 0).val) ⟨(i 1).val / 128, by have := idx2_lt1 (n0 := 1024) (n1 := 1024) i; omega⟩ (rowBlk (i 0).val)
    (ix2 (n0 := 64) (n1 := 128) (rowIn (i 0).val) ⟨(i 1).val % 128, by omega⟩)

/-- Device `d`'s row maxima and row sums, every query row and head. -/
def mlFull (d : Dev nD) : (cc0_scratch1 : Ref sig .tc).ty.Contents (Elt F) := fun i =>
  mlPiece (qOf m d) (kOf m d) (rowCls (i 0).val) (rowBlk (i 0).val) (decide (8 ≤ (i 1).val))
    (ix2 (n0 := 64) (n1 := 8) (rowIn (i 0).val) ⟨(i 1).val % 8, by omega⟩)

/-- Row `r` of the 32 rows that device `d` is to merge. -/
def myRow (d : Dev nD) (r : ℕ) (h : r < 32) : Fin 1024 := ⟨32 * d.val + r, by have := d.isLt; have : nD = 32 := rfl; omega⟩

/-- What all devices send device `d`: their weighed values' rows, -/
def rsN (d : Dev nD) : (cc0_scratch2 : Ref sig .tc).ty.Contents (Elt F) := fun i =>
  nFull m (i 0) (ix2 (n0 := 1024) (n1 := 1024) (myRow d (i 1).val (i 1).isLt) (i 2))
/-- and their maxima's and sums'. -/
def rsMl (d : Dev nD) : (cc0_scratch3 : Ref sig .tc).ty.Contents (Elt F) := fun i =>
  mlFull m (i 0) (ix2 (n0 := 1024) (n1 := 16) (myRow d (i 1).val (i 1).isLt) (i 2))

/-- The 32 result rows that device `d` computes from them. -/
def chunk (d : Dev nD) : FVec F S32x1024 .bf16 :=
  k0_pay378 (k0_pay377 (rsN m d)
    ((Memref.whole cc0_scratch3).view.readAt (Elt F) (Rect.unit (s := S32x32x16) ![0, 0, 0] S32x32x8.size inb_S32x32x16_S32x32x8_0_0_0).toLoadRect (rsMl m d))
    ((Memref.whole cc0_scratch3).view.readAt (Elt F) (Rect.unit (s := S32x32x16) ![0, 0, 8] S32x32x8.size inb_S32x32x16_S32x32x8_0_0_8).toLoadRect (rsMl m d)))
    (iblk m d 4 t0_0)

/-- All result rows, each from the device that computes it. -/
def agFull : (cc0_scratch4 : Ref sig .tc).ty.Contents (Elt F) := fun i =>
  chunk m (⟨(i 0).val / 32, by have := idx2_lt0 (n0 := 1024) (n1 := 1024) i; omega⟩ : Fin 32)
    (ix2 (n0 := 32) (n1 := 1024) ⟨(i 0).val % 32, by omega⟩ (i 1))

/-- The result. -/
def outFull : (cc0_stg5_0 : Ref sig .tc).ty.Contents (Elt F) := k0_pay379 (agFull m)

/-! ## The parts of the buffers -/

theorem off1_eq : ∀ d : Dev nD, k0_off1 d = ![d.val] := by decide +kernel
theorem off2_eq : ∀ d : Dev nD, k0_off2 d = ![d.val, 0, 0] := by decide +kernel
theorem off3_eq : ∀ d : Dev nD, k0_off3 d = ![d.val, 0, 0] := by decide +kernel
theorem off4_eq : ∀ d : Dev nD, k0_off4 d = ![32 * d.val, 0] := by decide +kernel

/-- The parts at a device's own number are the parts at that number. -/
theorem nSlotMy_eq : ∀ d : Dev nD, nSlotMy d = nSlot d := by intro d; fin_cases d <;> rfl
theorem mlSlotMy_eq : ∀ d : Dev nD, mlSlotMy d = mlSlot d := by intro d; fin_cases d <;> rfl
theorem agMy_eq : ∀ d : Dev nD, agMy d = agRows d := by intro d; fin_cases d <;> rfl

/-- The kernel's test holds of every device but its own. -/
theorem isOther_iff : ∀ (d : Dev nD) (j : Fin 32), isOther d j = 1#1 ↔ j ≠ d := by decide +kernel

/-! ### Where the parts lie -/

theorem nRows_emb (j : Fin 32) (x : S32x1024.Idx) :
    (nRows j).view.emb x = ix2 (n0 := 1024) (n1 := 1024) (myRow j (x 0).val (x 0).isLt) (x 1) := by
  funext a
  match a with
  | ⟨0, _⟩ => exact Fin.ext (show 32 * j.val + 1 * (x 0).val = 32 * j.val + (x 0).val by omega)
  | ⟨1, _⟩ => exact Fin.ext (show 0 + 1 * (x 1).val = (x 1).val by omega)

theorem agRows_emb (j : Fin 32) (x : S32x1024.Idx) :
    (agRows j).view.emb x = ix2 (n0 := 1024) (n1 := 1024) (myRow j (x 0).val (x 0).isLt) (x 1) := nRows_emb j x

theorem mlRows_emb (j : Fin 32) (x : S32x16.Idx) :
    (mlRows j).view.emb x = ix2 (n0 := 1024) (n1 := 16) (myRow j (x 0).val (x 0).isLt) (x 1) := by
  funext a
  match a with
  | ⟨0, _⟩ => exact Fin.ext (show 32 * j.val + 1 * (x 0).val = 32 * j.val + (x 0).val by omega)
  | ⟨1, _⟩ => exact Fin.ext (show 0 + 1 * (x 1).val = (x 1).val by omega)

theorem nSlot_emb (j : Fin 32) (x : S32x1024.Idx) :
    (nSlot j).view.emb x = ix3 (n0 := 32) (n1 := 32) (n2 := 1024) j (x 0) (x 1) := by
  have h : Shape.reshapeEquiv (squeezes_S1x32x1024_S32x1024).numel_eq x = (Fin.cons ⟨0, Nat.one_pos⟩ x : S1x32x1024.Idx) :=
    Shape.reshapeEquiv_cons_one (n := 2) (d := ![32, 1024]) _ x
  show (Rect.unit (s := S32x32x1024) ![j.val, 0, 0] S1x32x1024.size (slotn_inb j)).emb (Shape.reshapeEquiv (squeezes_S1x32x1024_S32x1024).numel_eq x) = _
  rw [h]
  funext a
  match a with
  | ⟨0, _⟩ => exact Fin.ext (show j.val + 1 * 0 = j.val by omega)
  | ⟨1, _⟩ => exact Fin.ext (show 0 + 1 * (x 0).val = (x 0).val by omega)
  | ⟨2, _⟩ => exact Fin.ext (show 0 + 1 * (x 1).val = (x 1).val by omega)

theorem mlSlot_emb (j : Fin 32) (x : S32x16.Idx) :
    (mlSlot j).view.emb x = ix3 (n0 := 32) (n1 := 32) (n2 := 16) j (x 0) (x 1) := by
  have h : Shape.reshapeEquiv (squeezes_S1x32x16_S32x16).numel_eq x = (Fin.cons ⟨0, Nat.one_pos⟩ x : S1x32x16.Idx) :=
    Shape.reshapeEquiv_cons_one (n := 2) (d := ![32, 16]) _ x
  show (Rect.unit (s := S32x32x16) ![j.val, 0, 0] S1x32x16.size (slotml_inb j)).emb (Shape.reshapeEquiv (squeezes_S1x32x16_S32x16).numel_eq x) = _
  rw [h]
  funext a
  match a with
  | ⟨0, _⟩ => exact Fin.ext (show j.val + 1 * 0 = j.val by omega)
  | ⟨1, _⟩ => exact Fin.ext (show 0 + 1 * (x 0).val = (x 0).val by omega)
  | ⟨2, _⟩ => exact Fin.ext (show 0 + 1 * (x 1).val = (x 1).val by omega)

/-- The elements of a part, told by its number. -/
theorem mem_nRows {j : Fin 32} {i : S1024x1024.Idx} : i ∈ (nRows j).view.set ↔ (i 0).val / 32 = j.val := by
  refine (Iff.of_eq (congrArg (fun S : Finset _ => i ∈ S) (View.set_slice_whole cc0_scratch0 (Rect.unit (s := S1024x1024) ![32 * j.val, 0] S32x1024.size (row_inb j))))).trans ?_
  refine Rect.mem_set_unit.trans (Fin.forall_fin_two.trans ?_)
  have h1 := idx2_lt1 (n0 := 1024) (n1 := 1024) i
  show (32 * j.val ≤ (i 0).val ∧ (i 0).val < 32 * j.val + 32) ∧ (0 ≤ (i 1).val ∧ (i 1).val < 0 + 1024) ↔ _
  omega

theorem mem_agRows {j : Fin 32} {i : S1024x1024.Idx} : i ∈ (agRows j).view.set ↔ (i 0).val / 32 = j.val := by
  refine (Iff.of_eq (congrArg (fun S : Finset _ => i ∈ S) (View.set_slice_whole cc0_scratch4 (Rect.unit (s := S1024x1024) ![32 * j.val, 0] S32x1024.size (row_inb j))))).trans ?_
  refine Rect.mem_set_unit.trans (Fin.forall_fin_two.trans ?_)
  have h1 := idx2_lt1 (n0 := 1024) (n1 := 1024) i
  show (32 * j.val ≤ (i 0).val ∧ (i 0).val < 32 * j.val + 32) ∧ (0 ≤ (i 1).val ∧ (i 1).val < 0 + 1024) ↔ _
  omega

theorem mem_mlRows {j : Fin 32} {i : S1024x16.Idx} : i ∈ (mlRows j).view.set ↔ (i 0).val / 32 = j.val := by
  refine (Iff.of_eq (congrArg (fun S : Finset _ => i ∈ S) (View.set_slice_whole cc0_scratch1 (Rect.unit (s := S1024x16) ![32 * j.val, 0] S32x16.size (rowml_inb j))))).trans ?_
  refine Rect.mem_set_unit.trans (Fin.forall_fin_two.trans ?_)
  have h1 := idx2_lt1 (n0 := 1024) (n1 := 16) i
  show (32 * j.val ≤ (i 0).val ∧ (i 0).val < 32 * j.val + 32) ∧ (0 ≤ (i 1).val ∧ (i 1).val < 0 + 16) ↔ _
  omega

theorem mem_nSlot {j : Fin 32} {i : S32x32x1024.Idx} : i ∈ (nSlot j).view.set ↔ (i 0).val = j.val := by
  refine (Iff.of_eq (congrArg (fun S : Finset _ => i ∈ S) ((View.set_reshape _ _).trans (View.set_slice_whole cc0_scratch2 (Rect.unit (s := S32x32x1024) ![j.val, 0, 0] S1x32x1024.size (slotn_inb j)))))).trans ?_
  rw [Rect.mem_set_unit]
  refine ⟨fun h => ?_, fun h a => ?_⟩
  · have h0 : j.val ≤ (i 0).val ∧ (i 0).val < j.val + 1 := h 0
    omega
  · match a with
    | ⟨0, _⟩ => exact show j.val ≤ (i 0).val ∧ (i 0).val < j.val + 1 by omega
    | ⟨1, _⟩ => exact ⟨Nat.zero_le _, show (i 1).val < 0 + 32 by have : (i 1).val < 32 := (i 1).isLt; omega⟩
    | ⟨2, _⟩ => exact ⟨Nat.zero_le _, show (i 2).val < 0 + 1024 by have : (i 2).val < 1024 := (i 2).isLt; omega⟩

theorem mem_mlSlot {j : Fin 32} {i : S32x32x16.Idx} : i ∈ (mlSlot j).view.set ↔ (i 0).val = j.val := by
  refine (Iff.of_eq (congrArg (fun S : Finset _ => i ∈ S) ((View.set_reshape _ _).trans (View.set_slice_whole cc0_scratch3 (Rect.unit (s := S32x32x16) ![j.val, 0, 0] S1x32x16.size (slotml_inb j)))))).trans ?_
  rw [Rect.mem_set_unit]
  refine ⟨fun h => ?_, fun h a => ?_⟩
  · have h0 : j.val ≤ (i 0).val ∧ (i 0).val < j.val + 1 := h 0
    omega
  · match a with
    | ⟨0, _⟩ => exact show j.val ≤ (i 0).val ∧ (i 0).val < j.val + 1 by omega
    | ⟨1, _⟩ => exact ⟨Nat.zero_le _, show (i 1).val < 0 + 32 by have : (i 1).val < 32 := (i 1).isLt; omega⟩
    | ⟨2, _⟩ => exact ⟨Nat.zero_le _, show (i 2).val < 0 + 16 by have : (i 2).val < 16 := (i 2).isLt; omega⟩

/-! ### What a copy leaves -/

/-- A landed copy of weighed values: what its sender holds for its receiver. -/
theorem nLand (c j : Fin 32) (fd : (cc0_scratch2 : Ref sig .tc).ty.Contents (Elt F)) :
    ∀ i ∈ (nSlot c).view.set, (nSlot c).view.write (Elt F) fd ((nRows j).view.read (Elt F) (nFull m c)) Finset.univ i = rsN m j i := by
  intro i hi
  obtain ⟨x, -, rfl⟩ := Finset.mem_map.mp hi
  rw [View.write_emb_of_mem _ _ (Finset.mem_univ _), View.read_apply]
  show nFull m c ((nRows j).view.emb x) = rsN m j ((nSlot c).view.emb x)
  rw [nRows_emb, nSlot_emb]
  rfl

/-- A landed copy of maxima and sums, likewise. -/
theorem mlLand (c j : Fin 32) (fd : (cc0_scratch3 : Ref sig .tc).ty.Contents (Elt F)) :
    ∀ i ∈ (mlSlot c).view.set, (mlSlot c).view.write (Elt F) fd ((mlRows j).view.read (Elt F) (mlFull m c)) Finset.univ i = rsMl m j i := by
  intro i hi
  obtain ⟨x, -, rfl⟩ := Finset.mem_map.mp hi
  rw [View.write_emb_of_mem _ _ (Finset.mem_univ _), View.read_apply]
  show mlFull m c ((mlRows j).view.emb x) = rsMl m j ((mlSlot c).view.emb x)
  rw [mlRows_emb, mlSlot_emb]
  rfl

/-- A landed copy of result rows: the same rows. -/
theorem agLand (c : Fin 32) (fd fs : (cc0_scratch4 : Ref sig .tc).ty.Contents (Elt F)) :
    ∀ i ∈ (agRows c).view.set, (agRows c).view.write (Elt F) fd ((agRows c).view.read (Elt F) fs) Finset.univ i = fs i := by
  intro i hi
  obtain ⟨x, -, rfl⟩ := Finset.mem_map.mp hi
  rw [View.write_emb_of_mem _ _ (Finset.mem_univ _), View.read_apply]
  rfl

/-- A device's own result rows, once stored. -/
theorem agStored (d : Fin 32) (fd : (cc0_scratch4 : Ref sig .tc).ty.Contents (Elt F)) :
    ∀ i ∈ (agRows d).view.set, (agRows d).view.write (Elt F) fd (chunk m d) Finset.univ i = agFull m i := by
  intro i hi
  obtain ⟨x, -, rfl⟩ := Finset.mem_map.mp hi
  rw [View.write_emb_of_mem _ _ (Finset.mem_univ _), agRows_emb]
  have h0 := idx2_lt0 (n0 := 32) (n1 := 1024) x
  have h1 : (⟨(32 * d.val + (x 0).val) / 32, by have := d.isLt; omega⟩ : Fin 32) = d := Fin.ext (by show _ / 32 = _; omega)
  show chunk m d x = chunk m (⟨(32 * d.val + (x 0).val) / 32, _⟩ : Fin 32) (ix2 (n0 := 32) (n1 := 1024) ⟨(32 * d.val + (x 0).val) % 32, _⟩ (x 1))
  rw [h1]
  congr 1
  funext a
  match a with
  | ⟨0, _⟩ => exact Fin.ext (show (x 0).val = (32 * d.val + (x 0).val) % 32 by omega)
  | ⟨1, _⟩ => rfl

end Cert.KernelIdeal.Att

end
-- ==== Proof.Proto.lean ====
/- The protocol: for each semaphore of each device who pays into it, how much, and which part of which buffer, with which
   contents, the payment hands over; what each device owes; the order in which semaphores may wait. -/
module

public import proofs.«01_k».proof.Proof.Data
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's and the exchange's, whose payments are named by devices -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

/-- The exchange's own semaphores: six arrays of 32. -/
abbrev Own : Type := Fin 6 × Fin 32

/-- The number of an own semaphore among all. -/
abbrev osem (k : Own) : SemLoc sig := .dma (⟨6 + 32 * k.1.val + k.2.val, by have : sig.nDmaSem = 198 := rfl; omega⟩ : DmaSem sig)
/-- All semaphores of the exchange: the barrier's and the own ones. -/
abbrev csem : Option Own → SemLoc sig
  | none => .reg barSem
  | some k => osem k
abbrev kcell (ck : Dev nD × Option Own) : GSem nD τ sig := ((ck.1 : Thread nD τ), csem ck.2)

theorem sem5 : ∀ j : Fin 32, SemLoc.dma (semAt cc0_scratch5 j) = osem (0, j) := by decide +kernel
theorem sem6 : ∀ j : Fin 32, SemLoc.dma (semAt cc0_scratch6 j) = osem (1, j) := by decide +kernel
theorem sem7 : ∀ j : Fin 32, SemLoc.dma (semAt cc0_scratch7 j) = osem (2, j) := by decide +kernel
theorem sem8 : ∀ j : Fin 32, SemLoc.dma (semAt cc0_scratch8 j) = osem (3, j) := by decide +kernel
theorem sem9 : ∀ j : Fin 32, SemLoc.dma (semAt cc0_scratch9 j) = osem (4, j) := by decide +kernel
theorem sem10 : ∀ j : Fin 32, SemLoc.dma (semAt cc0_scratch10 j) = osem (5, j) := by decide +kernel
theorem semMy6 : ∀ d : Dev nD, SemLoc.dma (semMy cc0_scratch6 d) = osem (1, d) := by decide +kernel
theorem semMy8 : ∀ d : Dev nD, SemLoc.dma (semMy cc0_scratch8 d) = osem (3, d) := by decide +kernel
theorem semMy10 : ∀ d : Dev nD, SemLoc.dma (semMy cc0_scratch10 d) = osem (5, d) := by decide +kernel

/-- Which semaphore of the exchange a semaphore is, if any. -/
def dec : SemLoc sig → Option (Option Own)
  | .reg s => if s = barSem then some none else none
  | .dma q => if h : 6 ≤ q.val ∧ q.val < 198 then some (some (⟨(q.val - 6) / 32, by omega⟩, ⟨(q.val - 6) % 32, by omega⟩)) else none

theorem dec_csem (k : Option Own) : dec (csem k) = some k := by
  match k with
  | none => show (if barSem = barSem then some (none : Option Own) else none) = some none; exact if_pos rfl
  | some (a, j) =>
    have h : 6 ≤ 6 + 32 * a.val + j.val ∧ 6 + 32 * a.val + j.val < 198 := by omega
    refine (dif_pos h).trans (congrArg (fun x => some (some x)) (Prod.ext (Fin.ext ?_) (Fin.ext ?_)))
    · show (6 + 32 * a.val + j.val - 6) / 32 = a.val; omega
    · show (6 + 32 * a.val + j.val - 6) % 32 = j.val; omega

theorem csem_injective : Function.Injective csem := fun k k' h => by
  have := congrArg dec h
  rw [dec_csem, dec_csem] at this
  exact Option.some.inj this

theorem kcell_injective : Function.Injective (kcell : Dev nD × Option Own → GSem nD τ sig) := by
  rintro ⟨c, k⟩ ⟨c', k'⟩ h
  have h1 : c = c' := congrArg (fun g : GSem nD τ sig => g.1.1) h
  have h2 : k = k' := csem_injective (congrArg Prod.snd h)
  rw [h1, h2]

/-! ## The parts of the buffers as resources -/

/-- The elements of a part of a buffer on device `c`, at a share and contents of the whole buffer. -/
abbrev pts {sp : Space} {s : Shape} {e : EltTy} (M : Memref sig .tc sp s e) (c : Dev nD) (q : PosShare TreeShare)
    (f : Buf (Elt F) (M.view.loc (c : Thread nD τ))) : sProp 𝕄 :=
  M.view.loc (c : Thread nD τ) ↦[M.view.set]{q} f

/-- The share of its own rows that a device lends to its copy to device `j`, and what it keeps. -/
abbrev shr (j : Fin 32) : PosShare TreeShare := Transfers.shareTok fullShare 32 j
abbrev shrKeep : PosShare TreeShare := Transfers.shareDrop fullShare 32

/-- A part of a buffer at some contents. -/
def anyPts {sp : Space} {s : Shape} {e : EltTy} (M : Memref sig .tc sp s e) (c : Dev nD) : sProp 𝕄 :=
  iprop(∃ f : Buf (Elt F) (M.view.loc (c : Thread nD τ)), pts M c fullShare f)

instance anyPts_storable {sp : Space} {s : Shape} {e : EltTy} (M : Memref sig .tc sp s e) (c : Dev nD) :
    BI.Storable (upEmb : UEmb _ 𝕄) (anyPts (F := F) M c) := by unfold anyPts; infer_instance

/-- What device `d` hands device `c` with its signal: the places on `d` where `c`'s copies land. -/
def barPay (c : Dev nD) (d : Fin 32) : sProp 𝕄 :=
  iprop(anyPts (nSlot c) d ∗ anyPts (mlSlot c) d ∗ (if d = c then iprop(emp) else anyPts (agRows c) d))

/-- What a copy hands over on device `c`, by the semaphore that it completes on. -/
def dmaPay (c : Dev nD) : Own → sProp 𝕄
  | (0, j) => pts (nRows j) c fullShare (nFull m c)
  | (1, s) => pts (nSlot s) c fullShare (rsN m c)
  | (2, j) => pts (mlRows j) c fullShare (mlFull m c)
  | (3, s) => pts (mlSlot s) c fullShare (rsMl m c)
  | (4, j) => pts (agRows c) c (shr j) (agFull m)
  | (5, s) => pts (agRows s) c fullShare (agFull m)

instance barPay_storable (c : Dev nD) (d : Fin 32) : BI.Storable (upEmb : UEmb _ 𝕄) (barPay (F := F) c d) := by
  unfold barPay; split <;> infer_instance
instance dmaPay_storable (c : Dev nD) (k : Own) : BI.Storable (upEmb : UEmb _ 𝕄) (dmaPay (F := F) m c k) := by
  unfold dmaPay; split <;> infer_instance

/-! ## The schedule -/

abbrev Nn : ℕ := (nSlot 0).view.dmaCredit
abbrev Nml : ℕ := (mlSlot 0).view.dmaCredit
theorem Nn_pos : 0 < Nn := View.dmaCredit_pos _ (by decide)
theorem Nml_pos : 0 < Nml := View.dmaCredit_pos _ (by decide)

/-- What a copy adds to its semaphores. -/
def credOf (a : Fin 6) : ℕ := if a = 2 ∨ a = 3 then Nml else Nn
theorem credOf_pos (a : Fin 6) : 0 < credOf a := by unfold credOf; split; exacts [Nml_pos, Nn_pos]

/-- Who pays into a semaphore of device `c`: every device into the barrier's, one copy into each own one, but for a
    device's own two among the result rows', which nothing uses. -/
def dutiesOf (c : Dev nD) : Option Own → Finset (Fin 32)
  | none => Finset.univ
  | some (a, j) => if 4 ≤ a.val ∧ j = c then ∅ else {0}

def amountOf' : Option Own → ℕ
  | none => 1
  | some (a, _) => credOf a

def payOf (c : Dev nD) (d : Fin 32) : Option Own → sProp 𝕄
  | none => barPay c d
  | some k => dmaPay m c k

instance payOf_storable (c : Dev nD) (d : Fin 32) (k : Option Own) : BI.Storable (upEmb : UEmb _ 𝕄) (payOf (F := F) m c d k) := by
  unfold payOf; split <;> infer_instance

/-- One round. -/
def rd : Rounds.Schedule (GSem nD τ sig) (Fin 32) 𝕄 where
  duties g r := if r = 0 ∧ g.1.2 = .tc then (match dec g.2 with | some k => dutiesOf g.1.1 k | none => ∅) else ∅
  unitless _ := False
  amount g _ _ := match dec g.2 with | some k => amountOf' k | none => 1
  payload g _ d := match dec g.2 with | some k => payOf m g.1.1 d k | none => iprop(emp)
  amount_pos g _ _ _ := by
    split
    · rename_i k _
      match k with
      | none => exact Nat.one_pos
      | some (a, _) => exact credOf_pos a
    · exact Nat.one_pos

instance rd_payload_storable (g : GSem nD τ sig) (r : ℕ) (d : Fin 32) :
    BI.Storable (upEmb : UEmb _ 𝕄) ((rd (F := F) m).payload g r d) := by
  show BI.Storable upEmb (match dec g.2 with | some k => payOf m g.1.1 d k | none => iprop(emp))
  split <;> infer_instance

theorem duties_eq (c : Dev nD) (k : Option Own) : (rd (F := F) m).duties (kcell (c, k)) 0 = dutiesOf c k := by
  refine (if_pos (c := (0 : ℕ) = 0 ∧ (kcell (c, k)).1.2 = .tc) (e := ∅) ⟨rfl, rfl⟩).trans ?_
  show (match dec (csem k) with | some k => dutiesOf c k | none => ∅) = _
  rw [dec_csem]
theorem duties_later (g : GSem nD τ sig) : ∀ r, 1 ≤ r → (rd (F := F) m).duties g r = ∅ :=
  fun r hr => if_neg fun h => by omega
theorem amount_eq (c : Dev nD) (k : Option Own) (d : Fin 32) : (rd (F := F) m).amount (kcell (c, k)) 0 d = amountOf' k := by
  show (match dec (csem k) with | some k => amountOf' k | none => 1) = _
  rw [dec_csem]
theorem payload_eq (c : Dev nD) (k : Option Own) (d : Fin 32) : (rd (F := F) m).payload (kcell (c, k)) 0 d = payOf m c d k := by
  show (match dec (csem k) with | some k => payOf m c d k | none => iprop(emp)) = _
  rw [dec_csem]

/-- An own semaphore that something uses. -/
def Used (c : Dev nD) (k : Own) : Prop := ¬ (4 ≤ k.1.val ∧ k.2 = c)

theorem duties_own {c : Dev nD} {k : Own} (h : Used c k) : (rd (F := F) m).duties (kcell (c, some k)) 0 = {0} := by
  rw [duties_eq]; exact if_neg h
theorem expect_own {c : Dev nD} {k : Own} (h : Used c k) : (rd (F := F) m).expect (kcell (c, some k)) 0 = credOf k.1 := by
  unfold Schedule.expect Schedule.amountOf; rw [duties_own m h, Finset.sum_singleton, amount_eq]; rfl
theorem expect_bar (c : Dev nD) : (rd (F := F) m).expect (kcell (c, none)) 0 = 32 := by
  unfold Schedule.expect Schedule.amountOf
  rw [duties_eq, Finset.sum_congr rfl fun d _ => amount_eq m c none d]; rfl
theorem rest_own {c : Dev nD} {k : Own} (h : Used c k) :
    bigSep ((rd (F := F) m).duties (kcell (c, some k)) 0 \ ∅) (fun d => (rd (F := F) m).payload (kcell (c, some k)) 0 d) = dmaPay m c k := by
  rw [Finset.sdiff_empty, duties_own m h, bigSep_singleton, payload_eq]; rfl
theorem rest_bar (c : Dev nD) :
    bigSep ((rd (F := F) m).duties (kcell (c, none)) 0 \ ∅) (fun d => (rd (F := F) m).payload (kcell (c, none)) 0 d)
      = bigSep Finset.univ fun d : Fin 32 => barPay c d := by
  rw [Finset.sdiff_empty, duties_eq]; exact bigSep_congr fun d _ => payload_eq m c none d

/-! ## What each device owes; the levels -/

/-- The debts over a list, the first's outermost. -/
def owedOver {A : Type} (f : A → CellTallies nD τ sig Unit) : List A → CellTallies nD τ sig Unit
  | [] => 0
  | a :: l => owedOver f l + f a

theorem owedOver_append {A : Type} (f : A → CellTallies nD τ sig Unit) (l l' : List A) :
    owedOver f (l ++ l') = owedOver f l' + owedOver f l := by
  induction l with
  | nil => exact (add_zero _).symm
  | cons a l ih => show owedOver f (l ++ l') + f a = owedOver f l' + (owedOver f l + f a); rw [ih, add_assoc]

theorem owedOver_pos {A : Type} {f : A → CellTallies nD τ sig Unit} {l : List A} {g : GSem nD τ sig} {u : Unit}
    (h : 0 < owedOver f l g u) : ∃ a ∈ l, 0 < f a g u := by
  induction l with
  | nil => exact absurd h (Nat.lt_irrefl 0)
  | cons a l ih =>
    have h' : 0 < owedOver f l g u + f a g u := h
    rcases Nat.eq_zero_or_pos (f a g u) with h0 | h0
    · obtain ⟨b, hb, hb'⟩ := ih (by omega)
      exact ⟨b, List.mem_cons_of_mem _ hb, hb'⟩
    · exact ⟨a, List.mem_cons_self, h0⟩

/-- To each device: a barrier unit; the credit of the two copies of the exchange; the credit of the result rows. -/
def dBar (j : Fin 32) : CellTallies nD τ sig Unit := tallyAt (kcell (j, none)) () 1
def dSend (c : Dev nD) (j : Fin 32) : CellTallies nD τ sig Unit :=
  tallyAt (kcell (j, some (3, c))) () (credOf 3) + tallyAt (kcell (j, some (1, c))) () (credOf 1)
def dAg (c : Dev nD) (j : Fin 32) : CellTallies nD τ sig Unit :=
  if j = c then 0 else tallyAt (kcell (j, some (5, c))) () (credOf 5)

/-- The order of the sends. -/
def sendOrder (l : List (Fin 4)) : List (Fin 32) := l.flatMap clsDevs

def owedAg (c : Dev nD) : CellTallies nD τ sig Unit := owedOver (dAg c) (List.finRange 32)
def owedSend (c : Dev nD) : CellTallies nD τ sig Unit := owedAg c + owedOver (dSend c) (sendOrder (List.finRange 4))
def O₀ (c : Dev nD) : CellTallies nD τ sig Unit := owedSend c + owedOver dBar (List.finRange 32)

def L (g : GSem nD τ sig) : Finset Unit := if g.1.2 = .tc then {()} else ∅
/-- The barrier's at 1, the exchange's arrivals at 2, the result rows' at 3, everything else at 0. -/
def lvOf : Option (Option Own) → ℕ
  | some none => 1
  | some (some (a, _)) => if a = 5 then 3 else if a = 1 ∨ a = 3 then 2 else 0
  | none => 0
def lv (g : GSem nD τ sig) (_ : Unit) : ℕ := lvOf (dec g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Option Own) (u : Unit) : lv (kcell (c, k)) u = lvOf (some k) := by
  unfold lv; exact congrArg lvOf (dec_csem k)

theorem tally_pos {g g' : GSem nD τ sig} {u : Unit} {n : ℕ} (h : 0 < (tallyAt g () n : CellTallies nD τ sig Unit) g' u) : g' = g := by
  rw [tallyAt_apply] at h
  by_contra hn
  rw [if_neg (fun h' => hn h'.1)] at h
  exact Nat.lt_irrefl 0 h

/-- Debts at cells of the exchange of level above `n`. -/
def Above (n : ℕ) (O : CellTallies nD τ sig Unit) : Prop :=
  ∀ g u, 0 < O g u → ∃ (c : Dev nD) (k : Option Own), g = kcell (c, k) ∧ n < lvOf (some k)

theorem Above.zero (n : ℕ) : Above n 0 := fun _ _ h => absurd h (Nat.lt_irrefl 0)
theorem Above.add {n : ℕ} {O O' : CellTallies nD τ sig Unit} (h : Above n O) (h' : Above n O') : Above n (O + O') := fun g u hg => by
  have hg' : 0 < O g u + O' g u := hg
  rcases Nat.eq_zero_or_pos (O g u) with h0 | h0
  · exact h' g u (by omega)
  · exact h g u h0
theorem Above.tally {n : ℕ} (c : Dev nD) (k : Option Own) (a : ℕ) (h : n < lvOf (some k)) : Above n (tallyAt (kcell (c, k)) () a) :=
  fun g u hg => ⟨c, k, tally_pos hg, h⟩
theorem Above.over {n : ℕ} {A : Type} {f : A → CellTallies nD τ sig Unit} (h : ∀ a, Above n (f a)) (l : List A) : Above n (owedOver f l) := by
  induction l with
  | nil => exact Above.zero n
  | cons a l ih => exact ih.add (h a)
theorem Above.mono {n n' : ℕ} {O : CellTallies nD τ sig Unit} (h : Above n O) (hn : n' ≤ n) : Above n' O := fun g u hg => by
  obtain ⟨c, k, e, hk⟩ := h g u hg
  exact ⟨c, k, e, by omega⟩

theorem above_ag (c : Dev nD) : Above 2 (owedAg c) := Above.over (fun j => by
  unfold dAg; split
  · exact Above.zero 2
  · exact Above.tally _ _ _ (show _ < lvOf _ by simp [lvOf])) _
theorem above_send (c : Dev nD) (l : List (Fin 32)) : Above 1 (owedAg c + owedOver (dSend c) l) :=
  ((above_ag c).mono (by decide)).add (Above.over (fun j => (Above.tally _ _ _ (show _ < lvOf _ by simp [lvOf])).add (Above.tally _ _ _ (show _ < lvOf _ by simp [lvOf]))) _)
theorem above_all (c : Dev nD) : Above 0 (O₀ c) :=
  ((above_send c _).mono (by decide)).add (Above.over (fun j => Above.tally _ _ _ (show _ < lvOf _ by simp [lvOf])) _)

/-- Owing only at higher levels, a device may wait. -/
theorem mayWait (c : Dev nD) (sm : SemLoc sig) {n : ℕ} (hn : lvOf (dec sm) = n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨c', k, rfl, -⟩ := hO g u hg; rw [L_tc]; exact Finset.mem_singleton_self _)
    (fun p hp => by rw [Finset.mem_singleton.mp hp]; exact le_of_eq hn)
    (fun g u hg => by obtain ⟨c', k, rfl, hk⟩ := hO g u hg; rw [lv_cell]; exact hk)

end Cert.KernelIdeal.Att

end
-- ==== Proof.Loops.lean ====
/- The rules for the body's loops, and the steps that only pass resources on: the signals, the sends, the waits. -/
module

public import proofs.«01_k».proof.Proof.Proto

@[expose] public section

set_option maxRecDepth 16384

noncomputable section

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- What a part of the body, run on device `c`, needs for a result. -/
abbrev wpc (c : Dev nD) {α : Type} (p : Bd (F := F) α) (Q : α → sProp 𝕄) : sProp 𝕄 :=
  wp frame (wpE (defs₀ (F := F)) 𝒱₀ (c : Thread nD τ) none) Set.univ p Q

/-! ## One resource for each entry of a list -/

def allOf {A : Type} (P : A → sProp 𝕄) : List A → sProp 𝕄
  | [] => iprop(emp)
  | a :: l => iprop(P a ∗ allOf P l)

theorem allOf_append {A : Type} (P : A → sProp 𝕄) (l l' : List A) : allOf P (l ++ l') = iprop(allOf P l ∗ allOf P l') := by
  induction l with
  | nil => exact (emp_sep_eq _).symm
  | cons a l ih =>
    show iprop(P a ∗ allOf P (l ++ l')) = iprop((P a ∗ allOf P l) ∗ allOf P l')
    rw [ih]; exact (BI.equiv_iff.mp ⟨BI.sep_assoc, BI.sep_assoc'⟩).symm

theorem allOf_flatMap {A B : Type} (P : B → sProp 𝕄) (g : A → List B) (l : List A) :
    allOf P (l.flatMap g) = allOf (fun a => allOf P (g a)) l := by
  induction l with
  | nil => rfl
  | cons a l ih => rw [List.flatMap_cons, allOf_append, ih]; rfl

theorem allOf_toFinset {A : Type} [DecidableEq A] (P : A → sProp 𝕄) {l : List A} (h : l.Nodup) : allOf P l = bigSep l.toFinset P := by
  induction l with
  | nil => exact bigSep_empty.symm
  | cons a l ih =>
    rw [List.toFinset_cons, bigSep_insert (by rw [List.mem_toFinset]; exact (List.nodup_cons.mp h).1), ← ih (List.nodup_cons.mp h).2]; rfl

theorem allOf_finRange {n : ℕ} (P : Fin n → sProp 𝕄) : allOf P (List.finRange n) = bigSep Finset.univ P := by
  rw [allOf_toFinset P (List.nodup_finRange n)]
  exact congrArg (fun s => bigSep s P) (Finset.eq_univ_of_forall fun i => List.mem_toFinset.mpr (List.mem_finRange i))

theorem sep_swap (A B C D : sProp 𝕄) : iprop((A ∗ B) ∗ (C ∗ D)) ⊢ iprop((A ∗ C) ∗ (B ∗ D)) := by
  iintro ⟨⟨H1, H2⟩, H3, H4⟩
  isplitl [H1 H3]
  · isplitl [H1]; · iexact H1
    iexact H3
  · isplitl [H2]; · iexact H2
    iexact H4

theorem allOf_sep {A : Type} (P Q : A → sProp 𝕄) (l : List A) : allOf (fun a => iprop(P a ∗ Q a)) l = iprop(allOf P l ∗ allOf Q l) := by
  induction l with
  | nil => exact (emp_sep_eq _).symm
  | cons a l ih =>
    show iprop((P a ∗ Q a) ∗ allOf _ l) = iprop((P a ∗ allOf P l) ∗ (Q a ∗ allOf Q l))
    rw [ih]
    exact BI.equiv_iff.mp ⟨sep_swap _ _ _ _, sep_swap _ _ _ _⟩

theorem allOf_mono {A : Type} {P Q : A → sProp 𝕄} (h : ∀ a, P a ⊢ Q a) (l : List A) : allOf P l ⊢ allOf Q l := by
  induction l with
  | nil => exact BI.Entails.refl _
  | cons a l ih => exact BI.sep_mono (h a) ih

/-! ## The loop rule and the sequence rule -/

/-- A loop that turns each entry's resource `P` into `Q`, the state `I` following the entries still to come, with the
    lasting facts `C`. -/
theorem wp_each (c : Dev nD) {A : Type} (C : sProp 𝕄) [BI.Persistent C] (I : List A → sProp 𝕄) (P Q : A → sProp 𝕄)
    (f : A → Bd (F := F) PUnit) (h : ∀ a l, iprop(C ∗ I (a :: l) ∗ P a) ⊢ wpc c (f a) fun _ => iprop(I l ∗ Q a)) :
    ∀ l, iprop(C ∗ I l ∗ allOf P l) ⊢ wpc c (each f l) fun _ => iprop(I [] ∗ allOf Q l)
  | [] => by
    show _ ⊢ wpc c (Prog.ret PUnit.unit) _
    rw [wpc, wp_ret]
    iintro ⟨#HC, HI, HP⟩
    imodintro
    isplitl [HI]; · iexact HI
    iempintro
  | a :: l => by
    show _ ⊢ wpc c (f a >>= fun _ => each f l) _
    rw [wpc, wp_bind]
    show iprop(C ∗ I (a :: l) ∗ (P a ∗ allOf P l)) ⊢ _
    iintro ⟨#HC, HI, HP, HPl⟩
    iapply (wp_wand_r frame (wpE (defs₀ (F := F)) 𝒱₀ (c : Thread nD τ) none) Set.univ (Q := fun _ => iprop(I l ∗ Q a)))
    isplitl [HI HP]
    · iapply (h a l)
      isplitr; · iexact HC
      isplitl [HI]; · iexact HI
      iexact HP
    iintro %_ ⟨HI, HQ⟩
    iapply (wp_wand_r frame (wpE (defs₀ (F := F)) 𝒱₀ (c : Thread nD τ) none) Set.univ (Q := fun _ => iprop(I [] ∗ allOf Q l)))
    isplitl [HI HPl]
    · iapply (wp_each c C I P Q f h l)
      isplitr; · iexact HC
      isplitl [HI]; · iexact HI
      iexact HPl
    iintro %_ ⟨HI, HQl⟩
    isplitl [HI]; · iexact HI
    rw [show allOf Q (a :: l) = iprop(Q a ∗ allOf Q l) from rfl]
    isplitl [HQ]; · iexact HQ
    iexact HQl

/-- A part known to turn `P` into `R`, then the rest. -/
theorem wp_then (c : Dev nD) {P R : sProp 𝕄} {p : Bd (F := F) PUnit} (h : P ⊢ wpc c p fun _ => R)
    {α : Type} {k : PUnit → Bd (F := F) α} {Q : α → sProp 𝕄} :
    P ⊢ iprop((R -∗ wpc c (k ⟨⟩) Q) -∗ wpc c (p >>= k) Q) := by
  rw [wpc, wpc, wp_bind]
  iintro HP Hk
  iapply (wp_wand_r frame (wpE (defs₀ (F := F)) 𝒱₀ (c : Thread nD τ) none) Set.univ (Q := fun _ => R))
  isplitl [HP]; · iapply h; iexact HP
  iintro %u HR
  iapply Hk
  iexact HR

/-! ## The lasting facts and the debts -/

variable (K : Dev nD × Option Own → ℕ)

/-- Every cell of the exchange: its invariant, and that its first round has begun. -/
def records : sProp 𝕄 :=
  iprop((bigSep Finset.univ fun ck : Dev nD × Option Own => cellInv ER (rd m) (K ck) (kcell ck))
    ∗ bigSep Finset.univ fun ck : Dev nD × Option Own => reached ER (kcell ck) 0)

instance records_persistent : BI.Persistent (records (F := F) m K) := by unfold records; infer_instance

theorem inv_at (ck : Dev nD × Option Own) :
    (bigSep Finset.univ fun ck : Dev nD × Option Own => (cellInv ER (rd m) (K ck) (kcell ck) : sProp 𝕄)) ⊢ cellInv ER (rd m) (K ck) (kcell ck) :=
  bigSep_elim (Finset.mem_univ ck)
theorem reached_at (ck : Dev nD × Option Own) :
    (bigSep Finset.univ fun ck : Dev nD × Option Own => (reached ER (kcell ck) 0 : sProp 𝕄)) ⊢ reached ER (kcell ck) 0 :=
  bigSep_elim (Finset.mem_univ ck)
theorem rec_inv (ck : Dev nD × Option Own) : records (F := F) m K ⊢ cellInv ER (rd m) (K ck) (kcell ck) := by
  unfold records; iintro ⟨#HI, -⟩
  iapply (inv_at m K ck); iexact HI
theorem rec_reached (ck : Dev nD × Option Own) : records (F := F) m K ⊢ reached ER (kcell ck) 0 := by
  unfold records; iintro ⟨-, #HI⟩
  iapply (reached_at (F := F) ck); iexact HI

/-- The lasting facts: the cells and the levels. -/
def ctx : sProp 𝕄 := iprop(records m K ∗ levAts L lv)
instance ctx_persistent : BI.Persistent (ctx (F := F) m K) := by unfold ctx; infer_instance
theorem ctx_inv (ck : Dev nD × Option Own) : ctx (F := F) m K ⊢ cellInv ER (rd m) (K ck) (kcell ck) := by
  unfold ctx; iintro ⟨#H, -⟩; iapply (rec_inv m K ck); iexact H
theorem ctx_reached (ck : Dev nD × Option Own) : ctx (F := F) m K ⊢ reached ER (kcell ck) 0 := by
  unfold ctx; iintro ⟨#H, -⟩; iapply (rec_reached m K ck); iexact H
theorem ctx_lev : ctx (F := F) m K ⊢ levAts L lv := by
  unfold ctx; iintro ⟨-, #H⟩; iexact H

/-- Device `c` owes `O`. -/
def ow (c : Dev nD) (O : CellTallies nD τ sig Unit) : sProp 𝕄 := iprop(∃ W : Waits sig Unit, owes (c : Thread nD τ) O W)

/-- Device `c` waits at the start of cell `k`; a token for the payment `d` into cell `k` of device `c`. -/
abbrev pos (c : Dev nD) (k : Option Own) : sProp 𝕄 := atPos ER (kcell (c, k)) 0 ∅ 0
abbrev tok (c : Dev nD) (k : Option Own) (d : Fin 32) : sProp 𝕄 := dutyTok ER (kcell (c, k)) 0 d
abbrev zero (c : Dev nD) (k : Option Own) : sProp 𝕄 := semVal (kcell (c, k)) 0
abbrev credK (c : Dev nD) (k : Own) : sProp 𝕄 := cred (tallyAt (kcell (c, some k)) () (credOf k.1))

/-! ## The signals and the barrier wait -/

theorem signal_step (c : Dev nD) (B : CellTallies nD τ sig Unit) (j : Fin 32) (l : List (Fin 32)) :
    iprop(ctx m K ∗ ow c (B + owedOver dBar (j :: l)) ∗ (tok j none c ∗ barPay j c))
      ⊢ wpc (F := F) c (signalStep j) fun _ => iprop(ow c (B + owedOver dBar l) ∗ emp) := by
  unfold signalStep ow
  simp only [semSignalWord, Prog.lift]
  iintro ⟨#HC, ⟨%W, HO⟩, Ht, Hp⟩
  iapply (Rounds.wp_signal 𝒱₀ ER (rd m) (c : Thread nD τ) none (dst := ((j : Dev nD) : Thread nD τ)) (κ := K (j, none)) (r := 0)
      (d := c) (by rw [duties_eq m j none]; exact Finset.mem_univ _) ((amount_eq m j none c).trans (by decide)) () (B + owedOver dBar l)
      (show B + (owedOver dBar l + dBar j) = _ from (add_assoc _ _ _).symm) (W := W)) $$ [HO Ht Hp]
  · isplitr; · iapply (ctx_inv m K (j, none)); iexact HC
    isplitl [HO]; · iexact HO
    isplitl [Ht]; · iexact Ht
    isplitl [Hp]; · rw [payload_eq m j none c]; unfold payOf; iexact Hp
    iapply (ctx_reached m K (j, none)); iexact HC
  iintro HO
  rw [wp_ret]; imodintro
  isplitl [HO]; · iexists W; iexact HO
  iempintro

theorem wait_bar (c : Dev nD) {O : CellTallies nD τ sig Unit} (hO : Above 1 O) :
    iprop(ctx m K ∗ cred (tallyAt (kcell (c, none)) () 32) ∗ ow c O ∗ pos c none)
      ⊢ wpc (F := F) c (semWaitWord barSem 32#32) fun _ => iprop(ow c O ∗ zero c none ∗ bigSep Finset.univ fun d : Fin 32 => barPay c d) := by
  unfold ow
  simp only [semWaitWord, Prog.lift]
  iintro ⟨#HC, Hc, ⟨%W, HO⟩, Ha⟩
  iapply (Rounds.wp_wait_rest_token 𝒱₀ ER (rd m) (c : Thread nD τ) none (κ := K (c, none))
      (wpE_semWait_eq 𝒱₀ (c : Thread nD τ) none Set.univ) (Set.mem_univ _) () (O := O) (W := W) (R := 0) (m := 0) (T := ∅)
      (by rw [show ((c : Thread nD τ), SemLoc.reg barSem) = kcell (c, none) from rfl, expect_bar]; decide)) $$ [Hc HO Ha]
  · isplitr; · iapply (ctx_inv m K (c, none)); iexact HC
    isplitl [Hc]; · iexact Hc
    isplitl [HO]; · iexact HO
    isplitr
    · iapply (mayWait c (.reg barSem) (n := 1) (congrArg lvOf (dec_csem none)) hO); iapply (ctx_lev m K); iexact HC
    iexact Ha
  iintro ⟨HO, Ha, -, Hp⟩
  ihave Hp := (Entails.of_eq (rest_bar m c)) $$ Hp
  imod (Rounds.cell_close ER (rd m) (g := kcell (c, none)) (Set.mem_univ (K (c, none))) (fun h => h) (R := 0 + 1) (duties_later m _)) $$ [Ha] with Hz
  · isplitr; · iapply (ctx_inv m K (c, none)); iexact HC
    iexact Ha
  rw [wp_ret]; imodintro
  isplitl [HO]; · iexists _; iexact HO
  isplitl [Hz]; · iexact Hz
  iexact Hp

/-! ## A wait on an own semaphore -/

theorem wait_own (c : Dev nD) (k : Own) (hk : Used c k) {O : CellTallies nD τ sig Unit} {n : ℕ} (hn : lvOf (some (some k)) = n) (hO : Above n O)
    {sp sp' : Space} {s s' : Shape} {e e' : EltTy} {q : DmaSem sig} (hq : SemLoc.dma q = osem k) {src : Memref sig .tc sp' s' e'} {dst : Memref sig .tc sp s e}
    (hcr : dst.view.dmaCredit = credOf k.1) {h1 : src.view.WordExact} {h2 : dst.view.WordExact} :
    iprop(ctx m K ∗ credK c k ∗ ow c O ∗ pos c (some k))
      ⊢ wpc (F := F) c (Prog.lift (.waitDma2 q src dst h1 h2)) fun _ => iprop(ow c O ∗ zero c (some k) ∗ dmaPay m c k) := by
  obtain rfl : q = _ := SemLoc.dma.inj hq
  unfold ow
  simp only [Prog.lift]
  iintro ⟨#HC, Hc, ⟨%W, HO⟩, Ha⟩
  iapply (Rounds.wp_wait_rest_token 𝒱₀ ER (rd m) (c : Thread nD τ) none (sm := osem k) (κ := K (c, some k))
      (wpE_waitDma2_eq 𝒱₀ (c : Thread nD τ) none Set.univ) (Set.mem_univ _) () (O := O) (W := W) (R := 0) (m := 0) (T := ∅)
      (by rw [Nat.zero_add, hcr]; exact (expect_own m hk).symm)) $$ [Hc HO Ha]
  · isplitr; · iapply (ctx_inv m K (c, some k)); iexact HC
    isplitl [Hc]; · rw [hcr]; iexact Hc
    isplitl [HO]; · iexact HO
    isplitr
    · iapply (mayWait c (osem k) (n := n) ((congrArg lvOf (dec_csem (some k))).trans hn) hO); iapply (ctx_lev m K); iexact HC
    iexact Ha
  iintro ⟨HO, Ha, -, Hp⟩
  ihave Hp := (Entails.of_eq (rest_own m hk)) $$ Hp
  imod (Rounds.cell_close ER (rd m) (g := kcell (c, some k)) (Set.mem_univ (K (c, some k))) (fun h => h) (R := 0 + 1) (duties_later m _)) $$ [Ha] with Hz
  · isplitr; · iapply (ctx_inv m K (c, some k)); iexact HC
    iexact Ha
  rw [wp_ret]; imodintro
  isplitl [HO]; · iexists _; iexact HO
  isplitl [Hz]; · iexact Hz
  iexact Hp

/-- A semaphore that nothing uses closes at once. -/
theorem close_unused (c : Dev nD) (k : Own) (hk : ¬ Used c k) :
    iprop(ctx m K ∗ pos c (some k)) ⊢ iprop(|={Set.univ}=> zero (F := F) c (some k)) := by
  iintro ⟨#HC, Ha⟩
  iapply (Rounds.cell_close ER (rd m) (g := kcell (c, some k)) (κ := K (c, some k)) (Es := Set.univ) (Set.mem_univ _) (fun h => h) (R := 0) (fun r _ => by
    rcases Nat.eq_zero_or_pos r with rfl | hr
    · exact (duties_eq m c (some k)).trans (if_pos (not_not.mp hk))
    · exact duties_later m _ r hr))
  isplitr; · iapply (ctx_inv m K (c, some k)); iexact HC
  iexact Ha

end Cert.KernelIdeal.Att

end
-- ==== Proof.Exchange.lean ====
/- The copies: each loop of sends, of waits for arrivals and of waits for departures, entry by entry. -/
module

public import proofs.«01_k».proof.Proof.Loops

@[expose] public section

set_option maxRecDepth 16384

noncomputable section

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option Own → ℕ)

/-! ## A send -/

theorem send_own (c : Dev nD) (j : Fin 32) (k₁ k₂ : Own) (hk₁ : Used c k₁) (hk₂ : Used j k₂) (hkk : credOf k₁.1 = credOf k₂.1)
    {sp sp' : Space} {s : Shape} {e : EltTy} {src : Memref sig .tc sp s e} {dst : Memref sig .tc sp' s e} {qS q : DmaSem sig}
    (hqS : SemLoc.dma qS = osem k₁) (hq : SemLoc.dma q = osem k₂) (hcr : dst.view.dmaCredit = credOf k₂.1)
    {hsc : dst.view.ref.isScScratch = false} {h1 : src.view.WordExact} {h2 : dst.view.WordExact}
    {h3 : DmaTarget.Typed sp (.dma q) (.remote (Dev.tc (j : Dev nD) : Thread nD τ) dst (.dma qS) hsc)}
    {p : PosShare TreeShare} {fs : Buf (Elt F) (src.view.loc (c : Thread nD τ))}
    (hpay₁ : pts src c p fs ⊢ dmaPay m c k₁)
    (hpay₂ : ∀ fd : Buf (Elt F) (dst.view.loc ((j : Dev nD) : Thread nD τ)),
      pts dst j fullShare (dst.view.write (Elt F) fd (src.view.read (Elt F) fs) Finset.univ) ⊢ dmaPay m j k₂)
    (O : CellTallies nD τ sig Unit) :
    iprop(ctx m K ∗ ow c (O + tallyAt (kcell (j, some k₂)) () (credOf k₂.1)) ∗ pts src c p fs ∗ anyPts dst j ∗ tok c (some k₁) 0 ∗ tok j (some k₂) 0)
      ⊢ wpc (F := F) c (Prog.lift (.enqueueDma src (.remote (Dev.tc (j : Dev nD) : Thread nD τ) dst (.dma qS) hsc) (.dma q) h1 h2 h3)) fun _ =>
          iprop(ow c O ∗ credK c k₁) := by
  obtain rfl : qS = _ := SemLoc.dma.inj hqS
  obtain rfl : q = _ := SemLoc.dma.inj hq
  unfold ow anyPts
  simp only [Prog.lift]
  iintro ⟨#HC, ⟨%W, HO⟩, Hs, ⟨%fd, Hd⟩, Ht1, Ht2⟩
  iapply (Rounds.wp_send_pointsTo 𝒱₀ ER (rd m) (c : Thread nD τ) none (κ₁ := K (c, some k₁)) (κ₂ := K (j, some k₂))
    (r₁ := 0) (r₂ := 0) (d₁ := 0) (d₂ := 0) (fd := fd) (sS := osem k₁) (sem := osem k₂)
    (by rw [show ((c : Thread nD τ), osem k₁) = kcell (c, some k₁) from rfl, duties_own m hk₁]; exact Finset.mem_singleton_self _)
    (by rw [show (((j : Dev nD) : Thread nD τ), osem k₂) = kcell (j, some k₂) from rfl, duties_own m hk₂]; exact Finset.mem_singleton_self _)
    () () (credOf k₂.1) hcr ((amount_eq m c (some k₁) 0).trans hkk) (amount_eq m j (some k₂) 0) O rfl (W := W)
    (hpay₁.trans (Entails.of_eq (payload_eq m c (some k₁) 0).symm))
    ((hpay₂ fd).trans (Entails.of_eq (payload_eq m j (some k₂) 0).symm))) $$ [HO Hs Hd Ht1 Ht2]
  · isplitr; · iapply (ctx_inv m K (c, some k₁)); iexact HC
    isplitr; · iapply (ctx_inv m K (j, some k₂)); iexact HC
    isplitl [Hs]; · iexact Hs
    isplitl [Hd]; · iexact Hd
    isplitl [HO]; · iexact HO
    isplitl [Ht1]; · iexact Ht1
    isplitr; · iapply (ctx_reached m K (c, some k₁)); iexact HC
    isplitl [Ht2]; · iexact Ht2
    iapply (ctx_reached m K (j, some k₂)); iexact HC
  iintro ⟨Hc, HO⟩
  rw [wp_ret]; imodintro
  isplitl [HO]; · iexists W; iexact HO
  ihave Hc := (Entails.of_eq (congrArg (fun n => (cred (tallyAt (kcell (c, some k₁)) () n) : sProp 𝕄)) hkk.symm)) $$ Hc
  iexact Hc

theorem cr_nRows (j : Fin 32) : (nRows j).view.dmaCredit = credOf 0 := rfl
theorem cr_nSlot (j : Fin 32) : (nSlot j).view.dmaCredit = credOf 1 := rfl
theorem cr_mlRows (j : Fin 32) : (mlRows j).view.dmaCredit = credOf 2 := rfl
theorem cr_mlSlot (j : Fin 32) : (mlSlot j).view.dmaCredit = credOf 3 := rfl
theorem cr_agRows (j : Fin 32) : (agRows j).view.dmaCredit = credOf 4 ∧ (agRows j).view.dmaCredit = credOf 5 := ⟨rfl, rfl⟩

theorem used_low (c : Dev nD) (a : Fin 6) (j : Fin 32) (h : a.val < 4) : Used c (a, j) := fun h' => absurd (show 4 ≤ a.val from h'.1) (by omega)
theorem used_ne (c : Dev nD) (a : Fin 6) (j : Fin 32) (h : j ≠ c) : Used c (a, j) := fun h' => h h'.2

theorem nSlot_landed (c : Dev nD) (j : Fin 32) {M : Memref sig .tc .vmem S32x1024 .bf16} (hM : M = nSlot c) (fd : Buf (Elt F) (M.view.loc ((j : Dev nD) : Thread nD τ))) :
    pts M j fullShare (M.view.write (Elt F) fd ((nRows j).view.read (Elt F) (nFull m c)) Finset.univ) ⊢ dmaPay m j (1, c) := by
  subst hM
  exact Entails.of_eq (pointsTo_congr (nLand m c j fd))
theorem mlSlot_landed (c : Dev nD) (j : Fin 32) {M : Memref sig .tc .vmem S32x16 .f32} (hM : M = mlSlot c) (fd : Buf (Elt F) (M.view.loc ((j : Dev nD) : Thread nD τ))) :
    pts M j fullShare (M.view.write (Elt F) fd ((mlRows j).view.read (Elt F) (mlFull m c)) Finset.univ) ⊢ dmaPay m j (3, c) := by
  subst hM
  exact Entails.of_eq (pointsTo_congr (mlLand m c j fd))
theorem agRows_landed (c : Dev nD) (j : Fin 32) {M : Memref sig .tc .vmem S32x1024 .bf16} (hM : M = agRows c) (fd : Buf (Elt F) (M.view.loc ((j : Dev nD) : Thread nD τ)))
    (fs : Buf (Elt F) (M.view.loc (c : Thread nD τ))) (hfs : HEq fs (agFull m)) :
    pts M j fullShare (M.view.write (Elt F) fd (M.view.read (Elt F) fs) Finset.univ) ⊢ dmaPay m j (5, c) := by
  subst hM
  obtain rfl := eq_of_heq hfs
  exact Entails.of_eq (pointsTo_congr (agLand c fd (agFull m)))

/-! ## The exchange -/

/-- What sending device `j` its rows takes: the rows, the places where they land, the tokens. -/
def sendPre (c : Dev nD) (j : Fin 32) : sProp 𝕄 :=
  iprop((pts (nRows j) c fullShare (nFull m c) ∗ pts (mlRows j) c fullShare (mlFull m c)) ∗ (anyPts (nSlot c) j ∗ anyPts (mlSlot c) j)
    ∗ (tok c (some (0, j)) 0 ∗ tok j (some (1, c)) 0) ∗ (tok c (some (2, j)) 0 ∗ tok j (some (3, c)) 0))
/-- What it leaves: the credits of the departures. -/
def sendPost (c : Dev nD) (j : Fin 32) : sProp 𝕄 := iprop(credK c (0, j) ∗ credK c (2, j))

theorem anyPts_eq {sp : Space} {s : Shape} {e : EltTy} {M M' : Memref sig .tc sp s e} (h : M = M') (c : Dev nD) : anyPts (F := F) M c = anyPts M' c := by rw [h]
theorem credit_eq {sp : Space} {s : Shape} {e : EltTy} {M M' : Memref sig .tc sp s e} (h : M = M') {n : ℕ} (hn : M'.view.dmaCredit = n) : M.view.dmaCredit = n := by rw [h, hn]

theorem send_step (c : Dev nD) (B : CellTallies nD τ sig Unit) (j : Fin 32) (l : List (Fin 32)) :
    iprop(ctx m K ∗ ow c (B + owedOver (dSend c) (j :: l)) ∗ sendPre m c j)
      ⊢ wpc (F := F) c (sendStep c j) fun _ => iprop(ow c (B + owedOver (dSend c) l) ∗ sendPost c j) := by
  unfold sendStep sendPre sendPost
  rw [show B + owedOver (dSend c) (j :: l) = (B + owedOver (dSend c) l + tallyAt (kcell (j, some (3, c))) () (credOf 3)) + tallyAt (kcell (j, some (1, c))) () (credOf 1)
    from show B + (owedOver (dSend c) l + (_ + _)) = _ by rw [← add_assoc, ← add_assoc]]
  iintro ⟨#HC, HO, ⟨Hn, Hml⟩, ⟨Hsn, Hsml⟩, ⟨Ht0, Ht1⟩, Ht2, Ht3⟩
  ihave Hsn := (Entails.of_eq (anyPts_eq (F := F) (nSlotMy_eq c).symm j)) $$ Hsn
  ihave Hsml := (Entails.of_eq (anyPts_eq (F := F) (mlSlotMy_eq c).symm j)) $$ Hsml
  iapply (wp_then c (send_own m K c j (0, j) (1, c) (used_low _ _ _ (by decide)) (used_low _ _ _ (by decide)) rfl (sem5 j) (semMy6 c)
    (credit_eq (nSlotMy_eq c) (cr_nSlot c)) (BI.Entails.refl _) (nSlot_landed m c j (nSlotMy_eq c)) _)) $$ [HO Hn Hsn Ht0 Ht1]
  · isplitr; · iexact HC
    isplitl [HO]; · iexact HO
    isplitl [Hn]; · iexact Hn
    isplitl [Hsn]; · iexact Hsn
    isplitl [Ht0]; · iexact Ht0
    iexact Ht1
  iintro ⟨HO, Hc0⟩
  iapply (wp_wand_r frame (wpE (defs₀ (F := F)) 𝒱₀ (c : Thread nD τ) none) Set.univ (Q := fun _ => iprop(ow c (B + owedOver (dSend c) l) ∗ credK c (2, j))))
  isplitl [HO Hml Hsml Ht2 Ht3]
  · iapply (send_own m K c j (2, j) (3, c) (used_low _ _ _ (by decide)) (used_low _ _ _ (by decide)) rfl (sem7 j) (semMy8 c)
      (credit_eq (mlSlotMy_eq c) (cr_mlSlot c)) (BI.Entails.refl _) (mlSlot_landed m c j (mlSlotMy_eq c)) _)
    isplitr; · iexact HC
    isplitl [HO]; · iexact HO
    isplitl [Hml]; · iexact Hml
    isplitl [Hsml]; · iexact Hsml
    isplitl [Ht2]; · iexact Ht2
    iexact Ht3
  iintro %_ ⟨HO, Hc2⟩
  isplitl [HO]; · iexact HO
  isplitl [Hc0]; · iexact Hc0
  iexact Hc2

/-- What waiting for device `s`'s rows takes, and what it leaves. -/
def recvPre (c : Dev nD) (s : Fin 32) : sProp 𝕄 := iprop((credK c (1, s) ∗ pos c (some (1, s))) ∗ (credK c (3, s) ∗ pos c (some (3, s))))
def recvPost (c : Dev nD) (s : Fin 32) : sProp 𝕄 :=
  iprop((zero c (some (1, s)) ∗ zero c (some (3, s))) ∗ (pts (nSlot s) c fullShare (rsN m c) ∗ pts (mlSlot s) c fullShare (rsMl m c)))

theorem recv_step (c : Dev nD) (s : Fin 32) :
    iprop(ctx m K ∗ ow c (owedAg c) ∗ recvPre c s) ⊢ wpc (F := F) c (recvStep s) fun _ => iprop(ow c (owedAg c) ∗ recvPost m c s) := by
  unfold recvStep recvPre recvPost
  iintro ⟨#HC, HO, ⟨Hc1, Ha1⟩, Hc3, Ha3⟩
  iapply (wp_then c (wait_own m K c (1, s) (used_low _ _ _ (by decide)) rfl (above_ag c) (sem6 s) (cr_nSlot s))) $$ [HO Hc1 Ha1]
  · isplitr; · iexact HC
    isplitl [Hc1]; · iexact Hc1
    isplitl [HO]; · iexact HO
    iexact Ha1
  iintro ⟨HO, Hz1, Hp1⟩
  iapply (wp_wand_r frame (wpE (defs₀ (F := F)) 𝒱₀ (c : Thread nD τ) none) Set.univ (Q := fun _ => iprop(ow c (owedAg c) ∗ zero c (some (3, s)) ∗ dmaPay m c (3, s))))
  isplitl [HO Hc3 Ha3]
  · iapply (wait_own m K c (3, s) (used_low _ _ _ (by decide)) rfl (above_ag c) (sem8 s) (cr_mlSlot s))
    isplitr; · iexact HC
    isplitl [Hc3]; · iexact Hc3
    isplitl [HO]; · iexact HO
    iexact Ha3
  iintro %_ ⟨HO, Hz3, Hp3⟩
  isplitl [HO]; · iexact HO
  isplitl [Hz1 Hz3]
  · isplitl [Hz1]; · iexact Hz1
    iexact Hz3
  unfold dmaPay
  isplitl [Hp1]; · iexact Hp1
  iexact Hp3

/-! ## The gathering of the result rows -/

/-- A resource held for every device but `c`. -/
def oth (c : Dev nD) (j : Fin 32) (P : sProp 𝕄) : sProp 𝕄 := if j = c then iprop(emp) else P

def agSendPre (c : Dev nD) (j : Fin 32) : sProp 𝕄 :=
  oth c j iprop((pts (agRows c) c (shr j) (agFull m) ∗ anyPts (agRows c) j) ∗ (tok c (some (4, j)) 0 ∗ tok j (some (5, c)) 0))
def agSendPost (c : Dev nD) (j : Fin 32) : sProp 𝕄 := oth c j (credK c (4, j))

theorem heq_pts {M : Memref sig .tc .vmem S32x1024 .bf16} {c : Dev nD} (hM : M = agRows c) (p : PosShare TreeShare) :
    ∃ fs : Buf (Elt F) (M.view.loc (c : Thread nD τ)), HEq fs (agFull m) ∧ pts (agRows c) c p (agFull m) = pts M c p fs := by
  subst hM; exact ⟨agFull m, HEq.rfl, rfl⟩
theorem agRows_lent (c : Dev nD) (j : Fin 32) (p : PosShare TreeShare) {M : Memref sig .tc .vmem S32x1024 .bf16} (hM : M = agRows c)
    (fs : Buf (Elt F) (M.view.loc (c : Thread nD τ))) (hfs : HEq fs (agFull m)) : pts M c p fs ⊢ pts (agRows c) c p (agFull m) := by
  subst hM; obtain rfl := eq_of_heq hfs; exact BI.Entails.refl _

theorem agSend_step (c : Dev nD) (j : Fin 32) (l : List (Fin 32)) :
    iprop(ctx m K ∗ ow c (owedOver (dAg c) (j :: l)) ∗ agSendPre m c j)
      ⊢ wpc (F := F) c (agSendStep c j) fun _ => iprop(ow c (owedOver (dAg c) l) ∗ agSendPost c j) := by
  unfold agSendStep agSendPre agSendPost oth
  rw [show owedOver (dAg c) (j :: l) = owedOver (dAg c) l + dAg c j from rfl]
  by_cases h : j = c
  · rw [if_neg (fun h' => (isOther_iff c j).mp h' h), if_pos h, if_pos h, dAg, if_pos h, add_zero, wpc, Prog.pure_eq_ret, wp_ret]
    iintro ⟨-, HO, -⟩
    imodintro
    isplitl [HO]; · iexact HO
    iempintro
  · rw [if_pos ((isOther_iff c j).mpr h), if_neg h, if_neg h, dAg, if_neg h]
    obtain ⟨fs, hfs, hpts⟩ := heq_pts m (agMy_eq c) (shr j)
    rw [hpts]
    iintro ⟨#HC, HO, ⟨Hs, Hd⟩, Ht4, Ht5⟩
    ihave Hd := (Entails.of_eq (anyPts_eq (F := F) (agMy_eq c).symm j)) $$ Hd
    iapply (wp_then c (send_own m K c j (4, j) (5, c) (used_ne _ _ _ h) (used_ne _ _ _ (fun h' => h h'.symm)) rfl (sem9 j) (semMy10 c)
      (credit_eq (agMy_eq c) (cr_agRows c).2) (agRows_lent m c j (shr j) (agMy_eq c) fs hfs) (fun fd => agRows_landed m c j (agMy_eq c) fd fs hfs) _)) $$ [HO Hs Hd Ht4 Ht5]
    · isplitr; · iexact HC
      isplitl [HO]; · iexact HO
      isplitl [Hs]; · iexact Hs
      isplitl [Hd]; · iexact Hd
      isplitl [Ht4]; · iexact Ht4
      iexact Ht5
    iintro ⟨HO, Hc⟩
    rw [wpc, Prog.pure_eq_ret, wp_ret]
    imodintro
    isplitl [HO]; · iexact HO
    iexact Hc

def agRecvPre (c : Dev nD) (s : Fin 32) : sProp 𝕄 := iprop(pos c (some (5, s)) ∗ oth c s (credK c (5, s)))
def agRecvPost (c : Dev nD) (s : Fin 32) : sProp 𝕄 := iprop(zero c (some (5, s)) ∗ oth c s (pts (agRows s) c fullShare (agFull m)))

theorem agRecv_step (c : Dev nD) (s : Fin 32) :
    iprop(ctx m K ∗ ow c 0 ∗ agRecvPre c s) ⊢ wpc (F := F) c (agRecvStep c s) fun _ => iprop(ow c 0 ∗ agRecvPost m c s) := by
  unfold agRecvStep agRecvPre agRecvPost oth
  by_cases h : s = c
  · rw [if_neg (fun h' => (isOther_iff c s).mp h' h), if_pos h, if_pos h, wpc, Prog.pure_eq_ret, wp_ret]
    iintro ⟨#HC, HO, Ha, -⟩
    imod (close_unused m K c (5, s) (fun h' => h' ⟨le_of_eq_of_le rfl (show 4 ≤ 5 by decide), h⟩)) $$ [Ha] with Hz
    · isplitr; · iexact HC
      iexact Ha
    imodintro
    isplitl [HO]; · iexact HO
    isplitl [Hz]; · iexact Hz
    iempintro
  · rw [if_pos ((isOther_iff c s).mpr h), if_neg h, if_neg h]
    iintro ⟨#HC, HO, Ha, Hc⟩
    iapply (wp_then c (wait_own m K c (5, s) (used_ne _ _ _ h) rfl (Above.zero 3) (sem10 s) (cr_agRows s).2)) $$ [HO Ha Hc]
    · isplitr; · iexact HC
      isplitl [Hc]; · iexact Hc
      isplitl [HO]; · iexact HO
      iexact Ha
    iintro ⟨HO, Hz, Hp⟩
    rw [wpc, Prog.pure_eq_ret, wp_ret]
    imodintro
    isplitl [HO]; · iexact HO
    isplitl [Hz]; · iexact Hz
    unfold dmaPay; iexact Hp

/-! ## The departures -/

def donePre (c : Dev nD) (j : Fin 32) : sProp 𝕄 :=
  iprop((credK c (0, j) ∗ pos c (some (0, j))) ∗ (credK c (2, j) ∗ pos c (some (2, j))) ∗ (pos c (some (4, j)) ∗ oth c j (credK c (4, j))))
def donePost (c : Dev nD) (j : Fin 32) : sProp 𝕄 :=
  iprop((zero c (some (0, j)) ∗ zero c (some (2, j)) ∗ zero c (some (4, j)))
    ∗ (pts (nRows j) c fullShare (nFull m c) ∗ pts (mlRows j) c fullShare (mlFull m c) ∗ oth c j (pts (agRows c) c (shr j) (agFull m))))

theorem done_ag (c : Dev nD) (j : Fin 32) :
    iprop(ctx m K ∗ ow c 0 ∗ pos c (some (4, j)) ∗ oth c j (credK c (4, j)))
      ⊢ wpc (F := F) c ((if isOther c j = 1#1 then do
          Prog.lift (.waitDma2 (semAt cc0_scratch9 j) (agMy c) (agMy c) ((Memref.isWhole_whole cc0_scratch4).wordExact_slice rfl _ (own_words c)) ((Memref.isWhole_whole cc0_scratch4).wordExact_slice rfl _ (own_words c)))
          pure ⟨⟩
        else pure ⟨⟩) : Bd (F := F) PUnit) fun _ => iprop(ow c 0 ∗ zero c (some (4, j)) ∗ oth c j (pts (agRows c) c (shr j) (agFull m))) := by
  unfold oth
  by_cases h : j = c
  · rw [if_neg (fun h' => (isOther_iff c j).mp h' h), if_pos h, if_pos h, wpc, Prog.pure_eq_ret, wp_ret]
    iintro ⟨#HC, HO, Ha, -⟩
    imod (close_unused m K c (4, j) (fun h' => h' ⟨le_refl 4, h⟩)) $$ [Ha] with Hz
    · isplitr; · iexact HC
      iexact Ha
    imodintro
    isplitl [HO]; · iexact HO
    isplitl [Hz]; · iexact Hz
    iempintro
  · rw [if_pos ((isOther_iff c j).mpr h), if_neg h, if_neg h]
    iintro ⟨#HC, HO, Ha, Hc⟩
    iapply (wp_then c (wait_own m K c (4, j) (used_ne _ _ _ h) rfl (Above.zero 0) (sem9 j) (credit_eq (agMy_eq c) (cr_agRows c).1))) $$ [HO Ha Hc]
    · isplitr; · iexact HC
      isplitl [Hc]; · iexact Hc
      isplitl [HO]; · iexact HO
      iexact Ha
    iintro ⟨HO, Hz, Hp⟩
    rw [wpc, Prog.pure_eq_ret, wp_ret]
    imodintro
    isplitl [HO]; · iexact HO
    isplitl [Hz]; · iexact Hz
    unfold dmaPay; iexact Hp

theorem done_step (c : Dev nD) (j : Fin 32) :
    iprop(ctx m K ∗ ow c 0 ∗ donePre c j) ⊢ wpc (F := F) c (doneStep c j) fun _ => iprop(ow c 0 ∗ donePost m c j) := by
  unfold doneStep donePre donePost
  iintro ⟨#HC, HO, ⟨Hc0, Ha0⟩, ⟨Hc2, Ha2⟩, Ha4, Hc4⟩
  iapply (wp_then c (wait_own m K c (0, j) (used_low _ _ _ (by decide)) rfl (Above.zero 0) (sem5 j) (cr_nRows j))) $$ [HO Hc0 Ha0]
  · isplitr; · iexact HC
    isplitl [Hc0]; · iexact Hc0
    isplitl [HO]; · iexact HO
    iexact Ha0
  iintro ⟨HO, Hz0, Hp0⟩
  iapply (wp_then c (wait_own m K c (2, j) (used_low _ _ _ (by decide)) rfl (Above.zero 0) (sem7 j) (cr_mlRows j))) $$ [HO Hc2 Ha2]
  · isplitr; · iexact HC
    isplitl [Hc2]; · iexact Hc2
    isplitl [HO]; · iexact HO
    iexact Ha2
  iintro ⟨HO, Hz2, Hp2⟩
  iapply (wp_wand_r frame (wpE (defs₀ (F := F)) 𝒱₀ (c : Thread nD τ) none) Set.univ
    (Q := fun _ => iprop(ow c 0 ∗ zero c (some (4, j)) ∗ oth c j (pts (agRows c) c (shr j) (agFull m)))))
  isplitl [HO Ha4 Hc4]
  · iapply (done_ag m K c j)
    isplitr; · iexact HC
    isplitl [HO]; · iexact HO
    isplitl [Ha4]; · iexact Ha4
    iexact Hc4
  iintro %_ ⟨HO, Hz4, Hp4⟩
  isplitl [HO]; · iexact HO
  isplitl [Hz0 Hz2 Hz4]
  · isplitl [Hz0]; · iexact Hz0
    isplitl [Hz2]; · iexact Hz2
    iexact Hz4
  unfold dmaPay
  isplitl [Hp0]; · iexact Hp0
  isplitl [Hp2]; · iexact Hp2
  iexact Hp4

end Cert.KernelIdeal.Att

end
-- ==== Proof.Compute.lean ====
/- The stores: what a class's loop writes, piece by piece, then its sends. -/
module

public import proofs.«01_k».proof.Proof.Exchange

@[expose] public section

set_option maxRecDepth 16384

noncomputable section

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option Own → ℕ)

/-! ## The rows of a class -/

def clsN (cl : Fin 4) : Finset S1024x1024.Idx := Finset.univ.filter fun i => (i 0).val / 64 % 4 = cl.val
def clsMl (cl : Fin 4) : Finset S1024x16.Idx := Finset.univ.filter fun i => (i 0).val / 64 % 4 = cl.val

theorem mem_clsN {cl : Fin 4} {i : S1024x1024.Idx} : i ∈ clsN cl ↔ (i 0).val / 64 % 4 = cl.val := by
  unfold clsN; rw [Finset.mem_filter]; exact and_iff_right (Finset.mem_univ i)
theorem mem_clsMl {cl : Fin 4} {i : S1024x16.Idx} : i ∈ clsMl cl ↔ (i 0).val / 64 % 4 = cl.val := by
  unfold clsMl; rw [Finset.mem_filter]; exact and_iff_right (Finset.mem_univ i)

theorem mem_clsDevs : ∀ (cl : Fin 4) (j : Fin 32), j ∈ clsDevs cl ↔ j.val / 2 % 4 = cl.val := by decide +kernel
theorem clsDevs_nodup : ∀ cl : Fin 4, (clsDevs cl).Nodup := by decide +kernel

theorem clsN_parts (cl : Fin 4) (i : S1024x1024.Idx) : i ∈ clsN cl ↔ ∃ j ∈ (clsDevs cl).toFinset, i ∈ (nRows j).view.set := by
  rw [mem_clsN]
  have h0 := idx2_lt0 (n0 := 1024) (n1 := 1024) i
  constructor
  · intro h
    exact ⟨⟨(i 0).val / 32, by omega⟩, List.mem_toFinset.mpr ((mem_clsDevs cl _).mpr (show (i 0).val / 32 / 2 % 4 = cl.val by omega)), mem_nRows.mpr rfl⟩
  · rintro ⟨j, hj, hi⟩
    have h1 := (mem_clsDevs cl j).mp (List.mem_toFinset.mp hj)
    have h2 := mem_nRows.mp hi
    omega
theorem clsMl_parts (cl : Fin 4) (i : S1024x16.Idx) : i ∈ clsMl cl ↔ ∃ j ∈ (clsDevs cl).toFinset, i ∈ (mlRows j).view.set := by
  rw [mem_clsMl]
  have h0 := idx2_lt0 (n0 := 1024) (n1 := 16) i
  constructor
  · intro h
    exact ⟨⟨(i 0).val / 32, by omega⟩, List.mem_toFinset.mpr ((mem_clsDevs cl _).mpr (show (i 0).val / 32 / 2 % 4 = cl.val by omega)), mem_mlRows.mpr rfl⟩
  · rintro ⟨j, hj, hi⟩
    have h1 := (mem_clsDevs cl j).mp (List.mem_toFinset.mp hj)
    have h2 := mem_mlRows.mp hi
    omega
theorem nRows_disjoint {j j' : Fin 32} (h : j ≠ j') : Disjoint (nRows j).view.set (nRows j').view.set :=
  Finset.disjoint_left.mpr fun i hi hi' => h (Fin.ext ((mem_nRows.mp hi).symm.trans (mem_nRows.mp hi')))
theorem mlRows_disjoint {j j' : Fin 32} (h : j ≠ j') : Disjoint (mlRows j).view.set (mlRows j').view.set :=
  Finset.disjoint_left.mpr fun i hi hi' => h (Fin.ext ((mem_mlRows.mp hi).symm.trans (mem_mlRows.mp hi')))

/-- The two buffers on device `c`. -/
abbrev locN (c : Dev nD) : Loc nD τ sig := (Memref.whole cc0_scratch0).view.loc (c : Thread nD τ)
abbrev locMl (c : Dev nD) : Loc nD τ sig := (Memref.whole cc0_scratch1).view.loc (c : Thread nD τ)

theorem clsN_split (c : Dev nD) (cl : Fin 4) (f : Buf (Elt F) (locN c)) :
    (locN c ↦[clsN cl]{fullShare} f : sProp 𝕄) = allOf (fun j => pts (nRows j) c fullShare f) (clsDevs cl) := by
  rw [allOf_toFinset _ (clsDevs_nodup cl)]
  exact (congrArg (fun S : Finset (Idx (locN c)) => (locN c ↦[S]{fullShare} f : sProp 𝕄)) (Finset.ext fun i => (clsN_parts cl i).trans Finset.mem_biUnion.symm)).trans
    (pointsTo_biUnion (ℓ := locN c) (clsDevs cl).toFinset (fun j => (nRows j).view.set) fun j _ j' _ h => nRows_disjoint h)
theorem clsMl_split (c : Dev nD) (cl : Fin 4) (f : Buf (Elt F) (locMl c)) :
    (locMl c ↦[clsMl cl]{fullShare} f : sProp 𝕄) = allOf (fun j => pts (mlRows j) c fullShare f) (clsDevs cl) := by
  rw [allOf_toFinset _ (clsDevs_nodup cl)]
  exact (congrArg (fun S : Finset (Idx (locMl c)) => (locMl c ↦[S]{fullShare} f : sProp 𝕄)) (Finset.ext fun i => (clsMl_parts cl i).trans Finset.mem_biUnion.symm)).trans
    (pointsTo_biUnion (ℓ := locMl c) (clsDevs cl).toFinset (fun j => (mlRows j).view.set) fun j _ j' _ h => mlRows_disjoint h)

/-! ## The pieces -/

abbrev nRect (cl : Fin 4) (x : Fin 8 × Fin 4) : Rect S1024x1024 :=
  Rect.unit (s := S1024x1024) ![64 * cl.val + 256 * x.2.val, 128 * x.1.val] S64x128.size (nst_inb cl x.1 x.2)
abbrev mlRect (cl : Fin 4) (x : Fin 4 × Bool) : Rect S1024x16 :=
  Rect.unit (s := S1024x16) ![64 * cl.val + 256 * x.1.val, bif x.2 then 8 else 0] S64x8.size (mlst_inb cl x.1 x.2)
abbrev nBox (cl : Fin 4) (x : Fin 8 × Fin 4) : Finset S1024x1024.Idx := ((Memref.whole cc0_scratch0).access (nRect cl x)).set
abbrev mlBox (cl : Fin 4) (x : Fin 4 × Bool) : Finset S1024x16.Idx := ((Memref.whole cc0_scratch1).access (mlRect cl x)).set

theorem mem_nBox {cl : Fin 4} {x : Fin 8 × Fin 4} {i : S1024x1024.Idx} :
    i ∈ nBox cl x ↔ (i 0).val / 64 = cl.val + 4 * x.2.val ∧ (i 1).val / 128 = x.1.val := by
  refine (Iff.of_eq (congrArg (fun S : Finset _ => i ∈ S) (View.set_slice_whole cc0_scratch0 (nRect cl x)))).trans ?_
  refine Rect.mem_set_unit.trans (Fin.forall_fin_two.trans ?_)
  show (64 * cl.val + 256 * x.2.val ≤ (i 0).val ∧ (i 0).val < 64 * cl.val + 256 * x.2.val + 64) ∧ (128 * x.1.val ≤ (i 1).val ∧ (i 1).val < 128 * x.1.val + 128) ↔ _
  omega
theorem mem_mlBox {cl : Fin 4} {x : Fin 4 × Bool} {i : S1024x16.Idx} :
    i ∈ mlBox cl x ↔ (i 0).val / 64 = cl.val + 4 * x.1.val ∧ (i 1).val / 8 = bif x.2 then 1 else 0 := by
  refine (Iff.of_eq (congrArg (fun S : Finset _ => i ∈ S) (View.set_slice_whole cc0_scratch1 (mlRect cl x)))).trans ?_
  refine Rect.mem_set_unit.trans (Fin.forall_fin_two.trans ?_)
  obtain ⟨g, b⟩ := x
  cases b
  · show (64 * cl.val + 256 * g.val ≤ (i 0).val ∧ (i 0).val < 64 * cl.val + 256 * g.val + 64) ∧ (0 ≤ (i 1).val ∧ (i 1).val < 0 + 8) ↔ (i 0).val / 64 = cl.val + 4 * g.val ∧ (i 1).val / 8 = 0
    omega
  · show (64 * cl.val + 256 * g.val ≤ (i 0).val ∧ (i 0).val < 64 * cl.val + 256 * g.val + 64) ∧ (8 ≤ (i 1).val ∧ (i 1).val < 8 + 8) ↔ (i 0).val / 64 = cl.val + 4 * g.val ∧ (i 1).val / 8 = 1
    omega

theorem nRect_emb (cl : Fin 4) (x : Fin 8 × Fin 4) (y : S64x128.Idx) :
    ((Memref.whole cc0_scratch0).access (nRect cl x)).emb y = ix2 (n0 := 1024) (n1 := 1024)
      ⟨64 * cl.val + 256 * x.2.val + (y 0).val, by have := idx2_lt0 (n0 := 64) (n1 := 128) y; omega⟩
      ⟨128 * x.1.val + (y 1).val, by have := idx2_lt1 (n0 := 64) (n1 := 128) y; omega⟩ := by
  funext a
  match a with
  | ⟨0, _⟩ => exact Fin.ext (show 64 * cl.val + 256 * x.2.val + 1 * (y 0).val = 64 * cl.val + 256 * x.2.val + (y 0).val by omega)
  | ⟨1, _⟩ => exact Fin.ext (show 128 * x.1.val + 1 * (y 1).val = 128 * x.1.val + (y 1).val by omega)
theorem mlRect_emb (cl : Fin 4) (x : Fin 4 × Bool) (y : S64x8.Idx) :
    ((Memref.whole cc0_scratch1).access (mlRect cl x)).emb y = ix2 (n0 := 1024) (n1 := 16)
      ⟨64 * cl.val + 256 * x.1.val + (y 0).val, by have := idx2_lt0 (n0 := 64) (n1 := 8) y; omega⟩
      ⟨(bif x.2 then 8 else 0) + (y 1).val, by have := idx2_lt1 (n0 := 64) (n1 := 8) y; cases x.2 <;> (simp only [cond]; omega)⟩ := by
  funext a
  match a with
  | ⟨0, _⟩ => exact Fin.ext (show 64 * cl.val + 256 * x.1.val + 1 * (y 0).val = 64 * cl.val + 256 * x.1.val + (y 0).val by omega)
  | ⟨1, _⟩ => exact Fin.ext (show (bif x.2 then 8 else 0) + 1 * (y 1).val = (bif x.2 then 8 else 0) + (y 1).val by omega)

/-- A stored piece is that part of the whole. -/
theorem nStored (d : Dev nD) (cl : Fin 4) (x : Fin 8 × Fin 4) (f : (cc0_scratch0 : Ref sig .tc).ty.Contents (Elt F)) :
    ∀ i ∈ nBox cl x, ((Memref.whole cc0_scratch0).access (nRect cl x)).write (Elt F) f (nPiece (qOf m d) (kOf m d) (vOf m d) cl x.1 x.2) Finset.univ i = nFull m d i := by
  intro i hi
  obtain ⟨y, -, rfl⟩ := Finset.mem_map.mp hi
  rw [View.write_emb_of_mem _ _ (Finset.mem_univ _), nRect_emb]
  have h0 := idx2_lt0 (n0 := 64) (n1 := 128) y
  have h1 := idx2_lt1 (n0 := 64) (n1 := 128) y
  obtain ⟨h, g⟩ := x
  show nPiece _ _ _ cl h g y = nPiece _ _ _ (rowCls (64 * cl.val + 256 * g.val + (y 0).val)) ⟨(128 * h.val + (y 1).val) / 128, _⟩
    (rowBlk (64 * cl.val + 256 * g.val + (y 0).val)) (ix2 (n0 := 64) (n1 := 128) (rowIn (64 * cl.val + 256 * g.val + (y 0).val)) ⟨(128 * h.val + (y 1).val) % 128, _⟩)
  have e1 : rowCls (64 * cl.val + 256 * g.val + (y 0).val) = cl := Fin.ext (show (64 * cl.val + 256 * g.val + (y 0).val) / 64 % 4 = cl.val by omega)
  have e2 : rowBlk (64 * cl.val + 256 * g.val + (y 0).val) = g := Fin.ext (show (64 * cl.val + 256 * g.val + (y 0).val) / 256 % 4 = g.val by omega)
  have e3 : (⟨(128 * h.val + (y 1).val) / 128, by omega⟩ : Fin 8) = h := Fin.ext (show (128 * h.val + (y 1).val) / 128 = h.val by omega)
  have e4 : ix2 (n0 := 64) (n1 := 128) (rowIn (64 * cl.val + 256 * g.val + (y 0).val)) ⟨(128 * h.val + (y 1).val) % 128, by omega⟩ = y := by
    funext a
    match a with
    | ⟨0, _⟩ => exact Fin.ext (show (64 * cl.val + 256 * g.val + (y 0).val) % 64 = (y 0).val by omega)
    | ⟨1, _⟩ => exact Fin.ext (show (128 * h.val + (y 1).val) % 128 = (y 1).val by omega)
  rw [e1, e2, e3, e4]
theorem mlStored (d : Dev nD) (cl : Fin 4) (x : Fin 4 × Bool) (f : (cc0_scratch1 : Ref sig .tc).ty.Contents (Elt F)) :
    ∀ i ∈ mlBox cl x, ((Memref.whole cc0_scratch1).access (mlRect cl x)).write (Elt F) f (mlPiece (qOf m d) (kOf m d) cl x.1 x.2) Finset.univ i = mlFull m d i := by
  intro i hi
  obtain ⟨y, -, rfl⟩ := Finset.mem_map.mp hi
  rw [View.write_emb_of_mem _ _ (Finset.mem_univ _), mlRect_emb]
  have h0 := idx2_lt0 (n0 := 64) (n1 := 8) y
  have h1 := idx2_lt1 (n0 := 64) (n1 := 8) y
  obtain ⟨g, b⟩ := x
  show mlPiece _ _ cl g b y = mlPiece _ _ (rowCls (64 * cl.val + 256 * g.val + (y 0).val))
    (rowBlk (64 * cl.val + 256 * g.val + (y 0).val)) (decide (8 ≤ (bif b then 8 else 0) + (y 1).val))
    (ix2 (n0 := 64) (n1 := 8) (rowIn (64 * cl.val + 256 * g.val + (y 0).val)) ⟨((bif b then 8 else 0) + (y 1).val) % 8, _⟩)
  have e1 : rowCls (64 * cl.val + 256 * g.val + (y 0).val) = cl := Fin.ext (show (64 * cl.val + 256 * g.val + (y 0).val) / 64 % 4 = cl.val by omega)
  have e2 : rowBlk (64 * cl.val + 256 * g.val + (y 0).val) = g := Fin.ext (show (64 * cl.val + 256 * g.val + (y 0).val) / 256 % 4 = g.val by omega)
  have e3 : decide (8 ≤ (bif b then 8 else 0) + (y 1).val) = b := by
    cases b
    · exact decide_eq_false (show ¬ 8 ≤ 0 + (y 1).val by omega)
    · exact decide_eq_true (show 8 ≤ 8 + (y 1).val by omega)
  have e4 : ix2 (n0 := 64) (n1 := 8) (rowIn (64 * cl.val + 256 * g.val + (y 0).val)) ⟨((bif b then 8 else 0) + (y 1).val) % 8, by omega⟩ = y := by
    funext a
    match a with
    | ⟨0, _⟩ => exact Fin.ext (show (64 * cl.val + 256 * g.val + (y 0).val) % 64 = (y 0).val by omega)
    | ⟨1, _⟩ =>
      refine Fin.ext (show ((bif b then 8 else 0) + (y 1).val) % 8 = (y 1).val from ?_)
      cases b
      · show (0 + (y 1).val) % 8 = (y 1).val; omega
      · show (8 + (y 1).val) % 8 = (y 1).val; omega
  rw [e1, e2, e3, e4]

/-! ## The stores of a class -/

/-- A class's rows, the pieces in `l` still to be stored. -/
def nTodo (c : Dev nD) (cl : Fin 4) (l : List (Fin 8 × Fin 4)) : sProp 𝕄 :=
  iprop(∃ f : Buf (Elt F) (locN c), ⌜∀ i ∈ clsN cl, (∀ x ∈ l, i ∉ nBox cl x) → f i = nFull m c i⌝ ∗ (locN c ↦[clsN cl]{fullShare} f))
def mlTodo (c : Dev nD) (cl : Fin 4) (l : List (Fin 4 × Bool)) : sProp 𝕄 :=
  iprop(∃ f : Buf (Elt F) (locMl c), ⌜∀ i ∈ clsMl cl, (∀ x ∈ l, i ∉ mlBox cl x) → f i = mlFull m c i⌝ ∗ (locMl c ↦[clsMl cl]{fullShare} f))

theorem nBox_sub (cl : Fin 4) (x : Fin 8 × Fin 4) : nBox cl x ⊆ clsN cl := fun i hi => by
  have := (mem_nBox.mp hi).1
  exact mem_clsN.mpr (by omega)
theorem mlBox_sub (cl : Fin 4) (x : Fin 4 × Bool) : mlBox cl x ⊆ clsMl cl := fun i hi => by
  have := (mem_mlBox.mp hi).1
  exact mem_clsMl.mpr (by omega)

theorem nStore_step (c : Dev nD) (cl : Fin 4) (x : Fin 8 × Fin 4) (l : List (Fin 8 × Fin 4)) :
    iprop(ctx m K ∗ nTodo m c cl (x :: l) ∗ emp)
      ⊢ wpc (F := F) c (nStore (qOf m c) (kOf m c) (vOf m c) cl x) fun _ => iprop(nTodo m c cl l ∗ emp) := by
  unfold nStore nTodo
  simp only [Prog.lift, Prog.bind_op, Prog.bind_ret]
  iintro ⟨-, ⟨%f, %hf, Hn⟩, -⟩
  iapply (wp_load_rect 𝒱₀ (c : Thread nD τ) none Set.univ (m := Memref.whole cc0_scratch0) (r := nRect cl x) (nBox_sub cl x)) $$ Hn
  iintro Hn
  iapply (wp_store 𝒱₀ (c : Thread nD τ) none Set.univ (m := Memref.whole cc0_scratch0) (r := nRect cl x) (Mk := Finset.univ) (nBox_sub cl x)) $$ Hn
  iintro Hn
  rw [wp_ret]; imodintro
  isplitl [Hn]
  · iexists _
    isplitr
    · ipureintro
      intro i hi hl
      by_cases hx : i ∈ nBox cl x
      · exact nStored m c cl x f i hx
      · rw [View.write_of_not_mem _ _ _ (by rw [View.setOn_univ]; exact hx)]
        exact hf i hi fun y hy => by
          rcases List.mem_cons.mp hy with rfl | hy
          · exact hx
          · exact hl y hy
    iexact Hn
  iempintro
theorem mlStore_step (c : Dev nD) (cl : Fin 4) (x : Fin 4 × Bool) (l : List (Fin 4 × Bool)) :
    iprop(ctx m K ∗ mlTodo m c cl (x :: l) ∗ emp)
      ⊢ wpc (F := F) c (mlStore (qOf m c) (kOf m c) cl x) fun _ => iprop(mlTodo m c cl l ∗ emp) := by
  unfold mlStore mlTodo
  simp only [Prog.lift, Prog.bind_op, Prog.bind_ret]
  iintro ⟨-, ⟨%f, %hf, Hn⟩, -⟩
  iapply (wp_load_rect 𝒱₀ (c : Thread nD τ) none Set.univ (m := Memref.whole cc0_scratch1) (r := mlRect cl x) (mlBox_sub cl x)) $$ Hn
  iintro Hn
  iapply (wp_store 𝒱₀ (c : Thread nD τ) none Set.univ (m := Memref.whole cc0_scratch1) (r := mlRect cl x) (Mk := Finset.univ) (mlBox_sub cl x)) $$ Hn
  iintro Hn
  rw [wp_ret]; imodintro
  isplitl [Hn]
  · iexists _
    isplitr
    · ipureintro
      intro i hi hl
      by_cases hx : i ∈ mlBox cl x
      · exact mlStored m c cl x f i hx
      · rw [View.write_of_not_mem _ _ _ (by rw [View.setOn_univ]; exact hx)]
        exact hf i hi fun y hy => by
          rcases List.mem_cons.mp hy with rfl | hy
          · exact hx
          · exact hl y hy
    iexact Hn
  iempintro

theorem allOf_emp {A : Type} (l : List A) : (iprop(emp) : sProp 𝕄) ⊢ allOf (fun _ => iprop(emp)) l := by
  induction l with
  | nil => exact BI.Entails.refl _
  | cons a l ih => exact BI.emp_sep_intro.trans (BI.sep_mono (BI.Entails.refl _) ih)

/-- Before the stores nothing is asked of the contents; after them the contents are known. -/
theorem nTodo_start (c : Dev nD) (cl : Fin 4) (f : Buf (Elt F) (locN c)) :
    (locN c ↦[clsN cl]{fullShare} f : sProp 𝕄) ⊢ nTodo m c cl ((List.finRange 8).flatMap fun h => (List.finRange 4).map fun g => (h, g)) := by
  unfold nTodo
  iintro H
  iexists f
  isplitr
  · ipureintro
    intro i hi hl
    have h0 := idx2_lt0 (n0 := 1024) (n1 := 1024) i
    have h1 := idx2_lt1 (n0 := 1024) (n1 := 1024) i
    have h2 := mem_clsN.mp hi
    refine absurd ?_ (hl (⟨(i 1).val / 128, by omega⟩, ⟨(i 0).val / 256, by omega⟩)
      (List.mem_flatMap.mpr ⟨_, List.mem_finRange _, List.mem_map.mpr ⟨_, List.mem_finRange _, rfl⟩⟩))
    exact mem_nBox.mpr ⟨show (i 0).val / 64 = cl.val + 4 * ((i 0).val / 256) by omega, rfl⟩
  iexact H
theorem mlTodo_start (c : Dev nD) (cl : Fin 4) (f : Buf (Elt F) (locMl c)) :
    (locMl c ↦[clsMl cl]{fullShare} f : sProp 𝕄) ⊢ mlTodo m c cl ((List.finRange 4).flatMap fun g => [(g, false), (g, true)]) := by
  unfold mlTodo
  iintro H
  iexists f
  isplitr
  · ipureintro
    intro i hi hl
    have h0 := idx2_lt0 (n0 := 1024) (n1 := 16) i
    have h1 := idx2_lt1 (n0 := 1024) (n1 := 16) i
    have h2 := mem_clsMl.mp hi
    by_cases h8 : (i 1).val < 8
    · refine absurd ?_ (hl (⟨(i 0).val / 256, by omega⟩, false) (List.mem_flatMap.mpr ⟨_, List.mem_finRange _, List.mem_cons_self⟩))
      exact mem_mlBox.mpr ⟨show (i 0).val / 64 = cl.val + 4 * ((i 0).val / 256) by omega, show (i 1).val / 8 = 0 by omega⟩
    · refine absurd ?_ (hl (⟨(i 0).val / 256, by omega⟩, true) (List.mem_flatMap.mpr ⟨_, List.mem_finRange _, List.mem_cons_of_mem _ List.mem_cons_self⟩))
      exact mem_mlBox.mpr ⟨show (i 0).val / 64 = cl.val + 4 * ((i 0).val / 256) by omega, show (i 1).val / 8 = 1 by omega⟩
  iexact H
theorem nTodo_end (c : Dev nD) (cl : Fin 4) : nTodo m c cl [] ⊢ allOf (fun j => pts (nRows j) c fullShare (nFull m c)) (clsDevs cl) := by
  unfold nTodo
  iintro ⟨%f, %hf, H⟩
  ihave H := (Entails.of_eq ((pointsTo_congr fun i hi => hf i hi fun x hx => absurd hx List.not_mem_nil).trans (clsN_split c cl (nFull m c)))) $$ H
  iexact H
theorem mlTodo_end (c : Dev nD) (cl : Fin 4) : mlTodo m c cl [] ⊢ allOf (fun j => pts (mlRows j) c fullShare (mlFull m c)) (clsDevs cl) := by
  unfold mlTodo
  iintro ⟨%f, %hf, H⟩
  ihave H := (Entails.of_eq ((pointsTo_congr fun i hi => hf i hi fun x hx => absurd hx List.not_mem_nil).trans (clsMl_split c cl (mlFull m c)))) $$ H
  iexact H

/-- What a class takes: its rows at any contents, and for each of its devices the places and the tokens. -/
def sendTo (c : Dev nD) (j : Fin 32) : sProp 𝕄 :=
  iprop((anyPts (nSlot c) j ∗ anyPts (mlSlot c) j) ∗ (tok c (some (0, j)) 0 ∗ tok j (some (1, c)) 0) ∗ (tok c (some (2, j)) 0 ∗ tok j (some (3, c)) 0))
def clsPre (c : Dev nD) (cl : Fin 4) : sProp 𝕄 :=
  iprop((∃ f : Buf (Elt F) (locN c), locN c ↦[clsN cl]{fullShare} f) ∗ (∃ f : Buf (Elt F) (locMl c), locMl c ↦[clsMl cl]{fullShare} f)
    ∗ allOf (sendTo c) (clsDevs cl))

abbrev nList : List (Fin 8 × Fin 4) := (List.finRange 8).flatMap fun h => (List.finRange 4).map fun g => (h, g)
abbrev mlList : List (Fin 4 × Bool) := (List.finRange 4).flatMap fun g => [(g, false), (g, true)]

theorem nStores (c : Dev nD) (cl : Fin 4) :
    iprop(ctx m K ∗ ∃ f : Buf (Elt F) (locN c), locN c ↦[clsN cl]{fullShare} f)
      ⊢ wpc (F := F) c (each (nStore (qOf m c) (kOf m c) (vOf m c) cl) nList) fun _ => nTodo m c cl [] := by
  refine .trans ?_ (wp_mono frame (wpE (defs₀ (F := F)) 𝒱₀ (c : Thread nD τ) none) Set.univ (Q := fun _ => iprop(nTodo m c cl [] ∗ allOf (fun _ => iprop(emp)) nList)) (fun _ => by iintro ⟨H, -⟩; iexact H))
  refine .trans ?_ (wp_each c (ctx m K) (nTodo m c cl) (fun _ => iprop(emp)) (fun _ => iprop(emp)) (nStore (qOf m c) (kOf m c) (vOf m c) cl) (nStore_step m K c cl) nList)
  iintro ⟨#HC, ⟨%f, Hn⟩⟩
  isplitr; · iexact HC
  isplitl [Hn]; · iapply (nTodo_start m c cl f); iexact Hn
  iapply (allOf_emp (F := F)); iempintro
theorem mlStores (c : Dev nD) (cl : Fin 4) :
    iprop(ctx m K ∗ ∃ f : Buf (Elt F) (locMl c), locMl c ↦[clsMl cl]{fullShare} f)
      ⊢ wpc (F := F) c (each (mlStore (qOf m c) (kOf m c) cl) mlList) fun _ => mlTodo m c cl [] := by
  refine .trans ?_ (wp_mono frame (wpE (defs₀ (F := F)) 𝒱₀ (c : Thread nD τ) none) Set.univ (Q := fun _ => iprop(mlTodo m c cl [] ∗ allOf (fun _ => iprop(emp)) mlList)) (fun _ => by iintro ⟨H, -⟩; iexact H))
  refine .trans ?_ (wp_each c (ctx m K) (mlTodo m c cl) (fun _ => iprop(emp)) (fun _ => iprop(emp)) (mlStore (qOf m c) (kOf m c) cl) (mlStore_step m K c cl) mlList)
  iintro ⟨#HC, ⟨%f, Hn⟩⟩
  isplitr; · iexact HC
  isplitl [Hn]; · iapply (mlTodo_start m c cl f); iexact Hn
  iapply (allOf_emp (F := F)); iempintro

theorem sep_three (A A' B B' C C' : sProp 𝕄) : iprop((A ∗ A') ∗ (B ∗ B') ∗ (C ∗ C')) ⊢ iprop(((A ∗ B) ∗ C) ∗ (A' ∗ B' ∗ C')) := by
  iintro ⟨⟨H1, H1'⟩, ⟨H2, H2'⟩, ⟨H3, H3'⟩⟩
  isplitl [H1 H2 H3]
  · isplitl [H1 H2]
    · isplitl [H1]; · iexact H1
      iexact H2
    iexact H3
  isplitl [H1']; · iexact H1'
  isplitl [H2']; · iexact H2'
  iexact H3'

theorem sendPre_all (c : Dev nD) (l : List (Fin 32)) :
    iprop(allOf (fun j => pts (nRows j) c fullShare (nFull m c)) l ∗ allOf (fun j => pts (mlRows j) c fullShare (mlFull m c)) l ∗ allOf (sendTo c) l)
      ⊢ allOf (sendPre m c) l := by
  induction l with
  | nil => iintro -; iempintro
  | cons j l ih =>
    exact BI.Entails.trans (sep_three _ _ _ _ _ _) (BI.sep_mono (BI.Entails.refl (sendPre m c j)) ih)

theorem sends (c : Dev nD) (B : CellTallies nD τ sig Unit) (l : List (Fin 32)) :
    iprop(ctx m K ∗ ow c (B + owedOver (dSend c) l) ∗ allOf (sendPre m c) l)
      ⊢ wpc (F := F) c (each (sendStep c) l) fun _ => iprop(ow c (B + 0) ∗ allOf (sendPost c) l) :=
  wp_each c (ctx m K) (fun l => ow c (B + owedOver (dSend c) l)) (sendPre m c) (sendPost c) (sendStep c) (fun j l' => send_step m K c B j l') l

theorem cls_step (c : Dev nD) (cl : Fin 4) (l : List (Fin 4)) :
    iprop(ctx m K ∗ ow c (owedAg c + owedOver (dSend c) (sendOrder (cl :: l))) ∗ clsPre c cl)
      ⊢ wpc (F := F) c (clsStep (qOf m c) (kOf m c) (vOf m c) c cl) fun _ =>
          iprop(ow c (owedAg c + owedOver (dSend c) (sendOrder l)) ∗ allOf (sendPost c) (clsDevs cl)) := by
  unfold clsStep clsPre
  rw [show owedAg c + owedOver (dSend c) (sendOrder (cl :: l)) = (owedAg c + owedOver (dSend c) (sendOrder l)) + owedOver (dSend c) (clsDevs cl) from by
    rw [show sendOrder (cl :: l) = clsDevs cl ++ sendOrder l from List.flatMap_cons, owedOver_append, add_assoc]]
  iintro ⟨#HC, HO, Hn, Hml, Hs⟩
  iapply (wp_then c (nStores m K c cl)) $$ [Hn]
  · isplitr; · iexact HC
    iexact Hn
  iintro Hn
  iapply (wp_then c (mlStores m K c cl)) $$ [Hml]
  · isplitr; · iexact HC
    iexact Hml
  iintro Hml
  ihave Hn := (nTodo_end m c cl) $$ Hn
  ihave Hml := (mlTodo_end m c cl) $$ Hml
  ihave Hp := (sendPre_all m c (clsDevs cl)) $$ [Hn Hml Hs]
  · isplitl [Hn]; · iexact Hn
    isplitl [Hml]; · iexact Hml
    iexact Hs
  iapply (wp_wand_r frame (wpE (defs₀ (F := F)) 𝒱₀ (c : Thread nD τ) none) Set.univ
    (Q := fun _ => iprop(ow c (owedAg c + owedOver (dSend c) (sendOrder l) + 0) ∗ allOf (sendPost c) (clsDevs cl))))
  isplitl [HO Hp]
  · iapply (sends m K c (owedAg c + owedOver (dSend c) (sendOrder l)) (clsDevs cl))
    isplitr; · iexact HC
    isplitl [HO]; · iexact HO
    iexact Hp
  rw [add_zero]
  iintro %_ H
  iexact H

end Cert.KernelIdeal.Att

end
-- ==== Proof.Parts.lean ====
/- Buffers held whole and in parts; the merge and the writing of the result. -/
module

public import proofs.«01_k».proof.Proof.Compute

@[expose] public section

set_option maxRecDepth 16384

noncomputable section

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option Own → ℕ)

/-! ## Over all devices -/

/-- All devices, in order. -/
abbrev devs : List (Fin 32) := List.finRange 32

theorem emp_left (P : sProp 𝕄) : iprop(emp ∗ P) = P := BI.equiv_iff.mp BI.emp_sep

theorem allOf_devs (P : Fin 32 → sProp 𝕄) : allOf P devs = bigSep Finset.univ P := allOf_finRange P

/-- One device's and every other device's. -/
theorem allOf_oth (c : Dev nD) (P : Fin 32 → sProp 𝕄) : allOf P devs = iprop(P c ∗ allOf (fun j => oth c j (P j)) devs) := by
  have e (Q : Fin 32 → sProp 𝕄) : bigSep Finset.univ Q = iprop(Q c ∗ bigSep (Finset.univ.erase (c : Fin 32)) Q) := bigSep_erase (Finset.mem_univ (c : Fin 32))
  have e' : bigSep (Finset.univ.erase (c : Fin 32)) (fun j => oth c j (P j)) = bigSep (Finset.univ.erase (c : Fin 32)) P :=
    bigSep_congr fun j hj => if_neg (Finset.mem_erase.mp hj).1
  rw [allOf_devs, allOf_devs, e P, e fun j => oth c j (P j), e', show oth c c (P c) = iprop(emp) from if_pos rfl, emp_left]

theorem oth_sep (c : Dev nD) (j : Fin 32) (P Q : sProp 𝕄) : oth c j iprop(P ∗ Q) = iprop(oth c j P ∗ oth c j Q) := by
  unfold oth; by_cases h : j = c
  · rw [if_pos h, if_pos h, if_pos h, emp_left]
  · rw [if_neg h, if_neg h, if_neg h]

theorem oth_congr (c : Dev nD) (j : Fin 32) {P Q : sProp 𝕄} (h : j ≠ c → P = Q) : oth c j P = oth c j Q := by
  unfold oth; by_cases h' : j = c
  · rw [if_pos h', if_pos h']
  · rw [if_neg h', if_neg h', h h']

theorem allOf_congr {A : Type} {P Q : A → sProp 𝕄} (h : ∀ a, P a = Q a) (l : List A) : allOf P l = allOf Q l := by
  rw [show P = Q from funext h]

/-- In the order of the sends. -/
theorem allOf_order (P : Fin 32 → sProp 𝕄) : allOf (fun cl => allOf P (clsDevs cl)) (List.finRange 4) = allOf P devs := by
  rw [← allOf_flatMap, allOf_devs, allOf_toFinset P (show ((List.finRange 4).flatMap clsDevs).Nodup by decide +kernel)]
  exact congrArg (fun s => bigSep s P) (show ((List.finRange 4).flatMap clsDevs).toFinset = Finset.univ by decide +kernel)

/-! ## Buffers in parts -/

abbrev locRs (c : Dev nD) : Loc nD τ sig := (Memref.whole cc0_scratch2).view.loc (c : Thread nD τ)
abbrev locRsMl (c : Dev nD) : Loc nD τ sig := (Memref.whole cc0_scratch3).view.loc (c : Thread nD τ)
abbrev locAg (c : Dev nD) : Loc nD τ sig := (Memref.whole cc0_scratch4).view.loc (c : Thread nD τ)

theorem whole_parts {ℓ : Loc nD τ sig} {B : Type} [Fintype B] (I : B → Finset (Idx ℓ)) (hd : ∀ b b', b ≠ b' → Disjoint (I b) (I b'))
    (hc : ∀ i, ∃ b, i ∈ I b) (q : PosShare TreeShare) (f : Buf (Elt F) ℓ) : (ℓ ↦{q} f : sProp 𝕄) = bigSep Finset.univ fun b => ℓ ↦[I b]{q} f :=
  (congrArg (fun S : Finset (Idx ℓ) => (ℓ ↦[S]{q} f : sProp 𝕄))
    (Finset.eq_univ_of_forall fun i => Finset.mem_biUnion.mpr ((hc i).imp fun b hb => ⟨Finset.mem_univ b, hb⟩)).symm).trans
    (pointsTo_biUnion Finset.univ I fun b _ b' _ h => hd b b' h)

/-- The device that merges a row. -/
def devOfRow (r : Fin 1024) : Fin 32 := ⟨r.val / 32, by omega⟩

theorem nRows_whole (c : Dev nD) (q : PosShare TreeShare) (f : Buf (Elt F) (locN c)) :
    (locN c ↦{q} f : sProp 𝕄) = allOf (fun j => pts (nRows j) c q f) devs := by
  rw [allOf_devs]
  exact whole_parts (ℓ := locN c) (fun j : Fin 32 => (nRows j).view.set) (fun j j' h => nRows_disjoint h)
    (fun (i : S1024x1024.Idx) => ⟨devOfRow (i 0), mem_nRows.mpr rfl⟩) _ f
theorem mlRows_whole (c : Dev nD) (q : PosShare TreeShare) (f : Buf (Elt F) (locMl c)) :
    (locMl c ↦{q} f : sProp 𝕄) = allOf (fun j => pts (mlRows j) c q f) devs := by
  rw [allOf_devs]
  exact whole_parts (ℓ := locMl c) (fun j : Fin 32 => (mlRows j).view.set) (fun j j' h => mlRows_disjoint h)
    (fun (i : S1024x16.Idx) => ⟨devOfRow (i 0), mem_mlRows.mpr rfl⟩) _ f
theorem agRows_whole (c : Dev nD) (q : PosShare TreeShare) (f : Buf (Elt F) (locAg c)) :
    (locAg c ↦{q} f : sProp 𝕄) = allOf (fun j => pts (agRows j) c q f) devs := by
  rw [allOf_devs]
  exact whole_parts (ℓ := locAg c) (fun j : Fin 32 => (agRows j).view.set)
    (fun j j' h => Finset.disjoint_left.mpr fun i hi hi' => h (Fin.ext ((mem_agRows.mp hi).symm.trans (mem_agRows.mp hi'))))
    (fun (i : S1024x1024.Idx) => ⟨devOfRow (i 0), mem_agRows.mpr rfl⟩) _ f
theorem nSlot_whole (c : Dev nD) (q : PosShare TreeShare) (f : Buf (Elt F) (locRs c)) :
    (locRs c ↦{q} f : sProp 𝕄) = allOf (fun j => pts (nSlot j) c q f) devs := by
  rw [allOf_devs]
  exact whole_parts (ℓ := locRs c) (fun j : Fin 32 => (nSlot j).view.set)
    (fun j j' h => Finset.disjoint_left.mpr fun i hi hi' => h (Fin.ext ((mem_nSlot.mp hi).symm.trans (mem_nSlot.mp hi'))))
    (fun (i : S32x32x1024.Idx) => ⟨i 0, mem_nSlot.mpr rfl⟩) _ f
theorem mlSlot_whole (c : Dev nD) (q : PosShare TreeShare) (f : Buf (Elt F) (locRsMl c)) :
    (locRsMl c ↦{q} f : sProp 𝕄) = allOf (fun j => pts (mlSlot j) c q f) devs := by
  rw [allOf_devs]
  exact whole_parts (ℓ := locRsMl c) (fun j : Fin 32 => (mlSlot j).view.set)
    (fun j j' h => Finset.disjoint_left.mpr fun i hi hi' => h (Fin.ext ((mem_mlSlot.mp hi).symm.trans (mem_mlSlot.mp hi'))))
    (fun (i : S32x32x16.Idx) => ⟨i 0, mem_mlSlot.mpr rfl⟩) _ f
theorem clsN_whole (c : Dev nD) (f : Buf (Elt F) (locN c)) :
    (locN c ↦{fullShare} f : sProp 𝕄) = allOf (fun cl => locN c ↦[clsN cl]{fullShare} f) (List.finRange 4) := by
  rw [allOf_finRange]
  exact whole_parts (ℓ := locN c) clsN
    (fun j j' h => Finset.disjoint_left.mpr fun i hi hi' => h (Fin.ext ((mem_clsN.mp hi).symm.trans (mem_clsN.mp hi'))))
    (fun (i : S1024x1024.Idx) => ⟨rowCls (i 0).val, mem_clsN.mpr rfl⟩) _ f
theorem clsMl_whole (c : Dev nD) (f : Buf (Elt F) (locMl c)) :
    (locMl c ↦{fullShare} f : sProp 𝕄) = allOf (fun cl => locMl c ↦[clsMl cl]{fullShare} f) (List.finRange 4) := by
  rw [allOf_finRange]
  exact whole_parts (ℓ := locMl c) clsMl
    (fun j j' h => Finset.disjoint_left.mpr fun i hi hi' => h (Fin.ext ((mem_clsMl.mp hi).symm.trans (mem_clsMl.mp hi'))))
    (fun (i : S1024x16.Idx) => ⟨rowCls (i 0).val, mem_clsMl.mpr rfl⟩) _ f

theorem any_intro {sp : Space} {s : Shape} {e : EltTy} (M : Memref sig .tc sp s e) (c : Dev nD) (f : Buf (Elt F) (M.view.loc (c : Thread nD τ))) :
    pts M c fullShare f ⊢ anyPts M c := by unfold anyPts; iintro H; iexists f; iexact H

/-! ## The merge -/

abbrev locWo (c : Dev nD) : Loc nD τ sig := (Memref.whole cc0_stg4_0).view.loc (c : Thread nD τ)
abbrev locOut (c : Dev nD) : Loc nD τ sig := (Memref.whole cc0_stg5_0).view.loc (c : Thread nD τ)

theorem hz2 : (![0, 0] : Fin 2 → ℕ) = fun _ => 0 := funext fun a => by fin_cases a <;> rfl
theorem hz3 : (![0, 0, 0] : Fin 3 → ℕ) = fun _ => 0 := funext fun a => by fin_cases a <;> rfl
theorem hz4 : (![0, 0, 0, 0] : Fin 4 → ℕ) = fun _ => 0 := funext fun a => by fin_cases a <;> rfl

theorem own_set {c : Dev nD} {o : Fin 2 → ℕ} (ho : o = ![32 * c.val, 0]) (h : ∀ a, o a + S32x1024.size a ≤ S1024x1024.size a) :
    (((Memref.whole cc0_scratch4).access (Rect.unit (s := S1024x1024) o S32x1024.size h)).set : Finset S1024x1024.Idx) = (agRows c).view.set := by
  subst ho; rfl
theorem own_stored {c : Dev nD} {o : Fin 2 → ℕ} (ho : o = ![32 * c.val, 0]) (h : ∀ a, o a + S32x1024.size a ≤ S1024x1024.size a)
    (fd : (cc0_scratch4 : Ref sig .tc).ty.Contents (Elt F)) :
    ∀ i ∈ (agRows c).view.set, ((Memref.whole cc0_scratch4).access (Rect.unit (s := S1024x1024) o S32x1024.size h)).write (Elt F) fd (chunk m c) Finset.univ i = agFull m i := by
  subst ho; exact agStored m c fd

theorem merge_step (c : Dev nD) (q : PosShare TreeShare) :
    iprop((locRs c ↦{fullShare} rsN m c) ∗ (locRsMl c ↦{fullShare} rsMl m c) ∗ (locWo c ↦{q} iblk m c 4 t0_0) ∗ anyPts (agRows c) c)
      ⊢ wpc (F := F) c (mergeStep c) fun _ =>
          iprop((locRs c ↦{fullShare} rsN m c) ∗ (locRsMl c ↦{fullShare} rsMl m c) ∗ (locWo c ↦{q} iblk m c 4 t0_0) ∗ pts (agRows c) c fullShare (agFull m)) := by
  unfold mergeStep anyPts
  simp only [Prog.lift, Prog.bind_op, Prog.bind_ret]
  iintro ⟨Hn, Hml, Hw, ⟨%f, Ha⟩⟩
  iapply (wp_load 𝒱₀ (c : Thread nD τ) none Set.univ (m := Memref.whole cc0_scratch2) (Finset.subset_univ _)) $$ Hn; iintro Hn
  iapply (wp_load 𝒱₀ (c : Thread nD τ) none Set.univ (m := Memref.whole cc0_scratch3) (Finset.subset_univ _)) $$ Hml; iintro Hml
  iapply (wp_load 𝒱₀ (c : Thread nD τ) none Set.univ (m := Memref.whole cc0_scratch3) (Finset.subset_univ _)) $$ Hml; iintro Hml
  iapply (wp_load 𝒱₀ (c : Thread nD τ) none Set.univ (m := win0_4.stage 0) (Finset.subset_univ _)) $$ Hw; iintro Hw
  iapply (wp_load_rect 𝒱₀ (c : Thread nD τ) none Set.univ (m := Memref.whole cc0_scratch4) (r := Rect.unit (s := S1024x1024) (k0_off4 c) S32x1024.size (k0_off4_inb c))
    (S := (agRows c).view.set) (own_set (off4_eq c) (k0_off4_inb c)).subset) $$ Ha; iintro Ha
  iapply (wp_store 𝒱₀ (c : Thread nD τ) none Set.univ (m := Memref.whole cc0_scratch4) (r := Rect.unit (s := S1024x1024) (k0_off4 c) S32x1024.size (k0_off4_inb c)) (Mk := Finset.univ)
    (S := (agRows c).view.set) (own_set (off4_eq c) (k0_off4_inb c)).subset) $$ Ha; iintro Ha
  rw [wp_ret]; imodintro
  isplitl [Hn]; · iexact Hn
  isplitl [Hml]; · iexact Hml
  isplitl [Hw]; · iexact Hw
  have e1 : (Memref.whole cc0_scratch2).view.readAt (Elt F) (Rect.unit (s := S32x32x1024) ![0, 0, 0] S32x32x1024.size inb_S32x32x1024_S32x32x1024_0_0_0).toLoadRect (rsN m c) = rsN m c :=
    Memref.readAt_unit_zero (Elt F) cc0_scratch2 hz3 _ _
  have e2 : (win0_4.stage 0).view.readAt (Elt F) (Rect.unit (s := S1024x1024) ![0, 0] S1024x1024.size inb_S1024x1024_S1024x1024_0_0).toLoadRect (iblk m c 4 t0_0) = iblk m c 4 t0_0 :=
    Memref.readAt_unit_zero (Elt F) cc0_stg4_0 hz2 _ _
  rw [e1, e2]
  ihave Ha := (Entails.of_eq (pointsTo_congr (own_stored m (off4_eq c) (k0_off4_inb c) f))) $$ Ha
  iexact Ha

/-! ## The result -/

theorem out_step (c : Dev nD) (q : PosShare TreeShare) :
    iprop((locAg c ↦{q} agFull m) ∗ ∃ g : Buf (Elt F) (locOut c), locOut c ↦{fullShare} g)
      ⊢ wpc (F := F) c outStep fun _ => iprop((locAg c ↦{q} agFull m) ∗ (locOut c ↦{fullShare} outFull m)) := by
  unfold outStep
  simp only [Prog.lift, Prog.bind_op, Prog.bind_ret]
  iintro ⟨Ha, ⟨%g, Ho⟩⟩
  iapply (wp_load 𝒱₀ (c : Thread nD τ) none Set.univ (m := Memref.whole cc0_scratch4) (Finset.subset_univ _)) $$ Ha; iintro Ha
  iapply (wp_load 𝒱₀ (c : Thread nD τ) none Set.univ (m := win0_5.stage 0) (Finset.subset_univ _)) $$ Ho; iintro Ho
  iapply (wp_store 𝒱₀ (c : Thread nD τ) none Set.univ (m := win0_5.stage 0) (r := Rect.unit (s := S1x1024x1024) ![0, 0, 0] S1x1024x1024.size inb_S1x1024x1024_S1x1024x1024_0_0_0) (Mk := Finset.univ) (Finset.subset_univ _)) $$ Ho; iintro Ho
  rw [wp_ret]; imodintro
  isplitl [Ha]; · iexact Ha
  have e1 : (Memref.whole cc0_scratch4).view.readAt (Elt F) (Rect.unit (s := S1024x1024) ![0, 0] S1024x1024.size inb_S1024x1024_S1024x1024_0_0).toLoadRect (agFull m) = agFull m :=
    Memref.readAt_unit_zero (Elt F) cc0_scratch4 hz2 _ _
  have e2 : ((Memref.whole cc0_stg5_0).access (Rect.unit (s := S1x1024x1024) ![0, 0, 0] S1x1024x1024.size inb_S1x1024x1024_S1x1024x1024_0_0_0) : View sig .tc _ _ _).write (Elt F) g (k0_pay379 (agFull m)) Finset.univ = outFull m :=
    Memref.write_access_unit_zero_univ (Elt F) cc0_stg5_0 hz3 _ g _
  rw [e1]
  ihave Ho := (Entails.of_eq (congrArg (fun f => (locOut c ↦{fullShare} f : sProp 𝕄)) e2)) $$ Ho
  iexact Ho

end Cert.KernelIdeal.Att

end
-- ==== Proof.Whole.lean ====
/- The printed body is the body told as loops. -/
module

public import proofs.«01_k».proof.Proof.Steps

@[expose] public section

set_option maxRecDepth 65536

noncomputable section

namespace Cert.KernelIdeal.Att

open Idealize.ShloMosaic Idealize.ShloMosaic.TcCoe Idealize.SL.Sem
open Cert.KernelIdeal Cert.KernelIdeal.Gen

variable {F : FTy → Type} [FloatOps F]

/-- What a program does once it has been told its device's number. -/
def afterId (p : Bd (F := F) PUnit) (d : Dev nD) : Bd (F := F) PUnit :=
  match p with
  | .op .deviceId k => k d
  | p => p

/-- The printed body first asks for its device's number. -/
theorem body_asks : bodyAt0 (F := F) t0_0 = (Prog.lift .deviceId >>= fun d => afterId (bodyAt0 (F := F) t0_0) d) := by chain_rfl

/-- On each device the rest of the printed body is the loops: the tests on the device's number are decided there. -/
theorem body_on (d : Dev nD) : afterId (bodyAt0 (F := F) t0_0) d = bodyOf d := by fin_cases d <;> chain_rfl

/-- The printed body: it asks for its device's number, then runs the loops. -/
theorem body_eq : bodyAt0 (F := F) t0_0 = (Prog.lift .deviceId >>= bodyOf) :=
  body_asks.trans (congrArg (fun k : Dev nD → Bd (F := F) PUnit => (Prog.lift .deviceId : Bd (F := F) (Dev nD)) >>= k) (funext body_on))

end Cert.KernelIdeal.Att

end
-- ==== Proof.Body.lean ====
/- The body, loop by loop, and as a whole. -/
module

public import proofs.«01_k».proof.Proof.Parts
public import proofs.«01_k».proof.Proof.Whole

@[expose] public section

set_option maxRecDepth 16384

noncomputable section

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option Own → ℕ)

/-! ## The loops, each as a whole -/

/-- A loop's own result from the loop rule's. -/
theorem wpc_mono (c : Dev nD) {p : Bd (F := F) PUnit} {Q Q' : sProp 𝕄} (h : Q ⊢ Q') : wpc c p (fun _ => Q) ⊢ wpc c p (fun _ => Q') :=
  wp_mono frame (wpE (defs₀ (F := F)) 𝒱₀ (c : Thread nD τ) none) Set.univ (fun _ => h)

theorem barPay_self (c : Dev nD) (j : Fin 32) : barPay (F := F) j c = iprop(anyPts (nSlot j) c ∗ anyPts (mlSlot j) c ∗ oth c j (anyPts (agRows j) c)) := by
  unfold barPay oth; by_cases h : j = c
  · rw [if_pos h, if_pos h.symm]
  · rw [if_neg h, if_neg (fun h' => h h'.symm)]
theorem barPay_other (c : Dev nD) (d : Fin 32) : barPay (F := F) c d = iprop(anyPts (nSlot c) d ∗ anyPts (mlSlot c) d ∗ oth c d (anyPts (agRows c) d)) := rfl

theorem signals (c : Dev nD) :
    iprop(ctx m K ∗ ow c (O₀ c) ∗ allOf (fun j => tok j none c) devs
        ∗ allOf (fun j => anyPts (nSlot j) c) devs ∗ allOf (fun j => anyPts (mlSlot j) c) devs ∗ allOf (fun j => oth c j (anyPts (agRows j) c)) devs)
      ⊢ wpc (F := F) c (each signalStep devs) fun _ => ow c (owedSend c) := by
  have h := (wp_each c (ctx m K) (fun l => ow c (owedSend c + owedOver dBar l)) (fun j => iprop(tok j none c ∗ barPay j c)) (fun _ => iprop(emp)) signalStep
    (fun j l => signal_step m K c (owedSend c) j l) devs).trans (wpc_mono c (Q' := ow c (owedSend c)) (by
      rw [show owedOver dBar [] = 0 from rfl, add_zero]; iintro ⟨H, -⟩; iexact H))
  refine .trans ?_ h
  rw [allOf_sep, allOf_congr (barPay_self (F := F) c), allOf_sep, allOf_sep]
  iintro ⟨#HC, HO, H⟩
  isplitr; · iexact HC
  isplitl [HO]; · iexact HO
  iexact H

theorem barrier (c : Dev nD) :
    iprop(ctx m K ∗ cred (tallyAt (kcell (c, none)) () 32) ∗ ow c (owedSend c) ∗ pos c none)
      ⊢ wpc (F := F) c (semWaitWord barSem 32#32) fun _ => iprop(ow c (owedSend c) ∗ zero c none
          ∗ allOf (fun d => anyPts (nSlot c) d) devs ∗ allOf (fun d => anyPts (mlSlot c) d) devs ∗ allOf (fun d => oth c d (anyPts (agRows c) d)) devs) := by
  refine (wait_bar m K c (above_send c _)).trans (wpc_mono c ?_)
  rw [← allOf_devs, allOf_congr (barPay_other (F := F) c), allOf_sep, allOf_sep]
  exact BI.Entails.refl _

theorem classes (c : Dev nD) :
    iprop(ctx m K ∗ ow c (owedSend c) ∗ (∃ f : Buf (Elt F) (locN c), locN c ↦{fullShare} f) ∗ (∃ f : Buf (Elt F) (locMl c), locMl c ↦{fullShare} f)
        ∗ allOf (sendTo c) devs)
      ⊢ wpc (F := F) c (each (clsStep (qOf m c) (kOf m c) (vOf m c) c) (List.finRange 4)) fun _ => iprop(ow c (owedAg c) ∗ allOf (sendPost c) devs) := by
  have h := (wp_each c (ctx m K) (fun l => ow c (owedAg c + owedOver (dSend c) (sendOrder l))) (clsPre c) (fun cl => allOf (sendPost c) (clsDevs cl))
    (clsStep (qOf m c) (kOf m c) (vOf m c) c) (fun cl l => cls_step m K c cl l) (List.finRange 4)).trans
    (wpc_mono c (Q' := iprop(ow c (owedAg c) ∗ allOf (sendPost c) devs)) (by
      rw [show owedOver (dSend c) (sendOrder []) = 0 from rfl, add_zero, allOf_order]))
  refine .trans ?_ h
  rw [show clsPre (F := F) c = fun cl => iprop((∃ f : Buf (Elt F) (locN c), locN c ↦[clsN cl]{fullShare} f) ∗ (∃ f : Buf (Elt F) (locMl c), locMl c ↦[clsMl cl]{fullShare} f)
    ∗ allOf (sendTo c) (clsDevs cl)) from rfl, allOf_sep, allOf_sep, allOf_order]
  iintro ⟨#HC, HO, ⟨%f, Hn⟩, ⟨%f', Hml⟩, Hs⟩
  isplitr; · iexact HC
  isplitl [HO]; · iexact HO
  ihave Hn := (Entails.of_eq (clsN_whole c f)) $$ Hn
  ihave Hml := (Entails.of_eq (clsMl_whole c f')) $$ Hml
  isplitl [Hn]
  · iapply (allOf_mono (F := F) (P := fun cl => (locN c ↦[clsN cl]{fullShare} f)) (fun cl => by iintro H; iexists f; iexact H) (List.finRange 4)); iexact Hn
  isplitl [Hml]
  · iapply (allOf_mono (F := F) (P := fun cl => (locMl c ↦[clsMl cl]{fullShare} f')) (fun cl => by iintro H; iexists f'; iexact H) (List.finRange 4)); iexact Hml
  iexact Hs

theorem recvs (c : Dev nD) :
    iprop(ctx m K ∗ ow c (owedAg c) ∗ allOf (recvPre c) devs)
      ⊢ wpc (F := F) c (each recvStep devs) fun _ => iprop(ow c (owedAg c) ∗ (allOf (fun s => zero c (some (1, s))) devs ∗ allOf (fun s => zero c (some (3, s))) devs)
          ∗ (locRs c ↦{fullShare} rsN m c) ∗ (locRsMl c ↦{fullShare} rsMl m c)) := by
  refine (wp_each c (ctx m K) (fun _ => ow c (owedAg c)) (recvPre c) (recvPost m c) recvStep (fun s _ => recv_step m K c s) devs).trans (wpc_mono c ?_)
  rw [show recvPost (F := F) m c = fun s => iprop((zero c (some (1, s)) ∗ zero c (some (3, s))) ∗ (pts (nSlot s) c fullShare (rsN m c) ∗ pts (mlSlot s) c fullShare (rsMl m c))) from rfl,
    allOf_sep, allOf_sep, allOf_sep, nSlot_whole, mlSlot_whole]

theorem agSends (c : Dev nD) :
    iprop(ctx m K ∗ ow c (owedAg c) ∗ pts (agRows c) c fullShare (agFull m) ∗ allOf (fun j => oth c j (anyPts (agRows c) j)) devs
        ∗ allOf (fun j => iprop(tok c (some (4, j)) 0 ∗ tok j (some (5, c)) 0)) devs)
      ⊢ wpc (F := F) c (each (agSendStep c) devs) fun _ => iprop(allOf (agSendPost c) devs ∗ ow c 0
          ∗ (pts (agRows c) c shrKeep (agFull m) ∗ pts (agRows c) c (shr c) (agFull m))) := by
  iintro ⟨#HC, HO, Ha, Hd, Ht⟩
  ihave Ha := (Transfers.pointsTo_toks_split fullShare 32) $$ Ha
  icases Ha with ⟨Hk, Ha⟩
  ihave Ha := (Entails.of_eq ((allOf_devs (fun j => pts (agRows c) c (shr j) (agFull m))).symm.trans (allOf_oth c (fun j => pts (agRows c) c (shr j) (agFull m))))) $$ Ha
  icases Ha with ⟨Hc, Ha⟩
  ihave Ht := (Entails.of_eq (allOf_oth c (fun j => iprop(tok (F := F) c (some (4, j)) 0 ∗ tok j (some (5, c)) 0)))) $$ Ht
  icases Ht with ⟨-, Ht⟩
  iapply (wp_wand_r frame (wpE (defs₀ (F := F)) 𝒱₀ (c : Thread nD τ) none) Set.univ (Q := fun _ => iprop(ow c 0 ∗ allOf (agSendPost c) devs)))
  isplitl [HO Ha Hd Ht]
  · iapply (wp_each c (ctx m K) (fun l => ow c (owedOver (dAg c) l)) (agSendPre m c) (agSendPost c) (agSendStep c) (fun j l => agSend_step m K c j l) devs)
    isplitr; · iexact HC
    isplitl [HO]; · iexact HO
    rw [show agSendPre (F := F) m c = fun j => iprop((oth c j (pts (agRows c) c (shr j) (agFull m)) ∗ oth c j (anyPts (agRows c) j)) ∗ oth c j iprop(tok c (some (4, j)) 0 ∗ tok j (some (5, c)) 0)) from
      funext fun j => by unfold agSendPre; rw [oth_sep, oth_sep], allOf_sep, allOf_sep]
    isplitl [Ha Hd]
    · isplitl [Ha]; · iexact Ha
      iexact Hd
    iexact Ht
  iintro %_ ⟨HO, Hp⟩
  isplitl [Hp]; · iexact Hp
  isplitl [HO]; · iexact HO
  isplitl [Hk]; · iexact Hk
  iexact Hc

theorem agRecvs (c : Dev nD) :
    iprop(ctx m K ∗ ow c 0 ∗ allOf (agRecvPre c) devs)
      ⊢ wpc (F := F) c (each (agRecvStep c) devs) fun _ => iprop(ow c 0 ∗ allOf (fun s => zero c (some (5, s))) devs
          ∗ allOf (fun s => oth c s (pts (agRows s) c fullShare (agFull m))) devs) := by
  refine (wp_each c (ctx m K) (fun _ => ow c 0) (agRecvPre c) (agRecvPost m c) (agRecvStep c) (fun s _ => agRecv_step m K c s) devs).trans (wpc_mono c ?_)
  rw [show agRecvPost (F := F) m c = fun s => iprop(zero c (some (5, s)) ∗ oth c s (pts (agRows s) c fullShare (agFull m))) from rfl, allOf_sep]

/-- Rows held fully are held at the kept share and at the lent shares. -/
theorem rows_lent (c : Dev nD) (s : Fin 32) :
    pts (F := F) (agRows s) c fullShare (agFull m)
      = iprop(pts (agRows s) c shrKeep (agFull m) ∗ bigSep Finset.univ fun i : Fin 32 => pts (agRows s) c (shr i) (agFull m)) :=
  BI.equiv_iff.mp ⟨Transfers.pointsTo_toks_split fullShare 32, Transfers.pointsTo_toks_join fullShare 32⟩

theorem others_lent (c : Dev nD) :
    allOf (fun s => oth c s (pts (F := F) (agRows s) c fullShare (agFull m))) devs
      = iprop(allOf (fun s => oth c s (pts (agRows s) c shrKeep (agFull m))) devs
        ∗ allOf (fun s => oth c s (bigSep Finset.univ fun i : Fin 32 => pts (agRows s) c (shr i) (agFull m))) devs) := by
  rw [← allOf_sep]
  exact allOf_congr (fun s => by rw [rows_lent, oth_sep]) devs

theorem kept_whole (c : Dev nD) :
    iprop(pts (F := F) (agRows c) c shrKeep (agFull m) ∗ allOf (fun s => oth c s (pts (agRows s) c shrKeep (agFull m))) devs) = (locAg c ↦{shrKeep} agFull m) := by
  rw [agRows_whole, allOf_oth c fun j => pts (agRows j) c shrKeep (agFull m)]

theorem outs (c : Dev nD) :
    iprop(pts (agRows c) c shrKeep (agFull m) ∗ allOf (fun s => oth c s (pts (agRows s) c fullShare (agFull m))) devs ∗ ∃ g : Buf (Elt F) (locOut c), locOut c ↦{fullShare} g)
      ⊢ wpc (F := F) c outStep fun _ => iprop((pts (agRows c) c shrKeep (agFull m) ∗ allOf (fun s => oth c s (pts (agRows s) c fullShare (agFull m))) devs)
          ∗ (locOut c ↦{fullShare} outFull m)) := by
  rw [others_lent]
  iintro ⟨Hk, ⟨Ho, Hr⟩, Hg⟩
  iapply (wp_wand_r frame (wpE (defs₀ (F := F)) 𝒱₀ (c : Thread nD τ) none) Set.univ (Q := fun _ => iprop((locAg c ↦{shrKeep} agFull m) ∗ (locOut c ↦{fullShare} outFull m))))
  isplitl [Hk Ho Hg]
  · iapply (out_step m c shrKeep)
    isplitl [Hk Ho]
    · iapply (Entails.of_eq (kept_whole m c))
      isplitl [Hk]; · iexact Hk
      iexact Ho
    iexact Hg
  iintro %_ ⟨Ha, Hg⟩
  ihave Ha := (Entails.of_eq (kept_whole m c).symm) $$ Ha
  icases Ha with ⟨Hk, Ho⟩
  isplitl [Hk Ho Hr]
  · isplitl [Hk]; · iexact Hk
    isplitl [Ho]; · iexact Ho
    iexact Hr
  iexact Hg

theorem dones (c : Dev nD) :
    iprop(ctx m K ∗ ow c 0 ∗ allOf (donePre c) devs)
      ⊢ wpc (F := F) c (each (doneStep c) devs) fun _ => iprop(ow c 0
          ∗ (allOf (fun j => zero c (some (0, j))) devs ∗ allOf (fun j => zero c (some (2, j))) devs ∗ allOf (fun j => zero c (some (4, j))) devs)
          ∗ (locN c ↦{fullShare} nFull m c) ∗ (locMl c ↦{fullShare} mlFull m c) ∗ allOf (fun j => oth c j (pts (agRows c) c (shr j) (agFull m))) devs) := by
  refine (wp_each c (ctx m K) (fun _ => ow c 0) (donePre c) (donePost m c) (doneStep c) (fun j _ => done_step m K c j) devs).trans (wpc_mono c ?_)
  rw [show donePost (F := F) m c = fun j => iprop((zero c (some (0, j)) ∗ zero c (some (2, j)) ∗ zero c (some (4, j)))
    ∗ (pts (nRows j) c fullShare (nFull m c) ∗ pts (mlRows j) c fullShare (mlFull m c) ∗ oth c j (pts (agRows c) c (shr j) (agFull m)))) from rfl,
    allOf_sep, allOf_sep, allOf_sep, allOf_sep, allOf_sep, nRows_whole, mlRows_whole]

theorem ag_rejoin (c : Dev nD) :
    iprop((pts (agRows c) c shrKeep (agFull m) ∗ pts (agRows c) c (shr c) (agFull m)) ∗ allOf (fun j => oth c j (pts (agRows c) c (shr j) (agFull m))) devs
        ∗ allOf (fun s => oth c s (pts (agRows s) c fullShare (agFull m))) devs)
      ⊢ (locAg c ↦{fullShare} agFull m : sProp 𝕄) := by
  rw [agRows_whole, allOf_oth c fun j => pts (agRows j) c fullShare (agFull m), rows_lent m c c, ← allOf_devs (fun i => pts (agRows c) c (shr i) (agFull m)),
    allOf_oth c fun i => pts (agRows c) c (shr i) (agFull m)]
  iintro ⟨⟨Hk, Hc⟩, Ht, Ho⟩
  isplitl [Hk Hc Ht]
  · isplitl [Hk]; · iexact Hk
    isplitl [Hc]; · iexact Hc
    iexact Ht
  iexact Ho

/-! ## The body -/

/-- A device's waiting credits, apart from the barrier's. -/
def credsOf (c : Dev nD) : sProp 𝕄 :=
  iprop(allOf (fun s => credK c (1, s)) devs ∗ allOf (fun s => credK c (3, s)) devs ∗ allOf (fun s => oth c s (credK c (5, s))) devs)
/-- A device's positions at its own cells of kind `a`. -/
def posOf (c : Dev nD) (a : Fin 6) : sProp 𝕄 := allOf (fun j => pos c (some (a, j))) devs
/-- The tokens of the duties a device pays. -/
def toksOf (c : Dev nD) : sProp 𝕄 :=
  iprop(allOf (fun j => tok j none c) devs ∗ allOf (fun j => iprop(tok c (some (0, j)) 0 ∗ tok j (some (1, c)) 0)) devs
    ∗ allOf (fun j => iprop(tok c (some (2, j)) 0 ∗ tok j (some (3, c)) 0)) devs ∗ allOf (fun j => iprop(tok c (some (4, j)) 0 ∗ tok j (some (5, c)) 0)) devs)
/-- The five scratch buffers at any contents. -/
def scratchAny (c : Dev nD) : sProp 𝕄 :=
  iprop((∃ f : Buf (Elt F) (locN c), locN c ↦{fullShare} f) ∗ (∃ f : Buf (Elt F) (locMl c), locMl c ↦{fullShare} f)
    ∗ (∃ f : Buf (Elt F) (locRs c), locRs c ↦{fullShare} f) ∗ (∃ f : Buf (Elt F) (locRsMl c), locRsMl c ↦{fullShare} f)
    ∗ (∃ f : Buf (Elt F) (locAg c), locAg c ↦{fullShare} f))
/-- The five argument blocks, staged. -/
def staged (c : Dev nD) : sProp 𝕄 :=
  iprop(((c : Thread nD τ).loc cc0_stg0_0 ↦{fullShare} iblk m c 0 t0_0) ∗ ((c : Thread nD τ).loc cc0_stg1_0 ↦{fullShare} iblk m c 1 t0_0)
    ∗ ((c : Thread nD τ).loc cc0_stg2_0 ↦{fullShare} iblk m c 2 t0_0) ∗ ((c : Thread nD τ).loc cc0_stg3_0 ↦{fullShare} iblk m c 3 t0_0)
    ∗ (locWo c ↦{fullShare} iblk m c 4 t0_0))
/-- All of a device's counters at zero. -/
def zerosOf (c : Dev nD) : sProp 𝕄 :=
  iprop(zero c none ∗ allOf (fun j => zero c (some (0, j))) devs ∗ allOf (fun j => zero c (some (1, j))) devs ∗ allOf (fun j => zero c (some (2, j))) devs
    ∗ allOf (fun j => zero c (some (3, j))) devs ∗ allOf (fun j => zero c (some (4, j))) devs ∗ allOf (fun j => zero c (some (5, j))) devs)

/-- What is lent at the barrier, of the three receiving buffers; the own rows of the gathered one stay. -/
theorem lend (c : Dev nD) :
    iprop((∃ f : Buf (Elt F) (locRs c), locRs c ↦{fullShare} f) ∗ (∃ f : Buf (Elt F) (locRsMl c), locRsMl c ↦{fullShare} f)
        ∗ (∃ f : Buf (Elt F) (locAg c), locAg c ↦{fullShare} f))
      ⊢ iprop(allOf (fun j => anyPts (F := F) (nSlot j) c) devs ∗ allOf (fun j => anyPts (mlSlot j) c) devs ∗ anyPts (agRows c) c
          ∗ allOf (fun j => oth c j (anyPts (agRows j) c)) devs) := by
  iintro ⟨⟨%f, H1⟩, ⟨%f', H2⟩, ⟨%f'', H3⟩⟩
  ihave H1 := (Entails.of_eq (nSlot_whole c fullShare f)) $$ H1
  ihave H2 := (Entails.of_eq (mlSlot_whole c fullShare f')) $$ H2
  ihave H3 := ((Entails.of_eq (agRows_whole c fullShare f'')).trans (allOf_mono (Q := fun j => anyPts (F := F) (agRows j) c) (fun j => any_intro (agRows j) c f'') devs)) $$ H3
  ihave H3 := (Entails.of_eq (allOf_oth c fun j => anyPts (F := F) (agRows j) c)) $$ H3
  icases H3 with ⟨H3, H4⟩
  isplitl [H1]; · iapply (allOf_mono (F := F) (P := fun j => pts (nSlot j) c fullShare f) (fun j => any_intro (nSlot j) c f) devs); iexact H1
  isplitl [H2]; · iapply (allOf_mono (F := F) (P := fun j => pts (mlSlot j) c fullShare f') (fun j => any_intro (mlSlot j) c f') devs); iexact H2
  isplitl [H3]; · iexact H3
  iexact H4

theorem sendTos (c : Dev nD) :
    iprop((allOf (fun d => anyPts (F := F) (nSlot c) d) devs ∗ allOf (fun d => anyPts (mlSlot c) d) devs)
        ∗ allOf (fun j => iprop(tok c (some (0, j)) 0 ∗ tok j (some (1, c)) 0)) devs ∗ allOf (fun j => iprop(tok c (some (2, j)) 0 ∗ tok j (some (3, c)) 0)) devs)
      = allOf (sendTo (F := F) c) devs := by
  rw [← allOf_sep, ← allOf_sep, ← allOf_sep]; rfl

theorem recvPres (c : Dev nD) :
    iprop((allOf (fun s => credK (F := F) c (1, s)) devs ∗ posOf c 1) ∗ (allOf (fun s => credK c (3, s)) devs ∗ posOf c 3)) = allOf (recvPre (F := F) c) devs := by
  rw [show recvPre (F := F) c = fun s => iprop((credK c (1, s) ∗ pos c (some (1, s))) ∗ (credK c (3, s) ∗ pos c (some (3, s)))) from rfl, allOf_sep, allOf_sep, allOf_sep]
  rfl
theorem agRecvPres (c : Dev nD) :
    iprop(posOf c 5 ∗ allOf (fun s => oth c s (credK (F := F) c (5, s))) devs) = allOf (agRecvPre (F := F) c) devs := by
  rw [show agRecvPre (F := F) c = fun s => iprop(pos c (some (5, s)) ∗ oth c s (credK c (5, s))) from rfl, allOf_sep]
  rfl
theorem done_regroup (c : Dev nD) (j : Fin 32) :
    iprop((credK (F := F) c (0, j) ∗ credK c (2, j)) ∗ pos c (some (0, j)) ∗ pos c (some (2, j)) ∗ pos c (some (4, j)) ∗ oth c j (credK c (4, j)))
      ⊢ iprop((credK c (0, j) ∗ pos c (some (0, j))) ∗ (credK c (2, j) ∗ pos c (some (2, j))) ∗ (pos c (some (4, j)) ∗ oth c j (credK c (4, j)))) := by
  iintro ⟨⟨H1, H2⟩, H3, H4, H5, H6⟩
  isplitl [H1 H3]
  · isplitl [H1]; · iexact H1
    iexact H3
  isplitl [H2 H4]
  · isplitl [H2]; · iexact H2
    iexact H4
  isplitl [H5]; · iexact H5
  iexact H6
theorem donePres (c : Dev nD) :
    iprop(allOf (sendPost (F := F) c) devs ∗ posOf c 0 ∗ posOf c 2 ∗ posOf c 4 ∗ allOf (agSendPost c) devs) ⊢ allOf (donePre (F := F) c) devs := by
  unfold posOf
  rw [← allOf_sep, ← allOf_sep, ← allOf_sep, ← allOf_sep]
  exact allOf_mono (done_regroup c) devs

set_option maxHeartbeats 1600000 in
/-- The body, from the launch's state to the result: every scratch buffer given back, every counter at zero. -/
theorem body_run (c : Dev nD) :
    iprop(ctx m K ∗ ow c (O₀ c) ∗ cred (tallyAt (kcell (c, none)) () 32) ∗ credsOf c
        ∗ pos c none ∗ (posOf c 0 ∗ posOf c 1 ∗ posOf c 2 ∗ posOf c 3 ∗ posOf c 4 ∗ posOf c 5) ∗ toksOf c ∗ scratchAny c ∗ staged m c
        ∗ ∃ g : Buf (Elt F) (locOut c), locOut c ↦{fullShare} g)
      ⊢ wpc (F := F) c (bodyOf c) fun _ => iprop(ow c 0 ∗ zerosOf c ∗ scratchAny c ∗ staged m c ∗ (locOut c ↦{fullShare} outFull m)) := by
  unfold credsOf toksOf scratchAny staged bodyOf
  simp only [Prog.lift, Prog.bind_op, Prog.bind_ret]
  iintro ⟨#HC, HO, Hcb, ⟨Hc1, Hc3, Hc5⟩, Hpb, ⟨Hp0, Hp1, Hp2, Hp3, Hp4, Hp5⟩, ⟨Htb, Ht0, Ht2, Ht4⟩, Hscr, ⟨Hs0, Hs1, Hs2, Hs3, Hs4⟩, Hout⟩
  icases Hscr with ⟨Hn, Hml, Hr⟩
  ihave Hr := (lend (F := F) c) $$ Hr
  icases Hr with ⟨Hr1, Hr2, Hown, Hr3⟩
  iapply (wp_then c (signals m K c)) $$ [HO Htb Hr1 Hr2 Hr3]
  · isplitr; · iexact HC
    isplitl [HO]; · iexact HO
    isplitl [Htb]; · iexact Htb
    isplitl [Hr1]; · iexact Hr1
    isplitl [Hr2]; · iexact Hr2
    iexact Hr3
  iintro HO
  iapply (wp_then c (barrier m K c)) $$ [Hcb HO Hpb]
  · isplitr; · iexact HC
    isplitl [Hcb]; · iexact Hcb
    isplitl [HO]; · iexact HO
    iexact Hpb
  iintro ⟨HO, Hzb, Hg1, Hg2, Hg3⟩
  unfold wpc
  iapply (wp_load 𝒱₀ (c : Thread nD τ) none Set.univ (m := win0_0.stage 0) (Finset.subset_univ _)) $$ Hs0; iintro Hs0
  iapply (wp_load 𝒱₀ (c : Thread nD τ) none Set.univ (m := win0_1.stage 0) (Finset.subset_univ _)) $$ Hs1; iintro Hs1
  iapply (wp_load 𝒱₀ (c : Thread nD τ) none Set.univ (m := win0_2.stage 0) (Finset.subset_univ _)) $$ Hs2; iintro Hs2
  iapply (wp_load 𝒱₀ (c : Thread nD τ) none Set.univ (m := win0_3.stage 0) (Finset.subset_univ _)) $$ Hs3; iintro Hs3
  have e0 : (Memref.whole cc0_stg0_0).view.readAt (Elt F) (Rect.unit (s := S1x1024x1024) ![0, 0, 0] S1x1024x1024.size inb_S1x1024x1024_S1x1024x1024_0_0_0).toLoadRect (iblk m c 0 t0_0) = iblk m c 0 t0_0 :=
    Memref.readAt_unit_zero (Elt F) cc0_stg0_0 hz3 _ _
  have e1 : (Memref.whole cc0_stg1_0).view.readAt (Elt F) (Rect.unit (s := S1024x1024) ![0, 0] S1024x1024.size inb_S1024x1024_S1024x1024_0_0).toLoadRect (iblk m c 1 t0_0) = iblk m c 1 t0_0 :=
    Memref.readAt_unit_zero (Elt F) cc0_stg1_0 hz2 _ _
  have e2 : (Memref.whole cc0_stg2_0).view.readAt (Elt F) (Rect.unit (s := S1x1024x8x128) ![0, 0, 0, 0] S1x1024x8x128.size inb_S1x1024x8x128_S1x1024x8x128_0_0_0_0).toLoadRect (iblk m c 2 t0_0) = iblk m c 2 t0_0 :=
    Memref.readAt_unit_zero (Elt F) cc0_stg2_0 hz4 _ _
  have e3 : (Memref.whole cc0_stg3_0).view.readAt (Elt F) (Rect.unit (s := S1x1024x8x128) ![0, 0, 0, 0] S1x1024x8x128.size inb_S1x1024x8x128_S1x1024x8x128_0_0_0_0).toLoadRect (iblk m c 3 t0_0) = iblk m c 3 t0_0 :=
    Memref.readAt_unit_zero (Elt F) cc0_stg3_0 hz4 _ _
  rw [e0, e1, e2, e3]
  iapply (wp_then c (classes m K c)) $$ [HO Hn Hml Hg1 Hg2 Ht0 Ht2]
  · isplitr; · iexact HC
    isplitl [HO]; · iexact HO
    isplitl [Hn]; · iexact Hn
    isplitl [Hml]; · iexact Hml
    iapply (Entails.of_eq (sendTos (F := F) c))
    isplitl [Hg1 Hg2]
    · isplitl [Hg1]; · iexact Hg1
      iexact Hg2
    isplitl [Ht0]; · iexact Ht0
    iexact Ht2
  iintro ⟨HO, Hsp⟩
  iapply (wp_then c (recvs m K c)) $$ [HO Hc1 Hc3 Hp1 Hp3]
  · isplitr; · iexact HC
    isplitl [HO]; · iexact HO
    iapply (Entails.of_eq (recvPres (F := F) c))
    isplitl [Hc1 Hp1]
    · isplitl [Hc1]; · iexact Hc1
      iexact Hp1
    isplitl [Hc3]; · iexact Hc3
    iexact Hp3
  iintro ⟨HO, ⟨Hz1, Hz3⟩, Hrs, Hrsml⟩
  iapply (wp_then c (merge_step m c fullShare)) $$ [Hrs Hrsml Hs4 Hown]
  · isplitl [Hrs]; · iexact Hrs
    isplitl [Hrsml]; · iexact Hrsml
    isplitl [Hs4]; · iexact Hs4
    iexact Hown
  iintro ⟨Hrs, Hrsml, Hs4, Hown⟩
  iapply (wp_then c (agSends m K c)) $$ [HO Hown Hg3 Ht4]
  · isplitr; · iexact HC
    isplitl [HO]; · iexact HO
    isplitl [Hown]; · iexact Hown
    isplitl [Hg3]; · iexact Hg3
    iexact Ht4
  iintro ⟨Hap, HO, Hk, Hc⟩
  iapply (wp_then c (agRecvs m K c)) $$ [HO Hp5 Hc5]
  · isplitr; · iexact HC
    isplitl [HO]; · iexact HO
    iapply (Entails.of_eq (agRecvPres (F := F) c))
    isplitl [Hp5]; · iexact Hp5
    iexact Hc5
  iintro ⟨HO, Hz5, Hrows⟩
  iapply (wp_then c (outs m c)) $$ [Hk Hrows Hout]
  · isplitl [Hk]; · iexact Hk
    isplitl [Hrows]; · iexact Hrows
    iexact Hout
  iintro ⟨⟨Hk, Hrows⟩, Hout⟩
  iapply (wp_wand_r frame (wpE (defs₀ (F := F)) 𝒱₀ (c : Thread nD τ) none) Set.univ (Q := fun _ => iprop(ow c 0
    ∗ (allOf (fun j => zero c (some (0, j))) devs ∗ allOf (fun j => zero c (some (2, j))) devs ∗ allOf (fun j => zero c (some (4, j))) devs)
    ∗ (locN c ↦{fullShare} nFull m c) ∗ (locMl c ↦{fullShare} mlFull m c) ∗ allOf (fun j => oth c j (pts (agRows c) c (shr j) (agFull m))) devs)))
  isplitl [HO Hsp Hp0 Hp2 Hp4 Hap]
  · iapply (dones m K c)
    isplitr; · iexact HC
    isplitl [HO]; · iexact HO
    iapply (donePres (F := F) c)
    isplitl [Hsp]; · iexact Hsp
    isplitl [Hp0]; · iexact Hp0
    isplitl [Hp2]; · iexact Hp2
    isplitl [Hp4]; · iexact Hp4
    iexact Hap
  iintro %_ ⟨HO, ⟨Hz0, Hz2, Hz4⟩, Hn, Hml, Hl⟩
  ihave Hag := (ag_rejoin m c) $$ [Hk Hc Hl Hrows]
  · isplitl [Hk Hc]
    · isplitl [Hk]; · iexact Hk
      iexact Hc
    isplitl [Hl]; · iexact Hl
    iexact Hrows
  isplitl [HO]; · iexact HO
  isplitl [Hzb Hz0 Hz1 Hz2 Hz3 Hz4 Hz5]
  · unfold zerosOf
    isplitl [Hzb]; · iexact Hzb
    isplitl [Hz0]; · iexact Hz0
    isplitl [Hz1]; · iexact Hz1
    isplitl [Hz2]; · iexact Hz2
    isplitl [Hz3]; · iexact Hz3
    isplitl [Hz4]; · iexact Hz4
    iexact Hz5
  isplitl [Hn Hml Hrs Hrsml Hag]
  · isplitl [Hn]; · iexists (nFull m c); iexact Hn
    isplitl [Hml]; · iexists (mlFull m c); iexact Hml
    isplitl [Hrs]; · iexists (rsN m c); iexact Hrs
    isplitl [Hrsml]; · iexists (rsMl m c); iexact Hrsml
    iexists (agFull m); iexact Hag
  isplitl [Hs0 Hs1 Hs2 Hs3 Hs4]
  · isplitl [Hs0]; · iexact Hs0
    isplitl [Hs1]; · iexact Hs1
    isplitl [Hs2]; · iexact Hs2
    isplitl [Hs3]; · iexact Hs3
    iexact Hs4
  iexact Hout

end Cert.KernelIdeal.Att

end
-- ==== Proof.Launch.lean ====
/- The launch: from any memory the kernel ends, its result array holds the computed contents on every device, the
   arguments are unchanged and every semaphore counter is zero. -/
module

public import proofs.«01_k».proof.Proof.Body

@[expose] public section

set_option maxRecDepth 16384

noncomputable section

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option Own → ℕ)

variable (ρ : Dev nD → PrngReg)

/-! ## Over the exchange's semaphores -/

theorem over_kinds (Φ : Own → sProp 𝕄) :
    bigSep Finset.univ Φ = iprop(allOf (fun j => Φ (0, j)) devs ∗ allOf (fun j => Φ (1, j)) devs ∗ allOf (fun j => Φ (2, j)) devs
      ∗ allOf (fun j => Φ (3, j)) devs ∗ allOf (fun j => Φ (4, j)) devs ∗ allOf (fun j => Φ (5, j)) devs) := by
  rw [bigSep_univ_prod, bigSep_univ_eq_bigSepL [(0 : Fin 6), 1, 2, 3, 4, 5] (by decide) (by decide)]
  simp only [allOf_devs]; rfl

theorem over_option (Φ : Option Own → sProp 𝕄) : bigSep Finset.univ Φ = iprop(Φ none ∗ bigSep Finset.univ fun k => Φ (some k)) := by
  rw [bigSep_univ_at Φ none, show (Finset.univ.erase (none : Option Own)) = Finset.univ.map Function.Embedding.some from by
    ext k; cases k <;> simp, bigSep_map]
  rfl

/-! ## The proof data -/

/-- What a device starts with, apart from the lasting facts and its buffers. -/
def lin (c : Dev nD) : sProp 𝕄 :=
  iprop((pos (F := F) c none ∗ posOf c 0 ∗ posOf c 1 ∗ posOf c 2 ∗ posOf c 3 ∗ posOf c 4 ∗ posOf c 5) ∗ toksOf c)
def G' (c : Dev nD) : sProp 𝕄 := iprop(∃ K, records m K ∗ lin c)
def start (c : Dev nD) : sProp 𝕄 := iprop(G' m c ∗ (cred (tallyAt (kcell (c, none)) () 32) ∗ credsOf c) ∗ levAts L lv)
def Φ₀ (c : Dev nD) : sProp 𝕄 := iprop(start m c ∗ scratchAny c)
def Φ₁ (c : Dev nD) : sProp 𝕄 := iprop(zerosOf (F := F) c ∗ scratchAny c)

def dats (_ : Fin 1) (c : Dev nD) : Dat τ (Elt F) Unit ℕ UU ℕ cfg0 c where
  A w := V m c (Pipeline.arrRef spec0 w)
  after w _ := match w with
    | ⟨0, _⟩ => iblk m c 0 t0_0
    | ⟨1, _⟩ => iblk m c 1 t0_0
    | ⟨2, _⟩ => iblk m c 2 t0_0
    | ⟨3, _⟩ => iblk m c 3 t0_0
    | ⟨4, _⟩ => iblk m c 4 t0_0
    | ⟨5, _⟩ => outFull m
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))

def bodyPost (c : Dev nD) : sProp 𝕄 :=
  iprop(Φ₁ (F := F) c ∗ (dats m 0 c).owesAt () t0_0.succ ∗ stg c cc0_stg0_0 (iblk m c 0 t0_0) ∗ stg c cc0_stg1_0 (iblk m c 1 t0_0)
    ∗ stg c cc0_stg2_0 (iblk m c 2 t0_0) ∗ stg c cc0_stg3_0 (iblk m c 3 t0_0) ∗ stg c cc0_stg4_0 (iblk m c 4 t0_0) ∗ stg c cc0_stg5_0 (outFull m))

theorem before_0 (c : Dev nD) (d) : (dats m 0 c).before (0 : Fin 6) t0_0 d = iblk m c 0 t0_0 := by unfold Dat.before; rw [if_pos (fetch0_0 t0_0)]; rfl
theorem before_1 (c : Dev nD) (d) : (dats m 0 c).before (1 : Fin 6) t0_0 d = iblk m c 1 t0_0 := by unfold Dat.before; rw [if_pos (fetch0_1 t0_0)]; rfl
theorem before_2 (c : Dev nD) (d) : (dats m 0 c).before (2 : Fin 6) t0_0 d = iblk m c 2 t0_0 := by unfold Dat.before; rw [if_pos (fetch0_2 t0_0)]; rfl
theorem before_3 (c : Dev nD) (d) : (dats m 0 c).before (3 : Fin 6) t0_0 d = iblk m c 3 t0_0 := by unfold Dat.before; rw [if_pos (fetch0_3 t0_0)]; rfl
theorem before_4 (c : Dev nD) (d) : (dats m 0 c).before (4 : Fin 6) t0_0 d = iblk m c 4 t0_0 := by unfold Dat.before; rw [if_pos (fetch0_4 t0_0)]; rfl

/-- A staging buffer's contents, from what is known of them. -/
theorem stg_out (c : Dev nD) (b : Ref sig .tc) (X : b.ty.Contents (Elt F)) : stg c b X ⊢ (((c : Thread nD τ).loc b) ↦{fullShare} X : sProp 𝕄) := by
  iintro ⟨%f, %hf, H⟩; subst hf; iexact H
theorem stg_in (c : Dev nD) (b : Ref sig .tc) (X : b.ty.Contents (Elt F)) : (((c : Thread nD τ).loc b) ↦{fullShare} X : sProp 𝕄) ⊢ stg c b X := by
  iintro H; iexists X; isplitr; · (ipureintro; rfl)
  iexact H

theorem sound_body (c : Dev nD) : bodyPre m c ⊢ wpc (F := F) c (bodyOf c) fun _ => bodyPost m c := by
  unfold bodyPre Φ₀ start G' lin
  simp only [before_0, before_1, before_2, before_3, before_4]
  iintro ⟨⟨⟨⟨%K, #HR, ⟨Hpb, Hp⟩, Ht⟩, ⟨Hcb, Hc⟩, #Hlev⟩, Hscr⟩, Ho, ⟨%d0, H0⟩, ⟨%d1, H1⟩, ⟨%d2, H2⟩, ⟨%d3, H3⟩, ⟨%d4, H4⟩, ⟨%d5, %g5, %h5, H5⟩⟩
  unfold Dat.owesAt Pipeline.owesWithin
  icases Ho with ⟨%W, %hW, HO⟩
  iapply (wp_wand_r frame (wpE (defs₀ (F := F)) 𝒱₀ (c : Thread nD τ) none) Set.univ (Q := fun _ => iprop(ow c 0 ∗ zerosOf c ∗ scratchAny c ∗ staged m c ∗ (locOut c ↦{fullShare} outFull m))))
  isplitl [HO Hpb Hp Ht Hcb Hc Hscr H0 H1 H2 H3 H4 H5]
  · iapply (body_run m K c)
    isplitr
    · unfold ctx; isplitl; · iexact HR
      iexact Hlev
    isplitl [HO]; · unfold ow; iexists W; iexact HO
    isplitl [Hcb]; · iexact Hcb
    isplitl [Hc]; · iexact Hc
    isplitl [Hpb]; · iexact Hpb
    isplitl [Hp]; · iexact Hp
    isplitl [Ht]; · iexact Ht
    isplitl [Hscr]; · iexact Hscr
    isplitl [H0 H1 H2 H3 H4]
    · unfold staged
      isplitl [H0]; · iapply (stg_out c cc0_stg0_0 (iblk m c 0 t0_0)); iexact H0
      isplitl [H1]; · iapply (stg_out c cc0_stg1_0 (iblk m c 1 t0_0)); iexact H1
      isplitl [H2]; · iapply (stg_out c cc0_stg2_0 (iblk m c 2 t0_0)); iexact H2
      isplitl [H3]; · iapply (stg_out c cc0_stg3_0 (iblk m c 3 t0_0)); iexact H3
      iapply (stg_out c cc0_stg4_0 (iblk m c 4 t0_0)); iexact H4
    iexists g5; iexact H5
  iintro %_ ⟨HO, Hz, Hscr, Hs, H5⟩
  unfold staged bodyPost Φ₁ Dat.owesAt Pipeline.owesWithin ow
  icases Hs with ⟨H0, H1, H2, H3, H4⟩
  icases HO with ⟨%W', HO⟩
  isplitl [Hz Hscr]
  · isplitl [Hz]; · iexact Hz
    iexact Hscr
  isplitl [HO]
  · iexists W'
    isplitr; · ipureintro; exact fun _ _ => Or.inl trivial
    iexact HO
  isplitl [H0]; · iapply (stg_in c cc0_stg0_0 (iblk m c 0 t0_0)); iexact H0
  isplitl [H1]; · iapply (stg_in c cc0_stg1_0 (iblk m c 1 t0_0)); iexact H1
  isplitl [H2]; · iapply (stg_in c cc0_stg2_0 (iblk m c 2 t0_0)); iexact H2
  isplitl [H3]; · iapply (stg_in c cc0_stg3_0 (iblk m c 3 t0_0)); iexact H3
  isplitl [H4]; · iapply (stg_in c cc0_stg4_0 (iblk m c 4 t0_0)); iexact H4
  iapply (stg_in c cc0_stg5_0 (outFull m)); iexact H5

/-- Asked for its device's number, a program goes on with it. -/
theorem asked (c : Dev nD) (p : Dev nD → Bd (F := F) PUnit) (b : Bd (F := F) PUnit) (hb : Prog.lift .deviceId >>= p = b) {P : sProp 𝕄} {Q : PUnit → sProp 𝕄}
    (h : P ⊢ wpc c (p c) Q) : P ⊢ wpc c b Q := by
  subst hb
  simp only [Prog.lift, Prog.bind_op, Prog.bind_ret, wp_deviceId]
  exact h

/-- What the pipeline runs at its one point. -/
theorem prog_eq : (Prog.lift .deviceId >>= bodyOf : Bd (F := F) PUnit) = defs₀ (F := F) Proc.tc 0 (t0_0, cfg0.slots t0_0) := body_eq.symm

theorem body_obligation (c : Dev nD) : BodyObligation (dats (F := F) m 0 c) (defs₀ (F := F)) 𝒱₀ () Set.univ := fun t => by
  rw [fin_N0 t]
  rw [bigSep_W0, bigSep_W0]
  simp only [owns_whole_eq]
  have hp := prog_eq (F := F)
  generalize (defs₀ (F := F) Proc.tc 0 (t0_0, cfg0.slots t0_0)) = p at hp ⊢
  have h := asked c bodyOf p hp (sound_body m c)
  unfold bodyPre bodyPost at h
  exact h

/-! ## The resources at launch -/

theorem ownSemFacts : Pipeline.OwnSemFacts cfg0.spec osem :=
  ⟨(by decide +kernel : ∀ k : Own, (osem k).isScoped .tc = true), fun k k' h => Option.some.inj (csem_injective (a₁ := some k) (a₂ := some k') h), fun k w s h => by
    have h1 := congrArg (fun sm : SemLoc sig => dec sm) h
    rw [show dec (osem k) = some (some k) from dec_csem (some k)] at h1
    revert h1; fin_cases w <;> fin_cases s <;> exact fun h1 => absurd h1 (by decide +revert)⟩

theorem share_eq (c : Dev nD) (w : Fin cfg0.W) : (dats m 0 c).share w = fullShare := by unfold Dat.share; split <;> rfl

def exCells : Finset (GSem nD τ sig) := Finset.univ.map ⟨kcell, kcell_injective⟩

/-- Every device's tokens: one per device for the barrier's semaphore, one for each own one. -/
abbrev tokOf (x : Dev nD × (Fin 32 ⊕ Own)) : GSem nD τ sig × ℕ × Fin 32 := match x.2 with
  | .inl d => (kcell (x.1, none), 0, d)
  | .inr k => (kcell (x.1, some k), 0, 0)
theorem tokOf_injective : Function.Injective (tokOf : Dev nD × (Fin 32 ⊕ Own) → GSem nD τ sig × ℕ × Fin 32) := by
  rintro ⟨c, x⟩ ⟨c', x'⟩ h
  match x, x', h with
  | .inl d, .inl d', h =>
    have h1 := kcell_injective (congrArg Prod.fst h)
    have h2 : d = d' := congrArg (fun y => y.2.2) h
    exact congr (congrArg Prod.mk (Prod.mk.inj h1).1) (congrArg Sum.inl h2)
  | .inr k, .inr k', h =>
    have h1 := kcell_injective (congrArg Prod.fst h)
    exact congr (congrArg Prod.mk (Prod.mk.inj h1).1) (congrArg Sum.inr (Option.some.inj (Prod.mk.inj h1).2))
  | .inl d, .inr k, h => exact absurd (Prod.mk.inj (kcell_injective (congrArg Prod.fst h))).2 (by intro h'; cases h')
  | .inr k, .inl d, h => exact absurd (Prod.mk.inj (kcell_injective (congrArg Prod.fst h))).2 (by intro h'; cases h')
def exToks : Finset (GSem nD τ sig × ℕ × Fin 32) := Finset.univ.map ⟨tokOf, tokOf_injective⟩

def u₀ : UU := (initOf (Pipeline.cells cfgs cellOf_inj) (Pipeline.launchToks cfgs cellOf_inj), initOf exCells exToks)

/-- The tokens of a device's own semaphores. -/
def toksAt (c : Dev nD) : sProp 𝕄 := iprop(allOf (fun d => tok c none d) devs ∗ bigSep Finset.univ fun k : Own => tok c (some k) 0)

def G (c : Dev nD) : sProp 𝕄 :=
  iprop((bigSep Finset.univ fun k : Option Own => roundState ER (rd m) (kcell (c, k)) 0)
    ∗ (bigSep Finset.univ fun k : Option Own => iprop(atPos ER (kcell (c, k)) 0 ∅ 0 ∗ reached ER (kcell (c, k)) 0)) ∗ toksAt c)

theorem over_cells (Φ : GSem nD τ sig → sProp 𝕄) : bigSep exCells Φ = bigSep Finset.univ fun c : Dev nD => bigSep Finset.univ fun k : Option Own => Φ (kcell (c, k)) := by
  unfold exCells; rw [bigSep_map, bigSep_univ_prod]; rfl
theorem over_toks : bigSep exToks (fun x => (dutyTok ER x.1 x.2.1 x.2.2 : sProp 𝕄)) = bigSep Finset.univ fun c : Dev nD => toksAt c := by
  unfold exToks; rw [bigSep_map, bigSep_univ_prod]
  exact bigSep_congr fun c _ => by unfold toksAt; rw [bigSep_univ_sum, allOf_devs]; rfl

theorem fund_exchange : BI.own (ER (initOf exCells exToks)) ⊢ (|==> bigSep Finset.univ (G m) : sProp 𝕄) := by
  iintro HX
  imod (Rounds.fund ER (rd m) exCells exToks) $$ HX with ⟨Hst, Hr, Hat, Htok⟩
  imodintro
  ihave Hst := (Entails.of_eq (over_cells fun g => roundState ER (rd m) g 0)) $$ Hst
  ihave Hat := (Entails.of_eq (over_cells fun g => atPos ER g 0 ∅ 0)) $$ Hat
  ihave Hr := (Entails.of_eq (over_cells fun g => reached ER g 0)) $$ Hr
  ihave Htok := (Entails.of_eq (over_toks (F := F))) $$ Htok
  unfold G; simp only [bigSep_sep']
  isplitl [Hst]; · iexact Hst
  isplitl [Hat Hr]
  · isplitl [Hat]; · iexact Hat
    iexact Hr
  iexact Htok

theorem unscopedSems0_eq (c : Dev nD) : (unscopedSems0 c : sProp 𝕄) = zero c none := by
  unfold unscopedSems0; rw [bigSep_eq_bigSepL_of_eq [SemLoc.reg barSem] (by decide +kernel) (by decide)]; rfl

theorem sems0_eq (c : Dev nD) :
    iprop(unscopedSems0 c ∗ Pipeline.ownSems0 (Ix := Unit) (Name := ℕ) (U := UU) (Lvl := ℕ) (Val := Elt F) (τ := τ) osem c)
      = (bigSep Finset.univ fun k : Option Own => zero c k : sProp 𝕄) := by
  rw [unscopedSems0_eq, over_option]; rfl

/-- At zero every semaphore's cell may be set up. -/
theorem cells_alloc (c : Dev nD) :
    iprop((bigSep Finset.univ fun k : Option Own => zero (F := F) c k) ∗ bigSep Finset.univ fun k : Option Own => roundState ER (rd m) (kcell (c, k)) 0)
      ⊢ (|={Set.univ}=> bigSep Finset.univ fun k : Option Own => iprop(∃ κ : ℕ, cellInv ER (rd m) κ (kcell (c, k))) : sProp 𝕄) := by
  rw [← bigSep_sep']
  exact (bigSep_mono fun k _ => (Rounds.body_intro ER (rd m) (kcell (c, k))).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Option Own => iprop(∃ κ : ℕ, cellInv ER (rd m) κ (kcell (c, k))))
          ∗ (bigSep Finset.univ fun k : Option Own => iprop(atPos ER (kcell (c, k)) 0 ∅ 0 ∗ reached ER (kcell (c, k)) 0)) ∗ toksAt c) := by
  unfold G
  iintro ⟨Hos, Hus, Hst, Hat, Htok⟩
  ihave Hv := (Entails.of_eq (sems0_eq (F := F) c)) $$ [Hos Hus]
  · isplitl [Hus]; · iexact Hus
    iexact Hos
  imod (cells_alloc m c) $$ [Hv Hst] with Hinv
  · isplitl [Hv]; · iexact Hv
    iexact Hst
  imodintro
  isplitl [Hinv]; · iexact Hinv
  isplitl [Hat]; · iexact Hat
  iexact Htok

/-- A family over pairs of devices may be dealt by the other device. -/
theorem deal (Φ : Fin 32 → Fin 32 → sProp 𝕄) :
    (bigSep Finset.univ fun c : Dev nD => allOf (fun j => Φ c j) devs) = bigSep Finset.univ fun c : Dev nD => allOf (fun j => Φ j c) devs := by
  simp only [allOf_devs]
  exact (bigSep_univ_prod (fun p : Fin 32 × Fin 32 => Φ p.1 p.2)).symm.trans
    ((bigSep_univ_equiv (Equiv.prodComm (Fin 32) (Fin 32)) (fun p : Fin 32 × Fin 32 => Φ p.1 p.2)).trans (bigSep_univ_prod (fun p : Fin 32 × Fin 32 => Φ p.2 p.1)))

theorem toks_order (B P0 P1 P2 P3 P4 P5 : sProp 𝕄) : iprop(B ∗ P0 ∗ P1 ∗ P2 ∗ P3 ∗ P4 ∗ P5) ⊢ iprop(B ∗ (P0 ∗ P1) ∗ (P2 ∗ P3) ∗ (P4 ∗ P5)) := by
  iintro ⟨HB, H0, H1, H2, H3, H4, H5⟩
  isplitl [HB]; · iexact HB
  isplitl [H0 H1]
  · isplitl [H0]; · iexact H0
    iexact H1
  isplitl [H2 H3]
  · isplitl [H2]; · iexact H2
    iexact H3
  isplitl [H4]; · iexact H4
  iexact H5

/-- The tokens go to the devices that pay. -/
theorem toks_dealt : (bigSep Finset.univ fun c : Dev nD => (toksAt c : sProp 𝕄)) ⊢ bigSep Finset.univ fun c : Dev nD => toksOf c := by
  unfold toksAt toksOf
  simp only [over_kinds, allOf_sep]
  simp only [bigSep_sep']
  rw [deal (fun c d => tok c none d), deal (fun c s => tok c (some (1, s)) 0), deal (fun c s => tok c (some (3, s)) 0), deal (fun c s => tok c (some (5, s)) 0)]
  exact toks_order _ _ _ _ _ _ _

theorem at_cells (c : Dev nD) :
    (bigSep Finset.univ fun k : Option Own => (atPos ER (kcell (c, k)) 0 ∅ 0 : sProp 𝕄))
      = iprop(pos (F := F) c none ∗ posOf c 0 ∗ posOf c 1 ∗ posOf c 2 ∗ posOf c 3 ∗ posOf c 4 ∗ posOf c 5) := by
  rw [over_option, over_kinds]; rfl

theorem G'_intro (K : Dev nD × Option Own → ℕ) (c : Dev nD) : iprop(records m K ∗ lin c) ⊢ G' m c := by
  unfold G'; iintro H; iexists K; iexact H

/-- A lasting fact may be used in every part. -/
theorem with_lasting {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Option Own => iprop(∃ κ : ℕ, cellInv ER (rd m) κ (kcell (c, k))))
          ∗ (bigSep Finset.univ fun k : Option Own => iprop(atPos ER (kcell (c, k)) 0 ∅ 0 ∗ reached ER (kcell (c, k)) 0)) ∗ toksAt c) : sProp 𝕄)
      ⊢ bigSep Finset.univ (G' m) := by
  rw [bigSep_sep', bigSep_sep', ← bigSep_univ_prod (fun ck : Dev nD × Option Own => iprop(∃ κ : ℕ, cellInv ER (rd m) κ (kcell ck))),
    bigSep_congr (s := Finset.univ) (fun (c : Dev nD) _ => bigSep_sep' Finset.univ (fun k : Option Own => (atPos ER (kcell (c, k)) 0 ∅ 0 : sProp 𝕄)) (fun k => reached ER (kcell (c, k)) 0)),
    bigSep_sep', ← bigSep_univ_prod (fun ck : Dev nD × Option Own => (reached ER (kcell ck) 0 : sProp 𝕄))]
  iintro ⟨HI, ⟨Hat, #HR⟩, Htok⟩
  ihave HK := (BI.bigSep_exists_pi Finset.univ (fun (ck : Dev nD × Option Own) (κ : ℕ) => (cellInv ER (rd m) κ (kcell ck) : sProp 𝕄))) $$ HI
  icases HK with ⟨%K, #HI⟩
  ihave Htk := (toks_dealt (F := F)) $$ Htok
  iapply (with_lasting (R := records m K) fun c _ => G'_intro m K c)
  isplitr
  · unfold records; isplitl; · iexact HI
    iexact HR
  · unfold lin
    rw [bigSep_sep', ← bigSep_congr (s := Finset.univ) (fun (c : Dev nD) _ => at_cells (F := F) c)]
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

theorem tally_cell (c c' : Dev nD) (k k' : Option Own) (n : ℕ) :
    (tallyAt (kcell (c, k)) () n : CellTallies nD τ sig Unit) (kcell (c', k')) () = if c = c' then (if k = k' then n else 0) else 0 := by
  rw [tallyAt_apply]
  by_cases h : c = c' ∧ k = k'
  · obtain ⟨rfl, rfl⟩ := h; rw [if_pos ⟨rfl, rfl⟩, if_pos rfl, if_pos rfl]
  · rw [if_neg (fun h' => h ((Prod.mk.inj (kcell_injective h'.1)).imp Eq.symm Eq.symm))]
    by_cases h1 : c = c'
    · rw [if_pos h1, if_neg (fun h2 => h ⟨h1, h2⟩)]
    · rw [if_neg h1]

theorem owedOver_perm {A : Type} (f : A → CellTallies nD τ sig Unit) {l l' : List A} (h : l.Perm l') : owedOver f l = owedOver f l' := by
  induction h with
  | nil => rfl
  | cons x _ ih => show owedOver f _ + f x = owedOver f _ + f x; rw [ih]
  | swap x y l => show owedOver f l + f x + f y = owedOver f l + f y + f x; exact add_right_comm _ _ _
  | trans _ _ ih1 ih2 => exact ih1.trans ih2

/-- What is owed over all devices to one device's semaphore is what is owed for that device. -/
theorem owed_at (f : Fin 32 → CellTallies nD τ sig Unit) (a : ℕ) (c : Dev nD) (g : GSem nD τ sig)
    (h : ∀ j, f j g () = if j = c then a else 0) : owedOver f (List.finRange 32) g () = a := by
  have hs : ∀ l : List (Fin 32), owedOver f l g () = (l.map fun j => f j g ()).sum := fun l => by
    induction l with
    | nil => rfl
    | cons x l ih => rw [List.map_cons, List.sum_cons, ← ih]; exact Nat.add_comm _ _
  rw [hs, show (List.finRange 32).map (fun j => f j g ()) = (List.finRange 32).map fun j => if j = c then a else 0 from List.map_congr_left fun j _ => h j,
    ← List.ofFn_eq_map, List.sum_ofFn, Finset.sum_ite_eq' Finset.univ c fun _ => a, if_pos (Finset.mem_univ c)]

theorem order_perm : (sendOrder (List.finRange 4)).Perm (List.finRange 32) := by decide +kernel

/-- What device `d` owes a semaphore of device `c`. -/
theorem owed_cell (d c : Dev nD) (k : Option Own) :
    O₀ d (kcell (c, k)) () = (if c = d then 0 else if some (5, d) = k then credOf 5 else 0)
      + ((if some (3, d) = k then credOf 3 else 0) + (if some (1, d) = k then credOf 1 else 0)) + (if none = k then 1 else 0) := by
  have h1 : owedAg d (kcell (c, k)) () = if c = d then 0 else if some (5, d) = k then credOf 5 else 0 :=
    owed_at (dAg d) _ c _ fun j => by
      unfold dAg
      by_cases hj : j = d
      · rw [if_pos hj]
        by_cases hc : j = c
        · rw [if_pos hc, if_pos (hc.symm.trans hj)]; rfl
        · rw [if_neg hc]; rfl
      · rw [if_neg hj, tally_cell]
        by_cases hc : j = c
        · rw [if_pos hc, if_pos hc, if_neg (fun h => hj (hc.trans h))]
        · rw [if_neg hc, if_neg hc]
  have h2 : owedOver (dSend d) (sendOrder (List.finRange 4)) (kcell (c, k)) () = (if some (3, d) = k then credOf 3 else 0) + (if some (1, d) = k then credOf 1 else 0) := by
    rw [owedOver_perm _ order_perm]
    exact owed_at (dSend d) _ c _ fun j => by
      show (tallyAt (kcell (j, some (3, d))) () (credOf 3) : CellTallies nD τ sig Unit) (kcell (c, k)) () + (tallyAt (kcell (j, some (1, d))) () (credOf 1) : CellTallies nD τ sig Unit) (kcell (c, k)) () = _
      rw [tally_cell, tally_cell]
      by_cases hc : j = c
      · rw [if_pos hc, if_pos hc, if_pos hc]
      · rw [if_neg hc, if_neg hc, if_neg hc]
  have h3 : owedOver dBar (List.finRange 32) (kcell (c, k)) () = if none = k then 1 else 0 :=
    owed_at dBar _ c _ fun j => by unfold dBar; rw [tally_cell]
  show owedAg d (kcell (c, k)) () + owedOver (dSend d) (sendOrder (List.finRange 4)) (kcell (c, k)) () + owedOver dBar (List.finRange 32) (kcell (c, k)) () = _
  rw [h1, h2, h3]

/-- What a device's semaphore is owed in all. -/
def dueOf (c : Dev nD) : Option Own → ℕ
  | none => 32
  | some (1, _) => credOf 1
  | some (3, _) => credOf 3
  | some (5, s) => if s = c then 0 else credOf 5
  | some _ => 0

theorem sum_owed (c : Dev nD) (k : Option Own) : ∑ d : Dev nD, O₀ d (kcell (c, k)) () = dueOf c k := by
  rw [Finset.sum_congr rfl fun d _ => owed_cell d c k]
  match k with
  | none => simp [dueOf]
  | some (a, s) =>
    fin_cases a <;> simp [dueOf, Finset.sum_ite_eq]
    · rw [Finset.sum_eq_single s (fun b _ hb => by rw [if_neg hb, ite_self]) (fun h => absurd (Finset.mem_univ s) h), if_pos rfl]
      by_cases h : s = c
      · rw [if_pos h, if_pos h.symm]
      · rw [if_neg h, if_neg (fun h' => h h'.symm)]

theorem launch_cell (c : Dev nD) (k : Option Own) :
    tallyOn (kcell (c, k)) (launchCredit (Pipeline.owing O₀) 0 (kcell (c, k))) = (tallyAt (kcell (c, k)) () (dueOf c k) : CellTallies nD τ sig Unit) := by
  unfold tallyAt; refine congrArg _ (Finsupp.ext fun u => ?_); cases u
  rw [Pipeline.launchCredit_owing, Finsupp.single_eq_same, sum_owed]

theorem cred_oth (c : Dev nD) (j : Fin 32) : (cred (tallyAt (kcell (c, some (5, j))) () (dueOf c (some (5, j)))) : sProp 𝕄) ⊢ oth c j (credK c (5, j)) := by
  unfold oth
  by_cases h : j = c
  · rw [if_pos h]; iintro -; iempintro
  · rw [if_neg h, show dueOf c (some (5, j)) = credOf 5 from if_neg h]

theorem creds_pick (c : Dev nD) (P0 P2 P4 : sProp 𝕄) :
    iprop(cred (tallyAt (kcell (c, none)) () (dueOf c none)) ∗ P0 ∗ allOf (fun j => cred (tallyAt (kcell (c, some (1, j))) () (dueOf c (some (1, j))))) devs ∗ P2
        ∗ allOf (fun j => cred (tallyAt (kcell (c, some (3, j))) () (dueOf c (some (3, j))))) devs ∗ P4
        ∗ allOf (fun j => cred (tallyAt (kcell (c, some (5, j))) () (dueOf c (some (5, j))))) devs)
      ⊢ iprop(cred (tallyAt (kcell (c, none)) () 32) ∗ credsOf c) := by
  unfold credsOf
  iintro ⟨Hb, -, H1, -, H3, -, H5⟩
  isplitl [Hb]; · iexact Hb
  isplitl [H1]; · iexact H1
  isplitl [H3]; · iexact H3
  iapply (allOf_mono (F := F) (P := fun j => cred (tallyAt (kcell (c, some (5, j))) () (dueOf c (some (5, j))))) (Q := fun s => oth c s (credK c (5, s))) (cred_oth c) devs); iexact H5

theorem creds_over (c : Dev nD) :
    (Pipeline.launchCred O₀ c : sProp 𝕄) ⊢ bigSep Finset.univ fun k : Option Own => cred (tallyAt (kcell (c, k)) () (dueOf c k)) :=
  (bigSep_subset (Finset.subset_univ (Finset.univ.map ⟨csem, csem_injective⟩))).trans
    (Entails.of_eq ((bigSep_map (s := Finset.univ) ⟨csem, csem_injective⟩
      (Φ := fun sm => (cred (tallyOn ((c : Thread nD τ), sm) (launchCredit (Pipeline.owing O₀) 0 ((c : Thread nD τ), sm))) : sProp 𝕄))).trans (bigSep_congr fun (k : Option Own) _ => congrArg (fun T => (cred T : sProp 𝕄)) (launch_cell c k))))

theorem creds (c : Dev nD) : (Pipeline.launchCred O₀ c : sProp 𝕄) ⊢ iprop(cred (tallyAt (kcell (c, none)) () 32) ∗ credsOf c) := by
  refine (creds_over c).trans ?_
  rw [over_option, over_kinds]
  exact creds_pick c _ _ _

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem scratch_eq (c : Dev nD) : (Pipeline.scopedRest (Ix := Unit) (Name := ℕ) (U := UU) (Lvl := ℕ) (Val := Elt F) spec0 c : sProp 𝕄) = scratchAny c := scopedRest0_eq c

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scratch_eq, unscopedSems0_eq, Pipeline.ownSems0, over_kinds]
  unfold Φ₁ zerosOf
  iintro ⟨⟨Hb, Hz⟩, Hr⟩
  isplitl [Hb]; · iexact Hb
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t =>
    mayWait c _ (n := 0) (by fin_cases w <;> fin_cases s <;> rfl) (by
      rcases t with ⟨_ | _, ht⟩
      · exact above_all c
      · exact Above.zero 0)

def QC : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 200000 in
/-- From any memory with zero counters every fair run of the kernel on the 32 devices ends, each device's arrays hold what
    the proof data say, and every counter is zero. -/
theorem run_arrays : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun c => main_chain c)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_exchange m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      ihave %h := (tcUnscoped_read c s') $$ [Hu HSI]
      · isplitl [Hu] <;> iassumption
      imodintro
      isplitr; · ipureintro; exact h
      iexact HSI)
    (hQ := fun _ h hs => ⟨fun c w => (h c).1 w, sem_eq_zero hs fun c => (h c).2.2⟩)

/-- The result array after the run. -/
theorem out_array (c : Dev nD) : (dats (F := F) m 0 c).arrAt (5 : Fin 6) cfg0.N = outFull m := by
  have hw : ((cfg0.win 5).blk t0_0).view.read (Elt F) ((dats m 0 c).arrAt 5 cfg0.N) = (dats m 0 c).flushed 5 t0_0 := by
    rw [show cfg0.N = t0_0.val + 1 from rfl, (dats m 0 c).arrAt_succ (5 : Fin 6) t0_0, flush0_5, if_pos rfl]
    exact View.read_write_univ _ _
  have h0 : (win0_5.blk t0_0).view.read (Elt F) ((dats m 0 c).arrAt (5 : Fin 6) cfg0.N) = (dats m 0 c).arrAt (5 : Fin 6) cfg0.N :=
    Memref.read_access_unit_zero (Elt F) main_v1 (funext fun a => by fin_cases a <;> decide) (fun a => by fin_cases a <;> decide) _
  exact h0.symm.trans hw

/-- From any memory with zero counters every fair run of the kernel ends: on every device the result array holds the
    computed contents and the arguments are unchanged, and every counter is zero. -/
theorem run_main : θ_run defs (onTc (τ := τ) (main (F := F))) ⟨m, fun _ => 0, ρ⟩ (fun r => (∀ c : Dev nD,
      r.2.mem ((c.tc : Thread nD τ).loc main_v1) = outFull m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c 5).trans (out_array m c),
    (h.1 c 0).trans ((dats m 0 c).arrAt_in 0 rfl _), (h.1 c 1).trans ((dats m 0 c).arrAt_in 1 rfl _), (h.1 c 2).trans ((dats m 0 c).arrAt_in 2 rfl _),
    (h.1 c 3).trans ((dats m 0 c).arrAt_in 3 rfl _), (h.1 c 4).trans ((dats m 0 c).arrAt_in 4 rfl _)⟩, h.2⟩) (run_arrays m ρ)

end Cert.KernelIdeal.Att

end
-- ==== Proof.Frames.lean ====
/-
The three runs with their arguments unchanged and every semaphore counter back at zero.

The kernel as printed for bit patterns and the kernel as printed for extended reals are one text, so the run of
`Att.run_main`, proved for any float values, serves both: `defs_same` carries it across.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Launch

@[expose] public section

noncomputable section

namespace Cert.Proof

open Idealize.ShloMosaic Idealize.SL.Sem

/-- The reference runs, keeps its arguments, and has no semaphore to leave raised. -/
theorem frame_reference [Cert.ReferenceIdeal.Facts] : Cert.quiescent_ReferenceIdeal := fun m ρ _ =>
  (θ_run Cert.ReferenceIdeal.defs _ _).mono (fun r h => ⟨fun c => (h c).2,
      sem_eq_zero_of_no_sems (by decide) r.2⟩)
    (Cert.ReferenceIdeal.Value.run (F := Ideal) m ρ)

/-- The kernel read at extended reals runs, keeps its arguments and returns every semaphore to zero. -/
theorem frame_ideal [Cert.KernelIdeal.Facts] : Cert.quiescent_KernelIdeal := fun m ρ _ =>
  (θ_run Cert.KernelIdeal.defs _ _).mono (fun _ h => ⟨fun c => (h.1 c).2, h.2⟩)
    (Cert.KernelIdeal.Att.run_main (F := Ideal) m ρ)

section Same

variable [Cert.Kernel.Facts] [Cert.KernelIdeal.Facts]

/-- The two printed bodies are the same program. -/
theorem bodies_same : Cert.Kernel.defs₀ (F := Bits) = Cert.KernelIdeal.defs₀ (F := Bits) := by
  unfold Cert.Kernel.defs₀ Cert.KernelIdeal.defs₀
  congr 1
  funext l a
  match l, a with
  | 0, (t, s) => rfl

/-- So are the two body tables, the pipelines included. -/
theorem defs_same : Cert.Kernel.defs (F := Bits) = Cert.KernelIdeal.defs (F := Bits) := by
  unfold Cert.Kernel.defs Cert.KernelIdeal.defs
  exact congrArg (Pipeline.defs (Cert.KernelIdeal.pcfgs (F := Bits))) bodies_same

/-- The kernel read at bit patterns runs, keeps its arguments and returns every semaphore to zero. -/
theorem frame_kernel : Cert.quiescent_Kernel := fun m ρ _ => by
  have h := (θ_run Cert.KernelIdeal.defs _ _).mono
    (fun _ h => (⟨fun c => (h.1 c).2, h.2⟩ : (∀ c : Dev Cert.KernelIdeal.nD, _) ∧ _))
    (Cert.KernelIdeal.Att.run_main (F := Bits) m ρ)
  rw [defs_same]
  exact h

end Same

end Cert.Proof

end
-- ==== Proof.Softmax.lean ====
module

public import Idealize.ShloMosaic.PureOps.Ideal

@[expose] public section

/-! # Softmax in pieces, over the extended reals

A softmax over keys that lie on several devices: each device sums the exponentials of its own scores less its own largest score; the
sums, rescaled to the largest score of all, add up to the sums over all keys. The scores are real numbers; the values that are averaged
are any extended reals. -/

noncomputable section
namespace Cert.Softmax
open Idealize.ShloMosaic

/-- The pattern of minus infinity is `⊥`. -/
theorem ofBits_negInf : Ideal.ofBits .f32 0xFF800000#32 = ⊥ := by simp [Ideal.ofBits, Ideal.ieee]
/-- The pattern of infinity is `⊤`. -/
theorem ofBits_posInf : Ideal.ofBits .f32 0x7F800000#32 = ⊤ := by simp [Ideal.ofBits, Ideal.ieee]
/-- The scale of the scores is a real number. -/
theorem ofBits_scale : ∃ a : ℝ, Ideal.ofBits .f32 0x3DB504F3#32 = (a : EReal) := by
  simp only [Ideal.ofBits, Ideal.ieee]
  split_ifs <;> first | exact ⟨_, rfl⟩ | simp_all

/-- A sum of real numbers is that sum in the extended reals. -/
theorem coe_total {T : Type} (A : Finset T) (f : T → ℝ) : ((∑ t ∈ A, f t : ℝ) : EReal) = ∑ t ∈ A, (f t : EReal) := by
  classical
  induction A using Finset.induction_on with
  | empty => simp
  | insert a A ha ih => rw [Finset.sum_insert ha, Finset.sum_insert ha, EReal.coe_add, ih]

/-- A nonnegative real factor goes inside a sum of extended reals. -/
theorem total_mul {T : Type} (A : Finset T) (f : T → EReal) {c : ℝ} (hc : 0 ≤ c) :
    (∑ t ∈ A, f t) * (c : EReal) = ∑ t ∈ A, f t * (c : EReal) := by
  classical
  induction A using Finset.induction_on with
  | empty => simp
  | insert a A ha ih =>
    rw [Finset.sum_insert ha, Finset.sum_insert ha,
      EReal.right_distrib_of_nonneg_of_ne_top (EReal.coe_nonneg.mpr hc) (EReal.coe_ne_top c), ih]

/-- The largest of finitely many real numbers is a real number. -/
theorem sup_coe {T : Type} [Fintype T] [Nonempty T] (f : T → ℝ) : ∃ a : ℝ, (Finset.univ.sup fun t => (f t : EReal)) = (a : EReal) := by
  obtain ⟨t, -, h⟩ := Finset.exists_mem_eq_sup Finset.univ Finset.univ_nonempty fun t => (f t : EReal)
  exact ⟨f t, h⟩

/-- The exponential of a difference of real numbers. -/
theorem exp_sub_coe (a b : ℝ) : Ideal.exp ((a : EReal) - (b : EReal)) = (Real.exp (a - b) : EReal) := by
  rw [← EReal.coe_sub, Ideal.exp_coe]

/-- Two rescalings of an exponential, the second from a piece's largest score to the largest of all. -/
theorem exp_rescale (s a b : ℝ) : Real.exp (s - a) * Real.exp (a - b) = Real.exp (s - b) := by
  rw [← Real.exp_add]; congr 1; ring

/-- An extended real that is a real number. -/
def IsReal (x : EReal) : Prop := ∃ a : ℝ, x = (a : EReal)

theorem IsReal.mul {x y : EReal} : IsReal x → IsReal y → IsReal (x * y) := fun ⟨a, ha⟩ ⟨b, hb⟩ => ⟨a * b, by rw [ha, hb, EReal.coe_mul]⟩

theorem IsReal.total {T : Type} (A : Finset T) (f : T → EReal) (h : ∀ t, IsReal (f t)) : IsReal (∑ t ∈ A, f t) := by
  choose a ha using h
  exact ⟨∑ t ∈ A, a t, by rw [coe_total]; exact Finset.sum_congr rfl fun t _ => ha t⟩

/-- An extended real whose absolute value is below infinity is a real number. -/
theorem IsReal.of_abs_lt {x : EReal} (h : max x (-x) < ⊤) : IsReal x := by
  induction x using EReal.rec with
  | bot => simp at h
  | coe a => exact ⟨a, rfl⟩
  | top => simp at h

variable {P T J : Type} [Fintype P] [Fintype T] [Nonempty P] [Nonempty T]

/-- The pieces, merged, are the weighed sum of the values divided by the sum of the weights, value by value: each value times its own
    weight. -/
theorem merge (s : P → T → ℝ) (v : P → T → EReal) (mx : P → EReal) (hmx : ∀ p, mx p = Finset.univ.sup fun t => (s p t : EReal)) :
    Ideal.div (∑ p, (∑ t, Ideal.exp ((s p t : EReal) - mx p) * v p t) * Ideal.exp (mx p - Finset.univ.sup mx))
        (∑ p, (∑ t, Ideal.exp ((s p t : EReal) - mx p)) * Ideal.exp (mx p - Finset.univ.sup mx)) =
      ∑ p, ∑ t, v p t * Ideal.div (Ideal.exp ((s p t : EReal) - Finset.univ.sup mx))
        (∑ p, ∑ t, Ideal.exp ((s p t : EReal) - Finset.univ.sup mx)) := by
  choose a ha using fun p => (hmx p ▸ sup_coe (s p) : ∃ a : ℝ, mx p = (a : EReal))
  obtain ⟨b, hb⟩ : ∃ b : ℝ, Finset.univ.sup mx = (b : EReal) := by
    rw [show mx = fun p => (a p : EReal) from funext ha]; exact sup_coe a
  have hD : 0 < ∑ p, ∑ t, Real.exp (s p t - b) :=
    Finset.sum_pos (fun p _ => Finset.sum_pos (fun t _ => Real.exp_pos _) Finset.univ_nonempty) Finset.univ_nonempty
  rw [hb]
  simp only [ha, exp_sub_coe]
  have hl : (∑ p, (∑ t, (Real.exp (s p t - a p) : EReal)) * (Real.exp (a p - b) : EReal)) =
      ((∑ p, ∑ t, Real.exp (s p t - b) : ℝ) : EReal) := by
    rw [coe_total]
    refine Finset.sum_congr rfl fun p _ => ?_
    rw [← coe_total, ← EReal.coe_mul, Finset.sum_mul]
    exact congrArg _ (Finset.sum_congr rfl fun t _ => exp_rescale _ _ _)
  have hr : (∑ p, ∑ t, (Real.exp (s p t - b) : EReal)) = ((∑ p, ∑ t, Real.exp (s p t - b) : ℝ) : EReal) := by
    rw [coe_total]; exact Finset.sum_congr rfl fun p _ => (coe_total _ _).symm
  rw [hl, hr, Ideal.div_coe hD.ne', total_mul _ _ (by positivity)]
  refine Finset.sum_congr rfl fun p _ => ?_
  rw [total_mul _ _ (Real.exp_pos _).le, total_mul _ _ (by positivity)]
  refine Finset.sum_congr rfl fun t _ => ?_
  rw [Ideal.div_coe hD.ne', ← exp_rescale (s p t) (a p) b, EReal.coe_mul, mul_comm (Real.exp (s p t - a p) : EReal) (v p t)]
  simp only [mul_assoc]

variable [Fintype J]

/-- A sum over all keys of something that is zero at every masked key is the sum over the keys that are not masked. -/
theorem total_keys (key : P → T → J) (inj : Function.Injective fun x : P × T => key x.1 x.2) (keep : J → Prop)
    (hk : ∀ j, keep j ↔ ∃ p t, key p t = j) (f : J → EReal) (hf : ∀ j, ¬ keep j → f j = 0) :
    ∑ j, f j = ∑ p, ∑ t, f (key p t) := by
  rw [← Fintype.sum_prod_type' (f := fun p t => f (key p t))]
  refine (Fintype.sum_of_injective (fun x : P × T => key x.1 x.2) inj _ _ (fun j hj => hf j fun hkj => hj ?_) fun x => rfl).symm
  obtain ⟨p, t, h⟩ := (hk j).mp hkj
  exact ⟨(p, t), h⟩

/-- The largest score of all keys, a masked key's score being `⊥`, is the largest over the keys that are not masked. -/
theorem sup_keys (key : P → T → J) (keep : J → Prop) (hk : ∀ j, keep j ↔ ∃ p t, key p t = j) (f : J → EReal)
    (hf : ∀ j, ¬ keep j → f j = ⊥) :
    Finset.univ.sup f = Finset.univ.sup fun p => Finset.univ.sup fun t => f (key p t) := by
  refine le_antisymm (Finset.sup_le fun j _ => ?_) (Finset.sup_le fun p _ => Finset.sup_le fun t _ => Finset.le_sup (Finset.mem_univ _))
  by_cases h : keep j
  · obtain ⟨p, t, rfl⟩ := (hk j).mp h
    exact (Finset.le_sup (f := fun t => f (key p t)) (Finset.mem_univ t)).trans
      (Finset.le_sup (f := fun p => Finset.univ.sup fun t => f (key p t)) (Finset.mem_univ p))
  · rw [hf j h]; exact bot_le

/-- A softmax with a mask over all keys, in pieces: what each piece holds, merged, is the average of the values by the softmax of all
    the keys' scores, a masked key's score being `⊥`. -/
theorem masked (key : P → T → J) (inj : Function.Injective fun x : P × T => key x.1 x.2) (keep : J → Prop)
    (hk : ∀ j, keep j ↔ ∃ p t, key p t = j) (s : P → T → ℝ) (f : J → EReal) (hf : ∀ j, ¬ keep j → f j = ⊥)
    (hs : ∀ p t, f (key p t) = (s p t : EReal)) (v : J → EReal) (mx : P → EReal) (hmx : ∀ p, mx p = Finset.univ.sup fun t => (s p t : EReal)) :
    Ideal.div (∑ p, (∑ t, Ideal.exp ((s p t : EReal) - mx p) * v (key p t)) * Ideal.exp (mx p - Finset.univ.sup mx))
        (∑ p, (∑ t, Ideal.exp ((s p t : EReal) - mx p)) * Ideal.exp (mx p - Finset.univ.sup mx)) =
      ∑ j, v j * Ideal.div (Ideal.exp (f j - Finset.univ.sup f)) (∑ j, Ideal.exp (f j - Finset.univ.sup f)) := by
  have hsup : Finset.univ.sup f = Finset.univ.sup mx := by
    rw [sup_keys key keep hk f hf]
    exact congrArg _ (funext fun p => (by rw [hmx p]; exact congrArg _ (funext fun t => hs p t)))
  obtain ⟨b, hb⟩ : ∃ b : ℝ, Finset.univ.sup mx = (b : EReal) := by
    choose a ha using fun p => (hmx p ▸ sup_coe (s p) : ∃ a : ℝ, mx p = (a : EReal))
    rw [show mx = fun p => (a p : EReal) from funext ha]; exact sup_coe a
  have h0 : ∀ j, ¬ keep j → Ideal.exp (f j - Finset.univ.sup f) = 0 := fun j h => by
    rw [hf j h, EReal.bot_sub]; rfl
  have hW : ∑ j, Ideal.exp (f j - Finset.univ.sup f) = ∑ p, ∑ t, Ideal.exp ((s p t : EReal) - Finset.univ.sup mx) := by
    rw [total_keys key inj keep hk _ h0, hsup]; simp only [hs]
  have hD : 0 < ∑ p, ∑ t, Real.exp (s p t - b) :=
    Finset.sum_pos (fun p _ => Finset.sum_pos (fun t _ => Real.exp_pos _) Finset.univ_nonempty) Finset.univ_nonempty
  have hr : (∑ p, ∑ t, Ideal.exp ((s p t : EReal) - Finset.univ.sup mx)) = ((∑ p, ∑ t, Real.exp (s p t - b) : ℝ) : EReal) := by
    rw [hb, coe_total]; exact Finset.sum_congr rfl fun p _ => by simp only [exp_sub_coe]; exact (coe_total _ _).symm
  rw [merge s (fun p t => v (key p t)) mx hmx, hW, total_keys key inj keep hk _ fun j h => by
    rw [h0 j h, hr, Ideal.div_coe hD.ne', zero_mul, mul_zero]]
  rw [hsup]; simp only [hs]

end Cert.Softmax
end
end
-- ==== Proof.KernelValue.lean ====
module

public import proofs.«01_k».proof.Proof.Data
public import proofs.«01_k».proof.Proof.Softmax
public import Idealize.ShloMosaic.Lib.Pointwise

@[expose] public section
set_option maxRecDepth 100000

/-! # The kernel's result, element by element

Over the extended reals the kernel's result at row `i` and column `o` is a product of row `i`'s averages with the output weights; an
average is the merge of what the 32 devices hold for row `i`: each its largest score, its sum of exponentials and its weighed values. -/

noncomputable section
namespace Cert.KernelIdeal.Att
open Idealize.ShloMosaic Idealize.ShloMosaic.TcCoe Idealize.SL.Sem
open Cert.KernelIdeal Cert.KernelIdeal.Gen

/-- The row at place `t` among the rows of class `c`. -/
def clsRow (c : Fin 4) (t : Fin 256) : Fin 1024 := ⟨64 * c.val + 256 * (t.val / 64) + t.val % 64, by omega⟩
/-- The place of a row among the rows of its class. -/
def clsPlace (i : Fin 1024) : Fin 256 := ⟨64 * (rowBlk i.val).val + (rowIn i.val).val, by omega⟩

theorem clsRow_place (i : Fin 1024) : clsRow (rowCls i.val) (clsPlace i) = i := by
  refine Fin.ext ?_
  show 64 * (i.val / 64 % 4) + 256 * ((64 * (i.val / 256 % 4) + i.val % 64) / 64) + (64 * (i.val / 256 % 4) + i.val % 64) % 64 = i.val
  omega

/-! ## The steps of one device -/

theorem clsRows_at (q : FVec Ideal S1024x1024 .f32) (c : Fin 4) (t : Fin 256) (k : Fin 1024) :
    clsRows q c (ix2 t k) = q (ix2 (clsRow c t) k) := by
  pointwise [clsRows]
  split_ifs <;> (congr 2; exact Fin.ext (show _ = 64 * c.val + 256 * (t.val / 64) + t.val % 64 by simp only []; omega))

theorem clsKeys_at (q : FVec Ideal S1024x8x128 .f32) (c : Fin 4) (t : Fin 256) (h : Fin 8) (d : Fin 128) :
    clsKeys q c (ix3 t h d) = q (ix3 (clsRow c t) h d) := by
  pointwise [clsKeys]
  split_ifs <;> (congr 2; exact Fin.ext (show _ = 64 * c.val + 256 * (t.val / 64) + t.val % 64 by simp only []; omega))

theorem headKeys_at (v : FVec Ideal S256x8x128 .f32) (h : Fin 8) (t : Fin 256) (d : Fin 128) :
    headKeys v h (ix2 t d) = v (ix3 t h d) := by
  pointwise [headKeys]

theorem scores_at (q : FVec Ideal S256x1024 .f32) (k : FVec Ideal S256x8x128 .f32) (h : Fin 8) (i j : Fin 256) :
    scores q k h (ix2 i j) =
      (∑ d : Fin 128, q (ix2 i ⟨128 * h.val + d.val, by omega⟩) * k (ix3 j h d)) * Ideal.ofBits .f32 0x3DB504F3#32 := by
  pointwise [scores, headKeys]

theorem rowMax_at (s : FVec Ideal S256x256 .f32) (i : Fin 256) :
    rowMax s (ix1 i) = Finset.univ.sup fun t : Fin 256 => s (ix2 i t) := by
  pointwise [rowMax]
  rw [Softmax.ofBits_negInf]
  rfl

theorem rowSum_at (s : FVec Ideal S256x256 .f32) (i : Fin 256) :
    rowSum s (ix1 i) = ∑ t : Fin 256, Ideal.exp (s (ix2 i t) - rowMax s (ix1 i)) := by
  pointwise [rowSum, rowExp]

theorem rowVal_at (s : FVec Ideal S256x256 .f32) (v : FVec Ideal S256x128 .f32) (i : Fin 256) (d : Fin 128) :
    rowVal s v (ix2 i d) = ∑ t : Fin 256, Ideal.exp (s (ix2 i t) - rowMax s (ix1 i)) * v (ix2 t d) := by
  pointwise [rowVal, rowExp]

theorem cols8_at (f : Fin 8 → FVec Ideal S256 .f32) (i : Fin 256) (h : Fin 8) : cols8 f (ix2 i h) = f h (ix1 i) := by
  pointwise [cols8]
  fin_cases h <;> rfl

theorem nPiece_at (q : FVec Ideal S1024x1024 .f32) (k v : FVec Ideal S1024x8x128 .f32) (c : Fin 4) (h : Fin 8) (g : Fin 4) (r : Fin 64) (d : Fin 128) :
    nPiece q k v c h g (ix2 r d) = rowVal (clsScores q k c h) (headKeys (clsKeys v c) h) (ix2 (⟨64 * g.val + r.val, by omega⟩ : Fin 256) d) := by
  pointwise [nPiece]

theorem mlPiece_at (q : FVec Ideal S1024x1024 .f32) (k : FVec Ideal S1024x8x128 .f32) (c g : Fin 4) (b : Bool) (r : Fin 64) (h : Fin 8) :
    mlPiece q k c g b (ix2 r h) =
      (bif b then rowSum (clsScores q k c h) else rowMax (clsScores q k c h)) (ix1 (⟨64 * g.val + r.val, by omega⟩ : Fin 256)) := by
  pointwise [mlPiece, cols8_at]

theorem proj_at (x : Vec Ideal S1x1024x1024 .f32) (w : Vec Ideal S1024x1024 .f32) (i k : Fin 1024) :
    k0_pay2 (F := Ideal) (k0_pay1 (F := Ideal) x) w (ix2 i k) = ∑ j : Fin 1024, x (ix3 0 i j) * w (ix2 j k) := by
  pointwise [k0_pay2, k0_pay1]
theorem keys_at (x : Vec Ideal S1x1024x8x128 .f32) (r : Fin 1024) (h : Fin 8) (k : Fin 128) :
    k0_pay3 (F := Ideal) x (ix3 r h k) = x (ix4 0 r h k) := by
  pointwise [k0_pay3]
theorem vals_at (x : Vec Ideal S1x1024x8x128 .f32) (r : Fin 1024) (h : Fin 8) (k : Fin 128) :
    k0_pay4 (F := Ideal) x (ix3 r h k) = x (ix4 0 r h k) := by
  pointwise [k0_pay4]

/-! ## The merge -/

theorem merge_at (n : Vec Ideal S32x32x1024 .bf16) (mx l : Vec Ideal S32x32x8 .f32) (r : Fin 32) (k : Fin 1024) :
    k0_pay377 (F := Ideal) n mx l (ix2 r k) =
      Ideal.div (∑ p : Fin 32, n (ix3 p r k) * Ideal.exp (mx (ix3 p r ⟨k.val / 128, by omega⟩) - Finset.univ.sup fun p : Fin 32 => mx (ix3 p r ⟨k.val / 128, by omega⟩)))
        (∑ p : Fin 32, l (ix3 p r ⟨k.val / 128, by omega⟩) * Ideal.exp (mx (ix3 p r ⟨k.val / 128, by omega⟩) - Finset.univ.sup fun p : Fin 32 => mx (ix3 p r ⟨k.val / 128, by omega⟩))) := by
  pointwise [k0_pay377]
  rw [Softmax.ofBits_negInf]
  rfl

theorem weigh_at (n : FVec Ideal S32x1024 .f32) (w : Vec Ideal S1024x1024 .f32) (r : Fin 32) (o : Fin 1024) :
    k0_pay378 (F := Ideal) n w (ix2 r o) = ∑ k : Fin 1024, n (ix2 r k) * w (ix2 k o) := by
  pointwise [k0_pay378]
theorem write_at (a : Vec Ideal S1024x1024 .bf16) (r k : Fin 1024) : k0_pay379 (F := Ideal) a (ix3 0 r k) = a (ix2 r k) := by
  pointwise [k0_pay379]

/-! ## What a device holds for a row -/

/-- The score of query row `i` against row `j` of one device's keys, in head `h`. -/
def scoreOf (x : Vec Ideal S1x1024x1024 .f32) (wq : Vec Ideal S1024x1024 .f32) (k : Vec Ideal S1x1024x8x128 .f32)
    (i : Fin 1024) (h : Fin 8) (j : Fin 1024) : EReal :=
  (∑ d : Fin 128, (∑ a : Fin 1024, x (ix3 0 i a) * wq (ix2 a ⟨128 * h.val + d.val, by omega⟩)) * k (ix4 0 j h d)) * Ideal.ofBits .f32 0x3DB504F3#32

variable (m : (ℓ : Loc nD τ sig) → Buf (Elt Ideal) ℓ)

/-- The score of query row `i` against the key at place `t` of row `i`'s class on device `p`, in head `h`. -/
def sAt (p : Dev nD) (i : Fin 1024) (h : Fin 8) (t : Fin 256) : EReal :=
  scoreOf (iblk m p 0 t0_0) (iblk m p 1 t0_0) (iblk m p 2 t0_0) i h (clsRow (rowCls i.val) t)
/-- The largest of them. -/
def mAt (p : Dev nD) (i : Fin 1024) (h : Fin 8) : EReal := Finset.univ.sup (sAt m p i h)

theorem clsScores_at (p : Dev nD) (i : Fin 1024) (h : Fin 8) (t : Fin 256) :
    clsScores (qOf m p) (kOf m p) (rowCls i.val) h (ix2 (clsPlace i) t) = sAt m p i h t := by
  show scores _ _ h (ix2 (clsPlace i) t) = _
  rw [scores_at]
  simp only [clsRows_at, clsKeys_at, clsRow_place]
  unfold sAt scoreOf qOf kOf
  simp only [proj_at, keys_at]

theorem rowMax_cls (p : Dev nD) (i : Fin 1024) (h : Fin 8) :
    rowMax (clsScores (qOf m p) (kOf m p) (rowCls i.val) h) (ix1 (clsPlace i)) = mAt m p i h := by
  rw [rowMax_at]
  exact congrArg _ (funext fun t => clsScores_at m p i h t)

theorem rowSum_cls (p : Dev nD) (i : Fin 1024) (h : Fin 8) :
    rowSum (clsScores (qOf m p) (kOf m p) (rowCls i.val) h) (ix1 (clsPlace i)) = ∑ t : Fin 256, Ideal.exp (sAt m p i h t - mAt m p i h) := by
  rw [rowSum_at, rowMax_cls]
  exact Finset.sum_congr rfl fun t _ => by rw [clsScores_at]

theorem nFull_at (p : Dev nD) (i k : Fin 1024) :
    nFull m p (ix2 i k) = ∑ t : Fin 256, Ideal.exp (sAt m p i ⟨k.val / 128, by omega⟩ t - mAt m p i ⟨k.val / 128, by omega⟩) *
      (iblk m p 3 t0_0 : Vec Ideal S1x1024x8x128 .f32) (ix4 0 (clsRow (rowCls i.val) t) ⟨k.val / 128, by omega⟩ ⟨k.val % 128, by omega⟩) := by
  show nPiece _ _ _ (rowCls i.val) ⟨k.val / 128, _⟩ (rowBlk i.val) (ix2 (rowIn i.val) ⟨k.val % 128, _⟩) = _
  rw [nPiece_at]
  show rowVal _ _ (ix2 (clsPlace i) _) = _
  rw [rowVal_at, rowMax_cls]
  refine Finset.sum_congr rfl fun t _ => ?_
  rw [clsScores_at, headKeys_at, clsKeys_at]
  unfold vOf
  rw [vals_at]

theorem mlFull_at (p : Dev nD) (i : Fin 1024) (c : Fin 16) :
    mlFull m p (ix2 i c) = mlPiece (qOf m p) (kOf m p) (rowCls i.val) (rowBlk i.val) (decide (8 ≤ c.val)) (ix2 (rowIn i.val) ⟨c.val % 8, by omega⟩) := rfl

theorem mFull_at (p : Dev nD) (i : Fin 1024) (h : Fin 8) (c : Fin 16) (hc : c.val = h.val) : mlFull m p (ix2 i c) = mAt m p i h := by
  have e : (⟨c.val % 8, by omega⟩ : Fin 8) = h := Fin.ext (by show c.val % 8 = h.val; omega)
  have e' : decide (8 ≤ c.val) = false := decide_eq_false (by omega)
  rw [mlFull_at, mlPiece_at, e, e']
  exact rowMax_cls m p i h

theorem lFull_at (p : Dev nD) (i : Fin 1024) (h : Fin 8) (c : Fin 16) (hc : c.val = 8 + h.val) :
    mlFull m p (ix2 i c) = ∑ t : Fin 256, Ideal.exp (sAt m p i h t - mAt m p i h) := by
  have e : (⟨c.val % 8, by omega⟩ : Fin 8) = h := Fin.ext (by show c.val % 8 = h.val; omega)
  have e' : decide (8 ≤ c.val) = true := decide_eq_true (by omega)
  rw [mlFull_at, mlPiece_at, e, e']
  rw [cond_true]
  exact rowSum_cls m p i h

/-! ## The result -/

/-- The average of column `k % 128` of head `k / 128`'s values for query row `i`, as the kernel merges it. -/
def ctxAt (i k : Fin 1024) : EReal :=
  have h : Fin 8 := ⟨k.val / 128, by omega⟩
  Ideal.div
    (∑ p : Fin 32, (∑ t : Fin 256, Ideal.exp (sAt m p i h t - mAt m p i h) *
        (iblk m p 3 t0_0 : Vec Ideal S1x1024x8x128 .f32) (ix4 0 (clsRow (rowCls i.val) t) h ⟨k.val % 128, by omega⟩)) *
      Ideal.exp (mAt m p i h - Finset.univ.sup fun p : Fin 32 => mAt m p i h))
    (∑ p : Fin 32, (∑ t : Fin 256, Ideal.exp (sAt m p i h t - mAt m p i h)) *
      Ideal.exp (mAt m p i h - Finset.univ.sup fun p : Fin 32 => mAt m p i h))

/-- A read of eight columns of the received maxima and sums, from column `o` on. -/
theorem mlRead (d : Dev nD) (o : ℕ) (inb : ∀ a, (![0, 0, o] : Fin 3 → Nat) a + S32x32x8.size a ≤ S32x32x16.size a) (p r : Fin 32) (h : Fin 8)
    (c : Fin 16) (hc : c.val = o + h.val) :
    (Memref.whole cc0_scratch3).view.readAt (Elt Ideal) (Rect.unit (s := S32x32x16) ![0, 0, o] S32x32x8.size inb).toLoadRect (rsMl m d) (ix3 p r h) =
      mlFull m p (ix2 (myRow d r.val r.isLt) c) := by
  rw [View.readAt_apply]
  have e : (Rect.unit (s := S32x32x16) ![0, 0, o] S32x32x8.size inb).toLoadRect.idx (ix3 p r h) = ix3 (n0 := 32) (n1 := 32) (n2 := 16) p r c := by
    funext a
    match a with
    | ⟨0, _⟩ => exact Fin.ext (show 0 + 1 * p.val = p.val by omega)
    | ⟨1, _⟩ => exact Fin.ext (show 0 + 1 * r.val = r.val by omega)
    | ⟨2, _⟩ => exact Fin.ext (show o + 1 * h.val = c.val by omega)
  rw [e]
  rfl

theorem merge_of (i k : Fin 1024) (r : Fin 32) (n : Vec Ideal S32x32x1024 .bf16) (mx l : Vec Ideal S32x32x8 .f32)
    (hn : ∀ p, n (ix3 p r k) = nFull m p (ix2 i k)) (hm : ∀ (p : Fin 32) h, mx (ix3 p r h) = mAt m p i h)
    (hl : ∀ (p : Fin 32) h, l (ix3 p r h) = ∑ t : Fin 256, Ideal.exp (sAt m p i h t - mAt m p i h)) :
    k0_pay377 (F := Ideal) n mx l (ix2 r k) = ctxAt m i k := by
  rw [merge_at]
  simp only [hn, hm, hl, nFull_at]
  rfl

theorem chunk_at (d : Dev nD) (r : Fin 32) (o : Fin 1024) :
    chunk m d (ix2 r o) = ∑ k : Fin 1024, ctxAt m (myRow d r.val r.isLt) k * (iblk m d 4 t0_0 : Vec Ideal S1024x1024 .f32) (ix2 k o) := by
  unfold chunk
  rw [weigh_at]
  refine Finset.sum_congr rfl fun k _ => ?_
  rw [merge_of m (myRow d r.val r.isLt) k r _ _ _ (fun p => rfl)
    (fun p h => (mlRead m d 0 _ p r h ⟨h.val, by omega⟩ (Nat.zero_add _).symm).trans (mFull_at m p _ h _ rfl))
    (fun p h => (mlRead m d 8 _ p r h ⟨8 + h.val, by omega⟩ rfl).trans (lFull_at m p _ h _ rfl))]

theorem outFull_at (i o : Fin 1024) :
    outFull m (ix3 0 i o) = ∑ k : Fin 1024, ctxAt m i k * (iblk m ⟨i.val / 32, by have : nD = 32 := rfl; omega⟩ 4 t0_0 : Vec Ideal S1024x1024 .f32) (ix2 k o) := by
  have e : myRow (⟨i.val / 32, by have : nD = 32 := rfl; omega⟩ : Dev nD) (i.val % 32) (by omega) = i := Fin.ext (by show 32 * (i.val / 32) + i.val % 32 = i.val; omega)
  unfold outFull
  rw [write_at]
  refine (chunk_at m (⟨i.val / 32, _⟩ : Dev nD) ⟨i.val % 32, _⟩ o).trans ?_
  exact Finset.sum_congr rfl fun k _ => by rw [e]

end Cert.KernelIdeal.Att
end
-- ==== Proof.ReferenceValue.lean ====
module

public import proofs.«01_k».proof.Proof.Gen.ReferenceIdeal.Run
public import proofs.«01_k».proof.Proof.Softmax
public import Idealize.ShloMosaic.Lib.Pointwise
public import Idealize.ShloMosaic.Lib.IdealHost

@[expose] public section
set_option maxRecDepth 100000

/-! # The reference's result, element by element

Over the extended reals the reference's result at row `i` and column `o` is a product of row `i`'s averages with the output weights; an
average weighs the values of all keys by the softmax of the masked scores. The mask keeps a key `j` exactly when the block numbers of `j`
and of `i`, blocks being of 64 rows, have the same remainder by four. -/

noncomputable section
namespace Cert.ReferenceIdeal.Att
open Idealize.ShloMosaic Idealize.ShloMosaic.TcCoe Idealize.SL.Sem
open Cert.ReferenceIdeal Cert.ReferenceIdeal.Gen

/-! ## Words -/

/-- The floor division of words by 64, as the reference computes it. -/
def quot64 (s : Shape) (hb : S_.BroadcastsInDim s (![] : Fin 0 → Fin s.rank)) (x : IVec s 32) : IVec s 32 :=
  select (andi (cmpi .ne (signi x) (broadcastInDim s ![] hb (signi (constantI S_ 32 64#32))))
      (cmpi .ne (Host.remsi x (broadcastInDim s ![] hb (constantI S_ 32 64#32))) (broadcastInDim s ![] hb (constantI S_ 32 0#32))))
    (subi (Host.divsi x (broadcastInDim s ![] hb (constantI S_ 32 64#32))) (broadcastInDim s ![] hb (constantI S_ 32 1#32)))
    (Host.divsi x (broadcastInDim s ![] hb (constantI S_ 32 64#32)))

/-- The divisor four, as the reference guards it against zero. -/
def four : IVec S_ 32 := select (cmpi .eq (constantI S_ 32 4#32) (constantI S_ 32 0#32)) (constantI S_ 32 1#32) (constantI S_ 32 4#32)

/-- The remainder of words by four, as the reference computes it. -/
def rem4 (s : Shape) (hb : S_.BroadcastsInDim s (![] : Fin 0 → Fin s.rank)) (x : IVec s 32) : IVec s 32 :=
  select (andi (cmpi .ne (cmpi .slt (Host.remsi x (broadcastInDim s ![] hb four)) (broadcastInDim s ![] hb (constantI S_ 32 0#32)))
        (broadcastInDim s ![] hb (cmpi .slt four (constantI S_ 32 0#32))))
      (cmpi .ne (Host.remsi x (broadcastInDim s ![] hb four)) (broadcastInDim s ![] hb (constantI S_ 32 0#32))))
    (addi (Host.remsi x (broadcastInDim s ![] hb four)) (broadcastInDim s ![] hb four)) (Host.remsi x (broadcastInDim s ![] hb four))

/-- The sign of one word. -/
def signWord (x : BitVec 32) : BitVec 32 := if x = 0 then 0 else if x.msb then -1 else 1
/-- The floor division of one word by 64. -/
def quotWord (x : BitVec 32) : BitVec 32 :=
  Scalar.select (IntOp.andi (IntOp.cmpi .ne (signWord x) (signWord 64#32)) (IntOp.cmpi .ne (IntOp.remsi .host x 64#32) 0#32))
    (IntOp.subi (IntOp.divsi .host x 64#32) 1#32) (IntOp.divsi .host x 64#32)
/-- The remainder of one word by four. -/
def remWord (x : BitVec 32) : BitVec 32 :=
  Scalar.select (IntOp.andi (IntOp.cmpi .ne (IntOp.cmpi .slt (IntOp.remsi .host x 4#32) 0#32) (IntOp.cmpi .slt 4#32 0#32)) (IntOp.cmpi .ne (IntOp.remsi .host x 4#32) 0#32))
    (IntOp.addi (IntOp.remsi .host x 4#32) 4#32) (IntOp.remsi .host x 4#32)

theorem quot64_at (s : Shape) (hb : S_.BroadcastsInDim s (![] : Fin 0 → Fin s.rank)) (x : IVec s 32) (i : s.Idx) :
    quot64 s hb x i = quotWord (x i) := rfl
theorem rem4_at (s : Shape) (hb : S_.BroadcastsInDim s (![] : Fin 0 → Fin s.rank)) (x : IVec s 32) (i : s.Idx) :
    rem4 s hb x i = remWord (x i) := rfl

theorem remWord_of : ∀ n : Fin 512, remWord (BitVec.ofNat 32 n.val) = BitVec.ofNat 32 (n.val % 4) := by decide +kernel
theorem quotWord_of : ∀ n : Fin 32768, quotWord (BitVec.ofNat 32 n.val) = BitVec.ofNat 32 (n.val / 64) := by decide +kernel

variable {F : FTy → Type} [FloatOps F]

/-! ## The reference's steps -/

/-- The block of each query row. -/
def qBlk : IVec S1024x1 32 := broadcastInDim S1024x1 ![0] bcast_S1024_S1024x1_0 (quot64 S1024 bcast_S_S1024 (iotaInDim S1024 32 0))
/-- The block of each key. -/
def kBlk : IVec S1x32768 32 := broadcastInDim S1x32768 ![1] bcast_S32768_S1x32768_1 (quot64 S32768 bcast_S_S32768 (iotaInDim S32768 32 0))
/-- The mask: a query row keeps a key of its own block, or of a block with the same remainder by four. -/
def mask : IVec S1024x32768 1 :=
  ori (cmpi .eq (broadcastInDim S1024x32768 ![0, 1] bcast_S1024x1_S1024x32768_0_1 qBlk) (broadcastInDim S1024x32768 ![0, 1] bcast_S1x32768_S1024x32768_0_1 kBlk))
    (cmpi .eq (broadcastInDim S1024x32768 ![0, 1] bcast_S1x32768_S1024x32768_0_1 (rem4 S1x32768 bcast_S_S1x32768 kBlk))
      (broadcastInDim S1024x32768 ![0, 1] bcast_S1024x1_S1024x32768_0_1 (rem4 S1024x1 bcast_S_S1024x1 qBlk)))
/-- The mask as a box of one batch and one head. -/
def maskRow : IVec S1x1x1024x32768 1 := broadcastInDim S1x1x1024x32768 ![2, 3] bcast_S1024x32768_S1x1x1024x32768_2_3 mask
/-- Whether a query row keeps any key. -/
def keepRow : IVec S1x1x1024x1 1 := broadcastInDim S1x1x1024x1 ![2] bcast_S1024_S1x1x1024x1_2
  (Host.reduce IntOp.ori mask (constantI S_ 1 0#1) reducesTo_S1024x32768_S1024_d1 h_S_)
/-- The queries, head by head. -/
def query (x : FVec F S1x1024x1024 .f32) (wq : FVec F S1024x1024 .f32) : FVec F S1x1024x8x128 .f32 :=
  shapeCast S1x1024x8x128 (Host.dotGeneral dot_S1x1024x1024_S1024x1024_S1x1024x1024_2_0_01_1_n_n none x wq) shapeCasts_S1x1024x1024_S1x1024x8x128
/-- The scaled scores, a masked key's being minus infinity. -/
def sc (q : FVec F S1x1024x8x128 .f32) (k : FVec F S1x32768x8x128 .f32) : FVec F S1x8x1024x32768 .f32 :=
  select (broadcastInDim S1x8x1024x32768 ![0, 1, 2, 3] bcast_S1x1x1024x32768_S1x8x1024x32768_0_1_2_3 maskRow)
    (mulf (Host.dotGeneral dot_S1x1024x8x128_S1x32768x8x128_S1x8x1024x32768_3_3_1_1_02_02 none q k)
      (broadcastInDim S1x8x1024x32768 ![] bcast_S_S1x8x1024x32768 (constant S_ .f32 0x3DB504F3#32)))
    (broadcastInDim S1x8x1024x32768 ![] bcast_S_S1x8x1024x32768 (constant S_ .f32 0xFF800000#32))
/-- The largest score of each head and query row. -/
def big (s : FVec F S1x8x1024x32768 .f32) : FVec F S1x8x1024 .f32 :=
  Host.reduce FloatOps.maximumf s (constant S_ .f32 0xFF800000#32) reducesTo_S1x8x1024x32768_S1x8x1024_d3 h_S_
/-- The exponentials of the scores less their row's largest. -/
def wts (s : FVec F S1x8x1024x32768 .f32) : FVec F S1x8x1024x32768 .f32 :=
  Host.exp (subf s (broadcastInDim S1x8x1024x32768 ![0, 1, 2, 3] bcast_S1x8x1024x1_S1x8x1024x32768_0_1_2_3
    (broadcastInDim S1x8x1024x1 ![0, 1, 2] bcast_S1x8x1024_S1x8x1024x1_0_1_2 (big s))))
/-- Their sum over the keys. -/
def tot (w : FVec F S1x8x1024x32768 .f32) : FVec F S1x8x1024 .f32 :=
  Host.reduceAdd w (constant S_ .f32 0x00000000#32) reducesTo_S1x8x1024x32768_S1x8x1024_d3 h_S_
/-- What the exponentials are divided by. -/
def den (w : FVec F S1x8x1024x32768 .f32) : FVec F S1x8x1024x1 .f32 :=
  select (broadcastInDim S1x8x1024x1 ![0, 1, 2, 3] bcast_S1x1x1024x1_S1x8x1024x1_0_1_2_3 keepRow)
    (broadcastInDim S1x8x1024x1 ![0, 1, 2] bcast_S1x8x1024_S1x8x1024x1_0_1_2 (tot w))
    (broadcastInDim S1x8x1024x1 ![] bcast_S_S1x8x1024x1 (constant S_ .f32 0x3F800000#32))
/-- The same, along the keys. -/
def denRow (w : FVec F S1x8x1024x32768 .f32) : FVec F S1x8x1024x32768 .f32 :=
  broadcastInDim S1x8x1024x32768 ![0, 1, 2, 3] bcast_S1x8x1024x1_S1x8x1024x32768_0_1_2_3 (den w)
/-- Whether a query row keeps any key, along the heads and the keys. -/
def keepAll : IVec S1x8x1024x32768 1 := broadcastInDim S1x8x1024x32768 ![0, 1, 2, 3] bcast_S1x1x1024x1_S1x8x1024x32768_0_1_2_3 keepRow
/-- Zero everywhere. -/
def zeros : FVec F S1x8x1024x32768 .f32 := broadcastInDim S1x8x1024x32768 ![] bcast_S_S1x8x1024x32768 (constant S_ .f32 0x00000000#32)
/-- The weights of the keys. -/
def wn (w : FVec F S1x8x1024x32768 .f32) : FVec F S1x8x1024x32768 .f32 :=
  select keepAll (Host.divf w (denRow w)) zeros
/-- The values averaged by the weights, the heads side by side. -/
def ctx (v : FVec F S1x32768x8x128 .f32) (w : FVec F S1x8x1024x32768 .f32) : FVec F S1x1024x1024 .f32 :=
  shapeCast S1x1024x1024 (transpose S1x1024x8x128 [0, 3, 1, 2]
    (Host.dotGeneral dot_S1x32768x8x128_S1x8x1024x32768_S1x8x128x1024_1_3_3_2_02_01 none v (wn w)) transposes_S1x8x128x1024_S1x1024x8x128_0_3_1_2)
    shapeCasts_S1x1024x8x128_S1x1024x1024
/-- The reference's result as a function of its arguments. -/
def out (x : FVec F S1x1024x1024 .f32) (wq : FVec F S1024x1024 .f32) (k v : FVec F S1x32768x8x128 .f32) (wo : FVec F S1024x1024 .f32) : FVec F S1x1024x1024 .f32 :=
  Host.dotGeneral dot_S1x1024x1024_S1024x1024_S1x1024x1024_2_0_01_1_n_n none (ctx v (wts (sc (query x wq) k))) wo

/-- The result of the reference is that function of its arguments. -/
theorem res_eq (m : (ℓ : Loc nD τ sig) → Buf (Elt F) ℓ) (c : Dev nD) :
    Value.res_main_v39 m c = out (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_main_v39
  rfl

/-! ## The steps at an index -/

theorem qBlk_at (i : Fin 1024) : qBlk (ix2 i 0) = BitVec.ofNat 32 (i.val / 64) := by
  pointwise [qBlk]
  exact (quot64_at _ _ _ _).trans (quotWord_of ⟨i.val, by omega⟩)
theorem kBlk_at (j : Fin 32768) : kBlk (ix2 0 j) = BitVec.ofNat 32 (j.val / 64) := by
  pointwise [kBlk]
  exact (quot64_at _ _ _ _).trans (quotWord_of j)

theorem eq_words {a b : ℕ} (ha : a < 512) (hb : b < 512) : IntOp.cmpi .eq (BitVec.ofNat 32 a) (BitVec.ofNat 32 b) = 1#1 ↔ a = b := by
  rw [IntOp.cmpi_eq, ← BitVec.toNat_inj, BitVec.toNat_ofNat, BitVec.toNat_ofNat]
  omega

theorem mask_at (i : Fin 1024) (j : Fin 32768) : mask (ix2 i j) = 1#1 ↔ j.val / 64 % 4 = i.val / 64 % 4 := by
  pointwise [mask]
  rw [rem4_at, rem4_at, qBlk_at, kBlk_at, remWord_of ⟨j.val / 64, by omega⟩, remWord_of ⟨i.val / 64, by omega⟩, IntOp.ori_eq_one,
    eq_words (by omega) (by omega), eq_words (by show _ % 4 < 512; omega) (by show _ % 4 < 512; omega)]
  show i.val / 64 = j.val / 64 ∨ j.val / 64 % 4 = i.val / 64 % 4 ↔ _
  omega

/-- A disjunction of words over a finite set is one as soon as one of them is. -/
theorem any_ori {A : Type} (S : Finset A) (f : A → BitVec 1) (a : A) (ha : a ∈ S) (h : f a = 1#1) : S.fold IntOp.ori 0#1 f = 1#1 := by
  classical
  rw [← Finset.insert_erase ha, Finset.fold_insert (Finset.notMem_erase a S), h]
  exact IntOp.ori_eq_one.mpr (.inl rfl)

theorem keepRow_at (i : Fin 1024) : keepRow (ix4 0 0 i 0) = 1#1 := by
  pointwise [keepRow]
  exact any_ori _ _ (⟨i.val, by omega⟩ : Fin 32768) (Finset.mem_univ _) ((mask_at i _).mpr rfl)

theorem query_at (x : FVec Ideal S1x1024x1024 .f32) (wq : FVec Ideal S1024x1024 .f32) (i : Fin 1024) (h : Fin 8) (d : Fin 128) :
    query x wq (ix4 0 i h d) = ∑ a : Fin 1024, x (ix3 0 i a) * wq (ix2 a ⟨128 * h.val + d.val, by omega⟩) := by
  pointwise [query]
  have e : (⟨h.val * 128 + d.val, by omega⟩ : Fin 1024) = ⟨128 * h.val + d.val, by omega⟩ := Fin.ext (by show h.val * 128 + d.val = 128 * h.val + d.val; omega)
  simp only [e]

/-- The score of query row `i` against key `j` in head `h`, a masked key's being `⊥`. -/
def scoreAt (x : FVec Ideal S1x1024x1024 .f32) (wq : FVec Ideal S1024x1024 .f32) (k : FVec Ideal S1x32768x8x128 .f32)
    (i : Fin 1024) (h : Fin 8) (j : Fin 32768) : EReal :=
  if j.val / 64 % 4 = i.val / 64 % 4 then
    (∑ d : Fin 128, (∑ a : Fin 1024, x (ix3 0 i a) * wq (ix2 a ⟨128 * h.val + d.val, by omega⟩)) * k (ix4 0 j h d)) * Ideal.ofBits .f32 0x3DB504F3#32
  else ⊥

theorem sc_at (x : FVec Ideal S1x1024x1024 .f32) (wq : FVec Ideal S1024x1024 .f32) (k : FVec Ideal S1x32768x8x128 .f32) (i : Fin 1024) (h : Fin 8) (j : Fin 32768) :
    sc (query x wq) k (ix4 0 h i j) = scoreAt x wq k i h j := by
  pointwise [sc, maskRow]
  simp only [query_at, Softmax.ofBits_negInf]
  unfold scoreAt
  by_cases hm : j.val / 64 % 4 = i.val / 64 % 4
  · rw [(mask_at i j).mpr hm, if_pos hm, ValueIdx.select_one]
  · rw [ValueIdx.eq_zero_of_ne_one fun h1 => hm ((mask_at i j).mp h1), if_neg hm, ValueIdx.select_zero]

theorem big_at (x : FVec Ideal S1x8x1024x32768 .f32) (i : Fin 1024) (h : Fin 8) :
    big x (ix3 0 h i) = Finset.univ.sup fun j : Fin 32768 => x (ix4 0 h i j) := by
  pointwise [big]
  rw [Softmax.ofBits_negInf]
  rfl

theorem wts_at (x : FVec Ideal S1x8x1024x32768 .f32) (i : Fin 1024) (h : Fin 8) (j : Fin 32768) :
    wts x (ix4 0 h i j) = Ideal.exp (x (ix4 0 h i j) - big x (ix3 0 h i)) := by
  pointwise [wts]

theorem tot_at (x : FVec Ideal S1x8x1024x32768 .f32) (i : Fin 1024) (h : Fin 8) :
    tot x (ix3 0 h i) = ∑ j : Fin 32768, x (ix4 0 h i j) := by
  pointwise [tot]

theorem den_at (x : FVec Ideal S1x8x1024x32768 .f32) (i : Fin 1024) (h : Fin 8) :
    den x (ix4 0 h i 0) = tot x (ix3 0 h i) := by
  pointwise [den]
  rw [keepRow_at, ValueIdx.select_one]

theorem denRow_at (x : FVec Ideal S1x8x1024x32768 .f32) (i : Fin 1024) (h : Fin 8) (j : Fin 32768) :
    denRow x (ix4 0 h i j) = tot x (ix3 0 h i) := by
  rw [← den_at]
  pointwise [denRow]

theorem keepAll_at (i : Fin 1024) (h : Fin 8) (j : Fin 32768) : keepAll (ix4 0 h i j) = 1#1 := by
  rw [← keepRow_at i]
  pointwise [keepAll]

/-- A quotient of arrays, picked by a word that is one. -/
theorem pick_at {s : Shape} (c : IVec s 1) (a b z : FVec Ideal s .f32) (i : s.Idx) (hc : c i = 1#1) :
    select c (Host.divf a b) z i = Ideal.div (a i) (b i) := by
  show Scalar.select (c i) (Ideal.div (a i) (b i)) (z i) = _
  rw [hc, ValueIdx.select_one]

theorem wn_at (x : FVec Ideal S1x8x1024x32768 .f32) (i : Fin 1024) (h : Fin 8) (j : Fin 32768) :
    wn x (ix4 0 h i j) = Ideal.div (x (ix4 0 h i j)) (tot x (ix3 0 h i)) := by
  unfold wn
  rw [pick_at _ _ _ _ _ (keepAll_at i h j), denRow_at]

theorem ctx_at (v : FVec Ideal S1x32768x8x128 .f32) (w : FVec Ideal S1x8x1024x32768 .f32) (i k : Fin 1024) :
    ctx v w (ix3 0 i k) = ∑ j : Fin 32768, v (ix4 0 j ⟨k.val / 128, by omega⟩ ⟨k.val % 128, by omega⟩) * wn w (ix4 0 ⟨k.val / 128, by omega⟩ i j) := by
  pointwise [ctx]

/-- The average of column `k % 128` of head `k / 128`'s values for query row `i`. -/
def ctxAt (x : FVec Ideal S1x1024x1024 .f32) (wq : FVec Ideal S1024x1024 .f32) (k v : FVec Ideal S1x32768x8x128 .f32) (i a : Fin 1024) : EReal :=
  have f : Fin 32768 → EReal := scoreAt x wq k i ⟨a.val / 128, by omega⟩
  ∑ j : Fin 32768, v (ix4 0 j ⟨a.val / 128, by omega⟩ ⟨a.val % 128, by omega⟩) *
    Ideal.div (Ideal.exp (f j - Finset.univ.sup f)) (∑ j : Fin 32768, Ideal.exp (f j - Finset.univ.sup f))

theorem out_at (x : FVec Ideal S1x1024x1024 .f32) (wq : FVec Ideal S1024x1024 .f32) (k v : FVec Ideal S1x32768x8x128 .f32) (wo : FVec Ideal S1024x1024 .f32) (i o : Fin 1024) :
    out x wq k v wo (ix3 0 i o) = ∑ a : Fin 1024, ctxAt x wq k v i a * wo (ix2 a o) := by
  pointwise [out]
  refine Finset.sum_congr rfl fun a _ => congrArg (· * wo (ix2 a o)) ?_
  rw [ctx_at]
  simp only [wn_at, tot_at, wts_at, big_at, sc_at]
  rfl

end Cert.ReferenceIdeal.Att
end
-- ==== Proof.Value.lean ====
module

public import proofs.«01_k».proof.Defs
public import proofs.«01_k».proof.Proof.Gen.ReferenceIdeal.Run
public import proofs.«01_k».proof.Proof.Launch
public import proofs.«01_k».proof.Proof.KernelValue
public import proofs.«01_k».proof.Proof.ReferenceValue
public import Idealize.ShloMosaic.Lib.Layout

@[expose] public section
set_option maxRecDepth 100000

/-! # The two results are equal

From arguments of which every device holds its part, and with finite queries' factors and keys, the kernel's result and the reference's
are the same function: row `i`'s keys of its class, device by device, are exactly the keys that the mask keeps for row `i`. -/

noncomputable section
namespace Cert.Value
open Idealize.ShloMosaic Idealize.ShloMosaic.TcCoe Idealize.SL.Sem
open Cert.KernelIdeal Cert.KernelIdeal.Gen Cert.KernelIdeal.Att

/-! ## The kernel's blocks are its arguments -/

variable (m : (ℓ : Loc nD τ sig) → Buf (Elt Ideal) ℓ)

theorem iblk0 (c : Dev nD) : iblk m c 0 t0_0 = m ((c.tc : Thread nD τ).loc main_arg0) := by
  show (win0_0.blk t0_0).view.read (Elt Ideal) (m ((c.tc : Thread nD τ).loc main_arg0)) = _
  exact Memref.read_access_unit_zero (Elt Ideal) main_arg0 (funext fun a => by fin_cases a <;> decide) (fun a => by fin_cases a <;> decide) _
theorem iblk1 (c : Dev nD) : iblk m c 1 t0_0 = m ((c.tc : Thread nD τ).loc main_arg1) := by
  show (win0_1.blk t0_0).view.read (Elt Ideal) (m ((c.tc : Thread nD τ).loc main_arg1)) = _
  exact Memref.read_access_unit_zero (Elt Ideal) main_arg1 (funext fun a => by fin_cases a <;> decide) (fun a => by fin_cases a <;> decide) _
theorem iblk2 (c : Dev nD) : iblk m c 2 t0_0 = m ((c.tc : Thread nD τ).loc main_arg2) := by
  show (win0_2.blk t0_0).view.read (Elt Ideal) (m ((c.tc : Thread nD τ).loc main_arg2)) = _
  exact Memref.read_access_unit_zero (Elt Ideal) main_arg2 (funext fun a => by fin_cases a <;> decide) (fun a => by fin_cases a <;> decide) _
theorem iblk3 (c : Dev nD) : iblk m c 3 t0_0 = m ((c.tc : Thread nD τ).loc main_arg3) := by
  show (win0_3.blk t0_0).view.read (Elt Ideal) (m ((c.tc : Thread nD τ).loc main_arg3)) = _
  exact Memref.read_access_unit_zero (Elt Ideal) main_arg3 (funext fun a => by fin_cases a <;> decide) (fun a => by fin_cases a <;> decide) _
theorem iblk4 (c : Dev nD) : iblk m c 4 t0_0 = m ((c.tc : Thread nD τ).loc main_arg4) := by
  show (win0_4.blk t0_0).view.read (Elt Ideal) (m ((c.tc : Thread nD τ).loc main_arg4)) = _
  exact Memref.read_access_unit_zero (Elt Ideal) main_arg4 (funext fun a => by fin_cases a <;> decide) (fun a => by fin_cases a <;> decide) _

/-! ## The keys of a class -/

/-- The number, among all keys, of the key at place `t` of class `c` on device `p`. -/
def keyOf (c : Fin 4) (p : Fin 32) (t : Fin 256) : Fin 32768 := ⟨1024 * p.val + (clsRow c t).val, by have := (clsRow c t).isLt; omega⟩

theorem keyOf_val (c : Fin 4) (p : Fin 32) (t : Fin 256) : (keyOf c p t).val = 1024 * p.val + (64 * c.val + 256 * (t.val / 64) + t.val % 64) := rfl

theorem keyOf_injective (c : Fin 4) : Function.Injective fun x : Fin 32 × Fin 256 => keyOf c x.1 x.2 := by
  rintro ⟨p, t⟩ ⟨p', t'⟩ h
  have h : (keyOf c p t).val = (keyOf c p' t').val := congrArg Fin.val h
  rw [keyOf_val, keyOf_val] at h
  exact Prod.ext (Fin.ext (by show p.val = p'.val; omega)) (Fin.ext (by show t.val = t'.val; omega))

/-- The keys of the class are those whose block number has the class as its remainder by four. -/
theorem keyOf_range (c : Fin 4) (j : Fin 32768) : j.val / 64 % 4 = c.val ↔ ∃ p t, keyOf c p t = j := by
  constructor
  · intro h
    refine ⟨⟨j.val / 1024, by omega⟩, ⟨64 * (j.val / 256 % 4) + j.val % 64, by omega⟩, Fin.ext ?_⟩
    rw [keyOf_val]
    show 1024 * (j.val / 1024) + (64 * c.val + 256 * ((64 * (j.val / 256 % 4) + j.val % 64) / 64) + (64 * (j.val / 256 % 4) + j.val % 64) % 64) = j.val
    omega
  · rintro ⟨p, t, rfl⟩
    rw [keyOf_val]
    omega

/-- A device's block of the keys or of the values, at a row of the class: the whole array at that key. -/
theorem block_at (K : FVec Ideal ⟨4, ![1, 32768, 8, 128]⟩ .f32) (c : Fin 4) (p : Fin 32) (t : Fin 256) (h : Fin 8) (d : Fin 128) :
    Layout.block ⟨4, ![1, 1024, 8, 128]⟩ ⟨4, ![1, 32768, 8, 128]⟩ 1 32 p K (by decide) (ix4 0 (clsRow c t) h d) = K (ix4 0 (keyOf c p t) h d) := by
  rw [Layout.block_apply]
  congr 1
  funext a
  match a with
  | ⟨0, _⟩ => rfl
  | ⟨1, _⟩ => exact Fin.ext (show p.val * 1024 + (clsRow c t).val = 1024 * p.val + (clsRow c t).val by omega)
  | ⟨2, _⟩ => rfl
  | ⟨3, _⟩ => rfl

/-! ## The equation -/

section Equation

variable (x : FVec Ideal S1x1024x1024 .f32) (wq wo : FVec Ideal S1024x1024 .f32) (K V : FVec Ideal ⟨4, ![1, 32768, 8, 128]⟩ .f32)

/-- A row's score of a kept key: the device's score of the row at its place. -/
theorem score_eq (h0 : ∀ c : Dev nD, m ((c.tc : Thread nD τ).loc main_arg0) = x) (h1 : ∀ c : Dev nD, m ((c.tc : Thread nD τ).loc main_arg1) = wq)
    (h2 : ∀ c : Dev nD, m ((c.tc : Thread nD τ).loc main_arg2) = Layout.block ⟨4, ![1, 1024, 8, 128]⟩ ⟨4, ![1, 32768, 8, 128]⟩ 1 32 c K (by decide))
    (i : Fin 1024) (h : Fin 8) (p : Fin 32) (t : Fin 256) :
    sAt m p i h t = ReferenceIdeal.Att.scoreAt x wq K i h (keyOf (rowCls i.val) p t) := by
  unfold sAt scoreOf ReferenceIdeal.Att.scoreAt
  have hc : (keyOf (rowCls i.val) p t).val / 64 % 4 = i.val / 64 % 4 := (keyOf_range (rowCls i.val) _).mpr ⟨p, t, rfl⟩
  rw [if_pos hc, iblk0, iblk1, iblk2, h0, h1, h2]
  simp only [block_at]

/-- The averages are the same. -/
theorem ctx_eq (h0 : ∀ c : Dev nD, m ((c.tc : Thread nD τ).loc main_arg0) = x) (h1 : ∀ c : Dev nD, m ((c.tc : Thread nD τ).loc main_arg1) = wq)
    (h2 : ∀ c : Dev nD, m ((c.tc : Thread nD τ).loc main_arg2) = Layout.block ⟨4, ![1, 1024, 8, 128]⟩ ⟨4, ![1, 32768, 8, 128]⟩ 1 32 c K (by decide))
    (h3 : ∀ c : Dev nD, m ((c.tc : Thread nD τ).loc main_arg3) = Layout.block ⟨4, ![1, 1024, 8, 128]⟩ ⟨4, ![1, 32768, 8, 128]⟩ 1 32 c V (by decide))
    (hr : ∀ (p : Fin 32) (i : Fin 1024) (h : Fin 8) (t : Fin 256), Softmax.IsReal (sAt m p i h t)) (i a : Fin 1024) :
    ctxAt m i a = ReferenceIdeal.Att.ctxAt x wq K V i a := by
  choose s hs using fun (p : Fin 32) (t : Fin 256) => hr p i ⟨a.val / 128, by omega⟩ t
  have hv : ∀ (p : Fin 32) (t : Fin 256), (iblk m p 3 t0_0 : Vec Ideal S1x1024x8x128 .f32) (ix4 0 (clsRow (rowCls i.val) t) ⟨a.val / 128, by omega⟩ ⟨a.val % 128, by omega⟩) =
      V (ix4 0 (keyOf (rowCls i.val) p t) ⟨a.val / 128, by omega⟩ ⟨a.val % 128, by omega⟩) := fun p t => by rw [iblk3, h3, block_at]
  have key := Softmax.masked (keyOf (rowCls i.val)) (keyOf_injective _) (fun j => j.val / 64 % 4 = i.val / 64 % 4) (keyOf_range (rowCls i.val)) s
    (ReferenceIdeal.Att.scoreAt x wq K i ⟨a.val / 128, by omega⟩) (fun j hj => if_neg hj)
    (fun p t => (score_eq m x wq K h0 h1 h2 i _ p t).symm.trans (hs p t))
    (fun j => V (ix4 0 j ⟨a.val / 128, by omega⟩ ⟨a.val % 128, by omega⟩)) (fun p => mAt m p i ⟨a.val / 128, by omega⟩)
    (fun p => congrArg _ (funext fun t => hs p t))
  unfold ctxAt ReferenceIdeal.Att.ctxAt
  simp only [hv, hs]
  exact key

/-- The results are the same. -/
theorem out_eq (h0 : ∀ c : Dev nD, m ((c.tc : Thread nD τ).loc main_arg0) = x) (h1 : ∀ c : Dev nD, m ((c.tc : Thread nD τ).loc main_arg1) = wq)
    (h2 : ∀ c : Dev nD, m ((c.tc : Thread nD τ).loc main_arg2) = Layout.block ⟨4, ![1, 1024, 8, 128]⟩ ⟨4, ![1, 32768, 8, 128]⟩ 1 32 c K (by decide))
    (h3 : ∀ c : Dev nD, m ((c.tc : Thread nD τ).loc main_arg3) = Layout.block ⟨4, ![1, 1024, 8, 128]⟩ ⟨4, ![1, 32768, 8, 128]⟩ 1 32 c V (by decide))
    (h4 : ∀ c : Dev nD, m ((c.tc : Thread nD τ).loc main_arg4) = wo)
    (hr : ∀ (p : Fin 32) (i : Fin 1024) (h : Fin 8) (t : Fin 256), Softmax.IsReal (sAt m p i h t)) :
    outFull m = ReferenceIdeal.Att.out x wq K V wo := by
  funext j
  have e : j = ix3 (n0 := 1) (n1 := 1024) (n2 := 1024) 0 (j 1) (j 2) := by
    funext b
    match b with
    | ⟨0, _⟩ => exact Fin.ext (show (j 0).val = 0 by have : (j 0).val < 1 := (j 0).isLt; omega)
    | ⟨1, _⟩ => rfl
    | ⟨2, _⟩ => rfl
  rw [e]
  have term : ∀ (i o a : Fin 1024), ctxAt m i a * (iblk m ⟨i.val / 32, by have : nD = 32 := rfl; omega⟩ 4 t0_0 : Vec Ideal S1024x1024 .f32) (ix2 a o) =
      ReferenceIdeal.Att.ctxAt x wq K V i a * wo (ix2 a o) := fun i o a => by rw [ctx_eq m x wq K V h0 h1 h2 h3 hr, iblk4, h4]
  have total : ∀ i o : Fin 1024, ∑ a : Fin 1024, ctxAt m i a * (iblk m ⟨i.val / 32, by have : nD = 32 := rfl; omega⟩ 4 t0_0 : Vec Ideal S1024x1024 .f32) (ix2 a o) =
      ∑ a : Fin 1024, ReferenceIdeal.Att.ctxAt x wq K V i a * wo (ix2 a o) := fun i o => Finset.sum_congr rfl fun a _ => term i o a
  exact (outFull_at m (j 1) (j 2)).trans ((total (j 1) (j 2)).trans (ReferenceIdeal.Att.out_at x wq K V wo (j 1) (j 2)).symm)

end Equation

/-! ## The precondition -/

/-- What the precondition's comparison says of one number. -/
theorem real_of_lt {s : Shape} (a b : FVec Ideal s .f32) (i : s.Idx) (hb : b i = ⊤) (h : cmpf .olt (Host.absf a) b i = 1#1) : Softmax.IsReal (a i) := by
  refine Softmax.IsReal.of_abs_lt ?_
  have h : BitVec.ofBool (decide (max (a i) (-(a i)) < b i)) = 1#1 := h
  rw [hb] at h
  by_contra hn
  rw [decide_eq_false hn] at h
  exact absurd h (by decide)

variable [hPre : Cert.Pre_finite_scores_KernelIdeal.Facts]

/-- Under the precondition every score of the kernel is a real number. -/
theorem real_scores (h : Cert.Pre_KernelIdeal_finite_scores_KernelIdeal m) (p : Fin 32) (i : Fin 1024) (hd : Fin 8) (t : Fin 256) :
    Softmax.IsReal (sAt m p i hd t) := by
  obtain ⟨hx, hw, hk⟩ := h p
  have top : ∀ {s : Shape} (hb : (⟨0, ![]⟩ : Shape).BroadcastsInDim s (![] : Fin 0 → Fin s.rank)) (j : s.Idx),
      broadcastInDim s ![] hb (constant (F := Ideal) ⟨0, ![]⟩ .f32 0x7F800000#32) j = ⊤ := fun hb j => Softmax.ofBits_posInf
  unfold sAt scoreOf
  rw [iblk0, iblk1, iblk2]
  refine Softmax.IsReal.mul (Softmax.IsReal.total _ _ fun d => Softmax.IsReal.mul (Softmax.IsReal.total _ _ fun a => Softmax.IsReal.mul ?_ ?_) ?_) Softmax.ofBits_scale
  · exact real_of_lt _ _ _ (top _ _) (congrFun hx _)
  · exact real_of_lt _ _ _ (top _ _) (congrFun hw _)
  · exact real_of_lt _ _ _ (top _ _) (congrFun hk _)

/-! ## The claim -/

/-- The kernel on every device and the reference return the same array, and both keep their arguments. -/
theorem same_result : Cert.algebraic_KernelIdeal_ReferenceIdeal_pre_finite_scores_KernelIdeal := fun m g m' g' hp ha => by
  have e : outFull m = ReferenceIdeal.Value.res_main_v39 m' 0 :=
    (out_eq m _ _ _ _ _ (fun c => (ha c).1) (fun c => (ha c).2.1) (fun c => (ha c).2.2.1) (fun c => (ha c).2.2.2.1) (fun c => (ha c).2.2.2.2)
      fun p i h t => real_scores m hp p i h t).trans (ReferenceIdeal.Att.res_eq m' 0).symm
  exact ⟨ReferenceIdeal.Value.res_main_v39 m' 0,
    (θ_run defs _ _).mono (fun _ h c => ⟨((h.1 c).1).trans e, (h.1 c).2⟩) (run_main (F := Ideal) m g),
    (θ_run ReferenceIdeal.defs _ _).mono (fun _ h => h 0) (ReferenceIdeal.Value.run (F := Ideal) m' g')⟩

end Cert.Value
end
-- ==== Proof.lean ====
/-
`Cert.Claim`: the frames (Proof/Frames.lean), the idealization, and the equality of the two results (Proof/Value.lean).
The frames hold of any arguments, so with the precondition too.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Everything this certificate claims. -/
theorem claim : Cert.Claim :=
  letI := Cert.Kernel.Gen.facts; letI := Cert.KernelIdeal.Gen.facts; letI := Cert.ReferenceIdeal.Gen.facts
  letI := Cert.Pre_finite_scores_KernelIdeal.Gen.facts; letI := Cert.Pre_finite_scores_ReferenceIdeal.Gen.facts
  ⟨Cert.Kernel.Gen.facts, Cert.KernelIdeal.Gen.facts, Cert.ReferenceIdeal.Gen.facts,
    Cert.Pre_finite_scores_KernelIdeal.Gen.facts, Cert.Pre_finite_scores_ReferenceIdeal.Gen.facts,
    frame_kernel, frame_ideal, fun m g _ => frame_ideal m g trivial, frame_reference, fun m g _ => frame_reference m g trivial,
    trivial, Cert.Value.same_result⟩

end Cert.Proof

end
